-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v84_0)) (v1 : (c : Dev Cert.KernelIdeal.nD) → Buf (Elt Ideal) ((c.tc : Thread Cert.KernelIdeal.nD Cert.KernelIdeal.τ).loc Cert.KernelIdeal.main_v84_1)) (v2 : (c : Dev Cert.KernelIdeal.nD) → Buf (Elt Ideal) ((c.tc : Thread Cert.KernelIdeal.nD Cert.KernelIdeal.τ).loc Cert.KernelIdeal.main_v84_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84_0) = v0 c
          ∧ r.2.mem ((c.tc : Thread Cert.KernelIdeal.nD Cert.KernelIdeal.τ).loc Cert.KernelIdeal.main_v84_1) = v1 c
          ∧ r.2.mem ((c.tc : Thread Cert.KernelIdeal.nD Cert.KernelIdeal.τ).loc Cert.KernelIdeal.main_v84_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v1) = v1 c
          ∧ r.2.mem ((c.tc : Thread Cert.Reference3Ideal.nD Cert.Reference3Ideal.τ).loc Cert.Reference3Ideal.main_v4) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_v41) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v39) = v0 c
          ∧ r.2.mem ((c.tc : Thread Cert.Reference11Ideal.nD Cert.Reference11Ideal.τ).loc Cert.Reference11Ideal.main_v40) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4x2048x16x64 : Shape := ⟨4, ![4, 2048, 16, 64]⟩
abbrev S4x2048x16 : Shape := ⟨3, ![4, 2048, 16]⟩
abbrev S_ : Shape := ⟨0, ![]⟩

class Facts : Prop where
  bcast_S_S4x2048x16x64 : S_.BroadcastsInDim S4x2048x16x64 (![] : Fin 0 → Fin S4x2048x16x64.rank)
  bcast_S_S4x2048x16 : S_.BroadcastsInDim S4x2048x16 (![] : Fin 0 → Fin S4x2048x16.rank)

variable [Facts]

def fn {F : FTy → Type} [FloatOps F] (main_arg0 : FVec F S4x2048x16x64 .f32) (main_arg1 : FVec F S4x2048x16x64 .f32) (main_arg2 : FVec F S4x2048x16x64 .f32) (main_arg3 : FVec F S4x2048x16x64 .f32) (main_arg4 : FVec F S4x2048x16 .f32) : IVec S4x2048x16x64 1 × IVec S4x2048x16x64 1 × IVec S4x2048x16x64 1 × IVec S4x2048x16x64 1 × IVec S4x2048x16 1 :=
  let main_v0 : FVec F S4x2048x16x64 .f32 := Host.absf main_arg0
  let main_cst : FVec F S_ .f32 := constant S_ .f32 0x7F800000#32
  let main_v1 : FVec F S4x2048x16x64 .f32 := broadcastInDim S4x2048x16x64 ![] bcast_S_S4x2048x16x64 main_cst
  let main_v2 : IVec S4x2048x16x64 1 := cmpf .olt main_v0 main_v1
  let main_v3 : FVec F S4x2048x16x64 .f32 := Host.absf main_arg1
  let main_cst_0 : FVec F S_ .f32 := constant S_ .f32 0x7F800000#32
  let main_v4 : FVec F S4x2048x16x64 .f32 := broadcastInDim S4x2048x16x64 ![] bcast_S_S4x2048x16x64 main_cst_0
  let main_v5 : IVec S4x2048x16x64 1 := cmpf .olt main_v3 main_v4
  let main_v6 : FVec F S4x2048x16x64 .f32 := Host.absf main_arg2
  let main_cst_1 : FVec F S_ .f32 := constant S_ .f32 0x7F800000#32
  let main_v7 : FVec F S4x2048x16x64 .f32 := broadcastInDim S4x2048x16x64 ![] bcast_S_S4x2048x16x64 main_cst_1
  let main_v8 : IVec S4x2048x16x64 1 := cmpf .olt main_v6 main_v7
  let main_v9 : FVec F S4x2048x16x64 .f32 := Host.absf main_arg3
  let main_cst_2 : FVec F S_ .f32 := constant S_ .f32 0x7F800000#32
  let main_v10 : FVec F S4x2048x16x64 .f32 := broadcastInDim S4x2048x16x64 ![] bcast_S_S4x2048x16x64 main_cst_2
  let main_v11 : IVec S4x2048x16x64 1 := cmpf .olt main_v9 main_v10
  let main_v12 : FVec F S4x2048x16 .f32 := Host.absf main_arg4
  let main_cst_3 : FVec F S_ .f32 := constant S_ .f32 0x7F800000#32
  let main_v13 : FVec F S4x2048x16 .f32 := broadcastInDim S4x2048x16 ![] bcast_S_S4x2048x16 main_cst_3
  let main_v14 : IVec S4x2048x16 1 := cmpf .olt main_v12 main_v13
  (main_v2, main_v5, main_v8, main_v11, main_v14)
-- ==== Pre_finite2.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S2816x1024 .f32) (main_arg3 : FVec F S8192x1024 .f32) : IVec S8192x2816 1 × IVec S8192x2816 1 × IVec S2816x1024 1 × IVec S8192x1024 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S8192x2816 .f32 := Host.absf main_arg1
  let main_cst_0 : FVec F S_ .f32 := constant S_ .f32 0x7F800000#32
  let main_v4 : FVec F S8192x2816 .f32 := broadcastInDim S8192x2816 ![] bcast_S_S8192x2816 main_cst_0
  let main_v5 : IVec S8192x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Kernel.lean ====
abbrev S4x2048x16x64 : Shape := ⟨4, ![4, 2048, 16, 64]⟩
abbrev S4x2048x16 : Shape := ⟨3, ![4, 2048, 16]⟩
abbrev S4x16x128x16x64 : Shape := ⟨5, ![4, 16, 128, 16, 64]⟩
abbrev S4x1x128x16x64 : Shape := ⟨5, ![4, 1, 128, 16, 64]⟩
abbrev S_ : Shape := ⟨0, ![]⟩
abbrev S4x15x128x16x64 : Shape := ⟨5, ![4, 15, 128, 16, 64]⟩
abbrev S4x16x256x16x64 : Shape := ⟨5, ![4, 16, 256, 16, 64]⟩
abbrev S4x16x16x128x256 : Shape := ⟨5, ![4, 16, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x128x256 : Shape := ⟨5, ![1, 16, 1, 128, 256]⟩
abbrev S4x16x16x128 : Shape := ⟨4, ![4, 16, 16, 128]⟩
abbrev S4x16x16x128x1 : Shape := ⟨5, ![4, 16, 16, 128, 1]⟩
abbrev S4x16x16x64x128 : Shape := ⟨5, ![4, 16, 16, 64, 128]⟩
abbrev S4x16x128x16 : Shape := ⟨4, ![4, 16, 128, 16]⟩
abbrev S2048x4x16x64 : Shape := ⟨4, ![2048, 4, 16, 64]⟩
abbrev S2048x4096 : Shape := ⟨2, ![2048, 4096]⟩
abbrev S2048x4x16 : Shape := ⟨3, ![2048, 4, 16]⟩
abbrev S2048x4x128 : Shape := ⟨3, ![2048, 4, 128]⟩
abbrev S2048x512 : Shape := ⟨2, ![2048, 512]⟩
abbrev S128x1024 : Shape := ⟨2, ![128, 1024]⟩
abbrev S128x128 : Shape := ⟨2, ![128, 128]⟩
abbrev S256x128 : Shape := ⟨2, ![256, 128]⟩
abbrev S256x1024 : Shape := ⟨2, ![256, 1024]⟩
abbrev S256x256 : Shape := ⟨2, ![256, 256]⟩
abbrev S1x128 : Shape := ⟨2, ![1, 128]⟩

abbrev nBuf : Space → Nat
  | .hbm => 111
  | .vmem => 24
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S4x2048x16x64, .f32⟩
  | .hbm, ⟨4, _⟩ => ⟨S4x2048x16, .f32⟩
  | .hbm, ⟨5, _⟩ => ⟨S4x16x128x16x64, .f32⟩
  | .hbm, ⟨6, _⟩ => ⟨S4x16x128x16x64, .f32⟩
  | .hbm, ⟨7, _⟩ => ⟨S4x1x128x16x64, .f32⟩
  | .hbm, ⟨8, _⟩ => ⟨S_, .f32⟩
  | .hbm, ⟨9, _⟩ => ⟨S4x1x128x16x64, .f32⟩
  | .hbm, ⟨10, _⟩ => ⟨S4x15x128x16x64, .f32⟩
  | .hbm, ⟨11, _⟩ => ⟨S4x16x128x16x64, .f32⟩
  | .hbm, ⟨12, _⟩ => ⟨S4x16x256x16x64, .f32⟩
  | .hbm, ⟨13, _⟩ => ⟨S4x16x128x16x64, .f32⟩
  | .hbm, ⟨14, _⟩ => ⟨S4x1x128x16x64, .f32⟩
  | .hbm, ⟨15, _⟩ => ⟨S_, .f32⟩
  | .hbm, ⟨16, _⟩ => ⟨S4x1x128x16x64, .f32⟩
  | .hbm, ⟨17, _⟩ => ⟨S4x15x128x16x64, .f32⟩
  | .hbm, ⟨18, _⟩ => ⟨S4x16x128x16x64, .f32⟩
  | .hbm, ⟨19, _⟩ => ⟨S4x16x256x16x64, .f32⟩
  | .hbm, ⟨20, _⟩ => ⟨S4x16x16x128x256, .f32⟩
  | .hbm, ⟨21, _⟩ => ⟨S_, .f32⟩
  | .hbm, ⟨22, _⟩ => ⟨S4x16x16x128x256, .f32⟩
  | .hbm, ⟨23, _⟩ => ⟨S4x16x16x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S16, .i32⟩
  | .hbm, ⟨42, _⟩ => ⟨S16x1x1, .i32⟩
  | .hbm, ⟨43, _⟩ => ⟨S_, .i32⟩
  | .hbm, ⟨44, _⟩ => ⟨S16x1x1, .i32⟩
  | .hbm, ⟨45, _⟩ => ⟨S16x1x1, .i1⟩
  | .hbm, ⟨46, _⟩ => ⟨S_, .i32⟩
  | .hbm, ⟨47, _⟩ => ⟨S1x256, .i32⟩
  | .hbm, ⟨48, _⟩ => ⟨S1x256, .i1⟩
  | .hbm, ⟨49, _⟩ => ⟨S1x1x256, .i1⟩
  | .hbm, ⟨50, _⟩ => ⟨S16x1x256, .i1⟩
  | .hbm, ⟨51, _⟩ => ⟨S16x1x256, .i1⟩
  | .hbm, ⟨52, _⟩ => ⟨S16x1x256, .i1⟩
  | .hbm, ⟨53, _⟩ => ⟨S1x128x256, .i1⟩
  | .hbm, ⟨54, _⟩ => ⟨S16x128x256, .i1⟩
  | .hbm, ⟨55, _⟩ => ⟨S16x128x256, .i1⟩
  | .hbm, ⟨56, _⟩ => ⟨S16x128x256, .i1⟩
  | .hbm, ⟨57, _⟩ => ⟨S1x16x1x128x256, .i1⟩
  | .hbm, ⟨58, _⟩ => ⟨S_, .f32⟩
  | .hbm, ⟨59, _⟩ => ⟨S_, .f32⟩
  | .hbm, ⟨60, _⟩ => ⟨S4x16x16x128x256, .i1⟩
  | .hbm, ⟨61, _⟩ => ⟨S4x16x16x128x256, .f32⟩
  | .hbm, ⟨62, _⟩ => ⟨S4x16x16x128x256, .f32⟩
  | .hbm, ⟨63, _⟩ => ⟨S_, .f32⟩
  | .hbm, ⟨64, _⟩ => ⟨S4x16x16x128, .f32⟩
  | .hbm, ⟨65, _⟩ => ⟨S4x16x16x128x1, .f32⟩
  | .hbm, ⟨66, _⟩ => ⟨S4x16x16x128x256, .f32⟩
  | .hbm, ⟨67, _⟩ => ⟨S4x16x16x128x256, .f32⟩
  | .hbm, ⟨68, _⟩ => ⟨S4x16x16x128x256, .f32⟩
  | .hbm, ⟨69, _⟩ => ⟨S_, .f32⟩
  | .hbm, ⟨70, _⟩ => ⟨S4x16x16x128, .f32⟩
  | .hbm, ⟨71, _⟩ => ⟨S4x16x16x128x1, .f32⟩
  | .hbm, ⟨72, _⟩ => ⟨S4x16x16x128x256, .f32⟩
  | .hbm, ⟨73, _⟩ => ⟨S4x16x16x128x256, .f32⟩
  | .hbm, ⟨74, _⟩ => ⟨S4x16x16x64x128, .f32⟩
  | .hbm, ⟨75, _⟩ => ⟨S4x16x128x16x64, .f32⟩
  | .hbm, ⟨76, _⟩ => ⟨S4x16x16x128x1, .f32⟩
  | .hbm, ⟨77, _⟩ => ⟨S4x16x16x128x1, .f32⟩
  | .hbm, ⟨78, _⟩ => ⟨S4x16x16x128, .f32⟩
  | .hbm, ⟨79, _⟩ => ⟨S4x16x128x16, .f32⟩
  | .hbm, ⟨80, _⟩ => ⟨S4x2048x16, .f32⟩
  | .hbm, ⟨81, _⟩ => ⟨S4x2048x16x64, .f32⟩
  | .hbm, ⟨82, _⟩ => ⟨S4x2048x16x64, .f32⟩
  | .hbm, ⟨83, _⟩ => ⟨S_, .f32⟩
  | .hbm, ⟨84, _⟩ => ⟨S4x2048x16, .f32⟩
  | .hbm, ⟨85, _⟩ => ⟨S4x2048x16, .f32⟩
  | .hbm, ⟨86, _⟩ => ⟨S2048x4x16x64, .f32⟩
  | .hbm, ⟨87, _⟩ => ⟨S2048x4096, .f32⟩
  | .hbm, ⟨88, _⟩ => ⟨S2048x4096, .bf16⟩
  | .hbm, ⟨89, _⟩ => ⟨S2048x4x16x64, .f32⟩
  | .hbm, ⟨90, _⟩ => ⟨S2048x4096, .f32⟩
  | .hbm, ⟨91, _⟩ => ⟨S2048x4096, .bf16⟩
  | .hbm, ⟨92, _⟩ => ⟨S2048x4x16x64, .f32⟩
  | .hbm, ⟨93, _⟩ => ⟨S2048x4096, .f32⟩
  | .hbm, ⟨94, _⟩ => ⟨S2048x4096, .bf16⟩
  | .hbm, ⟨95, _⟩ => ⟨S2048x4x16x64, .f32⟩
  | .hbm, ⟨96, _⟩ => ⟨S2048x4096, .f32⟩
  | .hbm, ⟨97, _⟩ => ⟨S2048x4096, .bf16⟩
  | .hbm, ⟨98, _⟩ => ⟨S2048x4x16, .f32⟩
  | .hbm, ⟨99, _⟩ => ⟨S_, .i32⟩
  | .hbm, ⟨100, _⟩ => ⟨S_, .f32⟩
  | .hbm, ⟨101, _⟩ => ⟨S2048x4x128, .f32⟩
  | .hbm, ⟨102, _⟩ => ⟨S2048x512, .f32⟩
  | .hbm, ⟨103, _⟩ => ⟨S2048x4x16, .f32⟩
  | .hbm, ⟨104, _⟩ => ⟨S_, .i32⟩
  | .hbm, ⟨105, _⟩ => ⟨S_, .f32⟩
  | .hbm, ⟨106, _⟩ => ⟨S2048x4x128, .f32⟩
  | .hbm, ⟨107, _⟩ => ⟨S2048x512, .f32⟩
  | .hbm, ⟨108, _⟩ => ⟨S2048x4096, .f32⟩
  | .hbm, ⟨109, _⟩ => ⟨S2048x4096, .f32⟩
  | .hbm, ⟨110, _⟩ => ⟨S2048x4096, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | _, _ => ⟨S4x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_10 : Ref sig .tc := ⟨.hbm, 99, rfl⟩
abbrev main_call1_v0 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_c_11 : Ref sig .tc := ⟨.hbm, 104, rfl⟩
abbrev main_call2_v0 : Ref sig .tc := ⟨.hbm, 105, rfl⟩
abbrev main_v82 : Ref sig .tc := ⟨.hbm, 106, rfl⟩
abbrev main_v83 : Ref sig .tc := ⟨.hbm, 107, rfl⟩
abbrev main_v84_0 : Ref sig .tc := ⟨.hbm, 108, rfl⟩
abbrev main_v84_1 : Ref sig .tc := ⟨.hbm, 109, rfl⟩
abbrev main_v84_2 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c16_i32 : BitVec 32 := 16#32
  let v3 : BitVec 1 := Scalar.cmpi .slt arg1 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c16_i32_2 : BitVec 32 := 16#32
  let v6 : BitVec 1 := Scalar.cmpi .eq arg1 c16_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x2048x16x64 : Shape := ⟨4, ![4, 2048, 16, 64]⟩
abbrev S4x2048x16 : Shape := ⟨3, ![4, 2048, 16]⟩
abbrev S4x16x128x16x64 : Shape := ⟨5, ![4, 16, 128, 16, 64]⟩
abbrev S4x1x128x16x64 : Shape := ⟨5, ![4, 1, 128, 16, 64]⟩
abbrev S_ : Shape := ⟨0, ![]⟩
abbrev S4x15x128x16x64 : Shape := ⟨5, ![4, 15, 128, 16, 64]⟩
abbrev S4x16x256x16x64 : Shape := ⟨5, ![4, 16, 256, 16, 64]⟩
abbrev S4x16x16x128x256 : Shape := ⟨5, ![4, 16, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x128x256 : Shape := ⟨5, ![1, 16, 1, 128, 256]⟩
abbrev S4x16x16x128 : Shape := ⟨4, ![4, 16, 16, 128]⟩
abbrev S4x16x16x128x1 : Shape := ⟨5, ![4, 16, 16, 128, 1]⟩
abbrev S4x16x16x64x128 : Shape := ⟨5, ![4, 16, 16, 64, 128]⟩
abbrev S4x16x128x16 : Shape := ⟨4, ![4, 16, 128, 16]⟩
abbrev S4x16x16x64x256 : Shape := ⟨5, ![4, 16, 16, 64, 256]⟩
abbrev S4x16x16x256x64 : Shape := ⟨5, ![4, 16, 16, 256, 64]⟩
abbrev S4x16x16x128x64 : Shape := ⟨5, ![4, 16, 16, 128, 64]⟩
abbrev S2048x4x16x64 : Shape := ⟨4, ![2048, 4, 16, 64]⟩
abbrev S2048x4096 : Shape := ⟨2, ![2048, 4096]⟩

abbrev nBuf : Space → Nat
  | .hbm => 166
  | .vmem => 0
  | .smem => 0
  | _ => 0

abbrev hbmTy0_0 (i : Nat) : BufTy := match i % 128 with
  | 0 => ⟨S4x2048x16x64, .f32⟩
  | 1 => ⟨S4x2048x16x64, .f32⟩
  | 2 => ⟨S4x2048x16x64, .f32⟩
  | 3 => ⟨S4x2048x16x64, .f32⟩
  | 4 => ⟨S4x2048x16, .f32⟩
  | 5 => ⟨S4x16x128x16x64, .f32⟩
  | 6 => ⟨S4x16x128x16x64, .f32⟩
  | 7 => ⟨S4x1x128x16x64, .f32⟩
  | 8 => ⟨S_, .f32⟩
  | 9 => ⟨S4x1x128x16x64, .f32⟩
  | 10 => ⟨S4x15x128x16x64, .f32⟩
  | 11 => ⟨S4x16x128x16x64, .f32⟩
  | 12 => ⟨S_, .f32⟩
  | 13 => ⟨S4x1x128x16x64, .f32⟩
  | 14 => ⟨S4x16x256x16x64, .f32⟩
  | 15 => ⟨S4x16x128x16x64, .f32⟩
  | 16 => ⟨S4x1x128x16x64, .f32⟩
  | 17 => ⟨S_, .f32⟩
  | 18 => ⟨S4x1x128x16x64, .f32⟩
  | 19 => ⟨S4x15x128x16x64, .f32⟩
  | 20 => ⟨S4x16x128x16x64, .f32⟩
  | 21 => ⟨S_, .f32⟩
  | 22 => ⟨S4x1x128x16x64, .f32⟩
  | 23 => ⟨S4x16x256x16x64, .f32⟩
  | 24 => ⟨S4x16x16x128x256, .f32⟩
  | 25 => ⟨S_, .f32⟩
  | 26 => ⟨S4x16x16x128x256, .f32⟩
  | 27 => ⟨S4x16x16x128x256, .f32⟩
  | 28 => ⟨S128, .i32⟩
  | 29 => ⟨S128x1, .i32⟩
  | 30 => ⟨S256, .i32⟩
  | 31 => ⟨S1x256, .i32⟩
  | 32 => ⟨S_, .i32⟩
  | 33 => ⟨S128x1, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S16, .i32⟩
  | 46 => ⟨S16x1x1, .i32⟩
  | 47 => ⟨S_, .i32⟩
  | 48 => ⟨S16x1x1, .i32⟩
  | 49 => ⟨S16x1x1, .i1⟩
  | 50 => ⟨S_, .i32⟩
  | 51 => ⟨S1x256, .i32⟩
  | 52 => ⟨S1x256, .i1⟩
  | 53 => ⟨S1x1x256, .i1⟩
  | 54 => ⟨S16x1x256, .i1⟩
  | 55 => ⟨S16x1x256, .i1⟩
  | 56 => ⟨S16x1x256, .i1⟩
  | 57 => ⟨S1x128x256, .i1⟩
  | 58 => ⟨S16x128x256, .i1⟩
  | 59 => ⟨S16x128x256, .i1⟩
  | 60 => ⟨S16x128x256, .i1⟩
  | 61 => ⟨S1x16x1x128x256, .i1⟩
  | 62 => ⟨S_, .f32⟩
  | 63 => ⟨S_, .f32⟩
  | 64 => ⟨S4x16x16x128x256, .i1⟩
  | 65 => ⟨S4x16x16x128x256, .f32⟩
  | 66 => ⟨S4x16x16x128x256, .f32⟩
  | 67 => ⟨S_, .f32⟩
  | 68 => ⟨S4x16x16x128x256, .f32⟩
  | 69 => ⟨S_, .f32⟩
  | 70 => ⟨S4x16x16x128, .f32⟩
  | 71 => ⟨S4x16x16x128x1, .f32⟩
  | 72 => ⟨S4x16x16x128x256, .f32⟩
  | 73 => ⟨S4x16x16x128x256, .i1⟩
  | 74 => ⟨S4x16x16x128x256, .f32⟩
  | 75 => ⟨S_, .f32⟩
  | 76 => ⟨S4x16x16x128, .f32⟩
  | 77 => ⟨S4x16x16x128x1, .f32⟩
  | 78 => ⟨S4x16x16x128x256, .f32⟩
  | 79 => ⟨S4x16x16x128x256, .f32⟩
  | 80 => ⟨S4x16x16x128x256, .f32⟩
  | 81 => ⟨S_, .f32⟩
  | 82 => ⟨S4x16x16x128, .f32⟩
  | 83 => ⟨S4x16x16x128x1, .f32⟩
  | 84 => ⟨S4x16x16x128x256, .f32⟩
  | 85 => ⟨S4x16x16x128x256, .f32⟩
  | 86 => ⟨S4x16x16x128x1, .f32⟩
  | 87 => ⟨S_, .f32⟩
  | 88 => ⟨S4x16x16x128x1, .f32⟩
  | 89 => ⟨S4x16x16x128x1, .f32⟩
  | 90 => ⟨S4x16x16x64x128, .f32⟩
  | 91 => ⟨S4x16x128x16x64, .f32⟩
  | 92 => ⟨S4x16x16x128x1, .f32⟩
  | 93 => ⟨S4x16x16x128x1, .f32⟩
  | 94 => ⟨S4x16x16x128, .f32⟩
  | 95 => ⟨S4x16x128x16, .f32⟩
  | 96 => ⟨S4x2048x16, .f32⟩
  | 97 => ⟨S4x2048x16x64, .f32⟩
  | 98 => ⟨S4x16x128x16x64, .f32⟩
  | 99 => ⟨S4x16x128x16, .f32⟩
  | 100 => ⟨S4x16x16x128, .f32⟩
  | 101 => ⟨S4x16x16x128x1, .f32⟩
  | 102 => ⟨S4x16x16x128x1, .f32⟩
  | 103 => ⟨S4x16x16x64x128, .f32⟩
  | 104 => ⟨S4x16x16x128x256, .f32⟩
  | 105 => ⟨S4x16x16x64x256, .f32⟩
  | 106 => ⟨S4x16x256x16x64, .f32⟩
  | 107 => ⟨S4x16x16x128x256, .f32⟩
  | 108 => ⟨S4x16x16x128x256, .f32⟩
  | 109 => ⟨S4x16x16x128x256, .f32⟩
  | 110 => ⟨S_, .f32⟩
  | 111 => ⟨S4x16x16x128, .f32⟩
  | 112 => ⟨S4x16x16x128x1, .f32⟩
  | 113 => ⟨S4x16x16x128x1, .f32⟩
  | 114 => ⟨S4x16x16x128x1, .f32⟩
  | 115 => ⟨S4x16x16x128x256, .f32⟩
  | 116 => ⟨S4x16x16x128x256, .f32⟩
  | 117 => ⟨S_, .f32⟩
  | 118 => ⟨S4x16x16x128, .f32⟩
  | 119 => ⟨S4x16x16x128x256, .f32⟩
  | 120 => ⟨S4x16x16x128x256, .f32⟩
  | 121 => ⟨S4x16x16x128x256, .f32⟩
  | 122 => ⟨S4x16x16x128x256, .f32⟩
  | 123 => ⟨S_, .f32⟩
  | 124 => ⟨S4x16x16x128, .f32⟩
  | 125 => ⟨S4x16x16x128x1, .f32⟩
  | 126 => ⟨S4x16x16x128x1, .f32⟩
  | 127 => ⟨S_, .f32⟩
  | _ => ⟨S4x2048x16x64, .f32⟩

abbrev hbmTy0_1 (i : Nat) : BufTy := match i % 128 with
  | 0 => ⟨S4x16x16x128, .f32⟩
  | 1 => ⟨S4x16x16x128, .f32⟩
  | 2 => ⟨S4x16x16x128x256, .f32⟩
  | 3 => ⟨S4x16x16x128x256, .f32⟩
  | 4 => ⟨S4x16x16x128x256, .f32⟩
  | 5 => ⟨S_, .f32⟩
  | 6 => ⟨S4x16x16x128x256, .f32⟩
  | 7 => ⟨S4x16x16x128x256, .f32⟩
  | 8 => ⟨S_, .f32⟩
  | 9 => ⟨S4x16x16x128x256, .f32⟩
  | 10 => ⟨S4x16x16x128x256, .f32⟩
  | 11 => ⟨S4x16x16x256x64, .f32⟩
  | 12 => ⟨S4x16x256x16x64, .f32⟩
  | 13 => ⟨S4x16x16x128x64, .f32⟩
  | 14 => ⟨S4x16x128x16x64, .f32⟩
  | 15 => ⟨S4x16x128x16x64, .f32⟩
  | 16 => ⟨S4x16x128x16x64, .f32⟩
  | 17 => ⟨S4x1x128x16x64, .f32⟩
  | 18 => ⟨S4x15x128x16x64, .f32⟩
  | 19 => ⟨S_, .f32⟩
  | 20 => ⟨S4x16x128x16x64, .f32⟩
  | 21 => ⟨S4x16x128x16x64, .f32⟩
  | 22 => ⟨S4x2048x16x64, .f32⟩
  | 23 => ⟨S4x16x128x16x64, .f32⟩
  | 24 => ⟨S4x16x128x16x64, .f32⟩
  | 25 => ⟨S4x1x128x16x64, .f32⟩
  | 26 => ⟨S4x15x128x16x64, .f32⟩
  | 27 => ⟨S_, .f32⟩
  | 28 => ⟨S4x16x128x16x64, .f32⟩
  | 29 => ⟨S4x16x128x16x64, .f32⟩
  | 30 => ⟨S4x2048x16x64, .f32⟩
  | 31 => ⟨S4x2048x16x64, .f32⟩
  | 32 => ⟨S2048x4x16x64, .f32⟩
  | 33 => ⟨S2048x4096, .f32⟩
  | 34 => ⟨S2048x4x16x64, .f32⟩
  | 35 => ⟨S2048x4096, .f32⟩
  | 36 => ⟨S2048x4x16x64, .f32⟩
  | 37 => ⟨S2048x4096, .f32⟩
  | _ => ⟨S4x2048x16x64, .f32⟩

abbrev hbmTy (i : Nat) : BufTy := match i / 128 with
  | 0 => hbmTy0_0 i
  | 1 => hbmTy0_1 i
  | _ => ⟨S4x2048x16x64, .f32⟩

abbrev bufTy : (tb : Table) → Fin (tcTables nBuf tb) → BufTy
  | .hbm, ⟨i, _⟩ => hbmTy i
  | _, _ => ⟨S4x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_call0_v0 : Ref sig .tc := ⟨.hbm, 63, rfl⟩
abbrev main_v47_1 : Ref sig .tc := ⟨.hbm, 64, rfl⟩
abbrev main_call0_v2 : Ref sig .tc := ⟨.hbm, 65, rfl⟩
abbrev main_v47_0 : Ref sig .tc := ⟨.hbm, 66, rfl⟩
abbrev main_call0_cst : Ref sig .tc := ⟨.hbm, 67, rfl⟩
abbrev main_v47_2 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_13 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_14 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_15 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_16 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_call1_cst : Ref sig .tc := ⟨.hbm, 133, rfl⟩
abbrev main_call1_v0 : Ref sig .tc := ⟨.hbm, 134, rfl⟩
abbrev main_v104 : Ref sig .tc := ⟨.hbm, 135, rfl⟩
abbrev main_cst_17 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_18 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_19 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩

abbrev nD : Nat := 1
abbrev τ : Topo := Topo.v7x

variable {F : FTy → Type} [FloatOps F]
-- ==== Kernel2.lean ====
abbrev S8192x2816 : Shape := ⟨2, ![8192, 2816]⟩
abbrev S2816x1024 : Shape := ⟨2, ![2816, 1024]⟩
abbrev S8192x1024 : Shape := ⟨2, ![8192, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S2816x1024, .bf16⟩
  | .hbm, ⟨5, _⟩ => ⟨S8192x2816, .bf16⟩
  | .hbm, ⟨6, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | .local _ .vmem, ⟨7, _⟩ => ⟨S1024x1408, .f32⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel3.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x1024, .bf16⟩
  | .hbm, ⟨4, _⟩ => ⟨S1024x2816, .bf16⟩
  | .hbm, ⟨5, _⟩ => ⟨S1024x2816, .bf16⟩
  | .hbm, ⟨6, _⟩ => ⟨S8192x2816, .f32⟩
  | .hbm, ⟨7, _⟩ => ⟨S8192x2816, .f32⟩
  | .hbm, ⟨8, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | .local _ .vmem, ⟨7, _⟩ => ⟨S1024x1408, .f32⟩
  | .local _ .vmem, ⟨8, _⟩ => ⟨S1024x1408, .f32⟩
  | .local _ .vmem, ⟨9, _⟩ => ⟨S1024x1408, .f32⟩
  | .local _ .vmem, ⟨10, _⟩ => ⟨S1024x1408, .bf16⟩
  | .local _ .vmem, ⟨11, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel4.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2816 : Shape := ⟨2, ![8192, 2816]⟩
abbrev S1024x2816 : Shape := ⟨2, ![1024, 2816]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S1024x2816, .f32⟩
  | .hbm, ⟨2, _⟩ => ⟨S8192x2816, .bf16⟩
  | .hbm, ⟨3, _⟩ => ⟨S1024x2816, .bf16⟩
  | .hbm, ⟨4, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S1024x2816 : Shape := ⟨2, ![1024, 2816]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1024x2816, .f32⟩
  | .hbm, ⟨2, _⟩ => ⟨S_, .f32⟩
  | .hbm, ⟨3, _⟩ => ⟨S8192x1024, .f32⟩
  | .hbm, ⟨4, _⟩ => ⟨S8192x2816, .f32⟩
  | .hbm, ⟨5, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S1024x3072, .bf16⟩
  | .hbm, ⟨4, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x2816 : Shape := ⟨2, ![8192, 2816]⟩
abbrev S1024x2816 : Shape := ⟨2, ![1024, 2816]⟩
abbrev S8192x1024 : Shape := ⟨2, ![8192, 1024]⟩
abbrev S1024 : Shape := ⟨1, ![1024]⟩
abbrev S1x1024 : Shape := ⟨2, ![1, 1024]⟩
abbrev S1024x1408 : Shape := ⟨2, ![1024, 1408]⟩
abbrev S1024x1024 : Shape := ⟨2, ![1024, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S1024x2816, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x2816, .bf16⟩
  | .hbm, ⟨7, _⟩ => ⟨S1024x2816, .bf16⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_22 : BitVec 32 := 0#32
  let v45 : BitVec 1 := Scalar.cmpi .eq arg0 c0_i32_22
  let v46 : BitVec 32 := Scalar.extui v45
  let c0_i32_23 : BitVec 32 := 0#32
  let v47 : BitVec 1 := Scalar.cmpi .ne v46 c0_i32_23
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference10Ideal.lean ====
abbrev S8192x2816 : Shape := ⟨2, ![8192, 2816]⟩
abbrev S1024x2816 : Shape := ⟨2, ![1024, 2816]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1024x2816, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x2816, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel11.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x3072, .bf16⟩
  | .hbm, ⟨6, _⟩ => ⟨S1024x3072, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_22 : BitVec 32 := 0#32
  let v45 : BitVec 1 := Scalar.cmpi .eq arg0 c0_i32_22
  let v46 : BitVec 32 := Scalar.extui v45
  let c0_i32_23 : BitVec 32 := 0#32
  let v47 : BitVec 1 := Scalar.cmpi .ne v46 c0_i32_23
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference11Ideal.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1024x3072, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x3072, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Dil.Row.lean ====
/- One row of a masked softmax and of its gradient, over the extended reals, for real scores: every quantity that the
   two programs form is the coercion of a real one. -/
module

public import Idealize.ShloMosaic.PureOps.Ideal.Laws

@[expose] public section

noncomputable section

namespace Cert.KernelIdeal.Dil

open Idealize.ShloMosaic

/-! ## Real arguments -/

theorem exp_coe (x : ℝ) : Ideal.exp (x : EReal) = ((Real.exp x : ℝ) : EReal) := rfl
theorem exp_bot : Ideal.exp ⊥ = 0 := rfl
theorem log_coe {x : ℝ} (h : 0 < x) : Ideal.log (x : EReal) = ((Real.log x : ℝ) : EReal) := by
  show (if x ≤ 0 then ⊥ else ((Real.log x : ℝ) : EReal)) = _
  rw [if_neg (not_le.mpr h)]
theorem div_coe (x : ℝ) {y : ℝ} (h : y ≠ 0) : Ideal.div (x : EReal) (y : EReal) = ((x / y : ℝ) : EReal) := by
  unfold Ideal.div
  rw [if_neg (by exact_mod_cast h), div_eq_mul_inv, EReal.coe_mul, EReal.coe_inv]
theorem sum_coe {ι : Type} (t : Finset ι) (f : ι → ℝ) : (∑ i ∈ t, (f i : EReal)) = ((∑ i ∈ t, f i : ℝ) : EReal) := by
  induction t using Finset.cons_induction with
  | empty => simp
  | cons a t ha ih => rw [Finset.sum_cons, Finset.sum_cons, ih, EReal.coe_add]
theorem bot_sub_coe (x : ℝ) : (⊥ : EReal) - (x : EReal) = ⊥ := EReal.bot_sub _

/-! ## A row -/

section

variable (b : Fin 256 → Prop) [DecidablePred b] (s dp : Fin 256 → ℝ) (dl : ℝ)

/-- A row's scores: `-∞` where the mask is off. -/
def score (j : Fin 256) : EReal := if b j then (s j : EReal) else ⊥

/-- The row's largest score. -/
def top : EReal := Finset.univ.fold max ⊥ (score b s)
/-- The same as a real number. -/
def mx : ℝ := (top b s).toReal
/-- A score's exponential, the largest score taken off. -/
def pr (j : Fin 256) : ℝ := if b j then Real.exp (s j - mx b s) else 0
/-- The row's sum of exponentials. -/
def tot : ℝ := ∑ j, pr b s j
/-- The attention weights. -/
def wt (j : Fin 256) : ℝ := pr b s j / tot b s
/-- The row's log-sum. -/
def lsum : ℝ := mx b s + Real.log (tot b s)
/-- The weights' mean of the weights' gradient. -/
def mean : ℝ := ∑ j, wt b s j * dp j
/-- The gradient of the masked scores: `dl` is the log-sum's gradient. -/
def gsc (j : Fin 256) : ℝ := wt b s j * (dp j - (mean b s dp - dl))

theorem top_eq_sup : top b s = Finset.univ.sup (score b s) := rfl

theorem exists_top : ∃ j, score b s j = top b s := by
  obtain ⟨j, -, h⟩ := Finset.exists_mem_eq_sup Finset.univ ⟨0, Finset.mem_univ _⟩ (score b s)
  exact ⟨j, h.symm⟩

variable {b}

theorem coe_mx (hb : ∃ j, b j) : top b s = (mx b s : EReal) := by
  obtain ⟨j, hj⟩ := exists_top b s
  have hbj : b j := by
    by_contra hn
    obtain ⟨j0, h0⟩ := hb
    have h1 : score b s j0 ≤ top b s := Finset.le_sup (f := score b s) (Finset.mem_univ j0)
    rw [← hj] at h1
    unfold score at h1
    rw [if_pos h0, if_neg hn, le_bot_iff] at h1
    exact EReal.coe_ne_bot _ h1
  have : top b s = (s j : EReal) := by rw [← hj]; unfold score; rw [if_pos hbj]
  unfold mx
  rw [this, EReal.toReal_coe]

theorem exp_score_top (hb : ∃ j, b j) (j : Fin 256) : Ideal.exp (score b s j - top b s) = (pr b s j : EReal) := by
  rw [coe_mx s hb]
  unfold score pr
  split
  · rw [← EReal.coe_sub, exp_coe]
  · rw [bot_sub_coe, exp_bot, EReal.coe_zero]

theorem pr_nonneg (j : Fin 256) : 0 ≤ pr b s j := by
  unfold pr; split
  · exact (Real.exp_pos _).le
  · exact le_rfl

theorem tot_pos (hb : ∃ j, b j) : 0 < tot b s := by
  obtain ⟨j, hj⟩ := hb
  refine Finset.sum_pos' (fun j _ => pr_nonneg s j) ⟨j, Finset.mem_univ j, ?_⟩
  unfold pr; rw [if_pos hj]; exact Real.exp_pos _

theorem sum_pr : (∑ j, (pr b s j : EReal)) = (tot b s : EReal) := sum_coe _ _

theorem div_tot (hb : ∃ j, b j) (x : ℝ) : Ideal.div (x : EReal) (tot b s : EReal) = ((x / tot b s : ℝ) : EReal) :=
  div_coe x (tot_pos s hb).ne'

theorem lsum_eq (hb : ∃ j, b j) : top b s + Ideal.log (tot b s : EReal) = (lsum b s : EReal) := by
  rw [coe_mx s hb, log_coe (tot_pos s hb), ← EReal.coe_add]; rfl

/-- The weights from the scores and the log-sum. -/
theorem exp_score_lsum (hb : ∃ j, b j) (j : Fin 256) : Ideal.exp (score b s j - (lsum b s : EReal)) = (wt b s j : EReal) := by
  unfold score wt pr
  split
  · rw [← EReal.coe_sub, exp_coe]
    congr 1
    unfold lsum
    rw [← sub_sub, Real.exp_sub, Real.exp_log (tot_pos s hb)]
  · rw [bot_sub_coe, exp_bot, zero_div, EReal.coe_zero]

theorem sum_wt (hb : ∃ j, b j) : ∑ j, wt b s j = 1 := by
  unfold wt
  rw [← Finset.sum_div]
  exact div_self (tot_pos s hb).ne'

theorem wt_of_not {j : Fin 256} (h : ¬ b j) : wt b s j = 0 := by
  unfold wt pr; rw [if_neg h, zero_div]

theorem gsc_of_not {j : Fin 256} (h : ¬ b j) : gsc b s dp dl j = 0 := by
  unfold gsc; rw [wt_of_not s h, zero_mul]

/-- The gradients of a row's masked scores add up to the log-sum's gradient. -/
theorem sum_gsc (hb : ∃ j, b j) : ∑ j, gsc b s dp dl j = dl := by
  unfold gsc
  simp only [mul_sub, Finset.sum_sub_distrib, ← Finset.sum_mul, sum_wt s hb]
  unfold mean
  ring

/-! ## The gradient as the derivative of the quotient forms it -/

/-- The gradient that reaches the sum of exponentials. -/
theorem tot_grad (hb : ∃ j, b j) :
    Ideal.div (dl : EReal) (tot b s : EReal)
        + -(0 + ∑ j, (dp j : EReal) * Ideal.div 1 ((tot b s : EReal) * (tot b s : EReal)) * (pr b s j : EReal))
      = (((dl - mean b s dp) / tot b s : ℝ) : EReal) := by
  have ht : tot b s ≠ 0 := (tot_pos s hb).ne'
  have h1 : Ideal.div 1 ((tot b s : EReal) * (tot b s : EReal)) = ((1 / (tot b s * tot b s) : ℝ) : EReal) := by
    rw [← EReal.coe_mul, ← EReal.coe_one, div_coe _ (mul_ne_zero ht ht)]
  rw [h1, div_coe _ ht, zero_add]
  simp only [← EReal.coe_mul]
  rw [sum_coe, ← EReal.coe_neg, ← EReal.coe_add]
  congr 1
  unfold mean wt
  have : ∑ j, dp j * (1 / (tot b s * tot b s)) * pr b s j = (∑ j, pr b s j / tot b s * dp j) / tot b s := by
    rw [Finset.sum_div]
    refine Finset.sum_congr rfl fun j _ => ?_
    field_simp
  rw [this]
  ring

/-- The gradient of a score through its exponential. -/
theorem score_grad (hb : ∃ j, b j) (j : Fin 256) :
    (Ideal.div (dp j : EReal) (tot b s : EReal) + (((dl - mean b s dp) / tot b s : ℝ) : EReal)) * (pr b s j : EReal)
      = (gsc b s dp dl j : EReal) := by
  have ht : tot b s ≠ 0 := (tot_pos s hb).ne'
  rw [div_coe _ ht, ← EReal.coe_add, ← EReal.coe_mul]
  congr 1
  unfold gsc wt
  field_simp
  ring

/-- Nothing reaches the largest score. -/
theorem top_grad (hb : ∃ j, b j) : (dl : EReal) + (0 + ∑ j, -(gsc b s dp dl j : EReal)) = 0 := by
  rw [zero_add]
  simp only [← EReal.coe_neg]
  rw [sum_coe, ← EReal.coe_add, Finset.sum_neg_distrib, sum_gsc s dp dl hb, add_neg_cancel, EReal.coe_zero]

/-- The number of scores that are the largest is not zero. -/
theorem count_ne (c : EReal) (hc : c = ∑ j, (((if score b s j = top b s then 1 else 0 : ℝ)) : EReal)) : Ideal.div 0 c = 0 := by
  have h : (0 : ℝ) < ∑ j, (if score b s j = top b s then 1 else 0 : ℝ) := by
    obtain ⟨j, hj⟩ := exists_top b s
    refine Finset.sum_pos' (fun j _ => by split <;> norm_num) ⟨j, Finset.mem_univ j, ?_⟩
    rw [if_pos hj]; norm_num
  rw [hc, sum_coe, ← EReal.coe_zero, div_coe _ h.ne', zero_div]

end

end Cert.KernelIdeal.Dil
end
-- ==== Proof.Dil.Model.lean ====
/- The gradient of the dilated banded attention over the reals: what both programs compute.

   Every quantity is a function of natural-number coordinates: `r` the residue class, `n` the query block (128
   queries of the class), `h` the head, `i` the query within its block, `j` the key within the block's window of 256
   keys (the previous block's, then the own ones), `d` the feature. -/
module

public import proofs.«01_k».proof.Proof.Dil.Row

@[expose] public section

noncomputable section

namespace Cert.KernelIdeal.Dil

/-- The five arguments over the reals: queries, keys, values, the output's gradient, the log-sum's gradient. -/
structure RealArgs where
  q : ℕ → ℕ → ℕ → ℕ → ℝ
  k : ℕ → ℕ → ℕ → ℕ → ℝ
  v : ℕ → ℕ → ℕ → ℕ → ℝ
  g : ℕ → ℕ → ℕ → ℕ → ℝ
  l : ℕ → ℕ → ℕ → ℝ

/-- A key's position in the window of block `n`: zero before the sequence's first key. -/
def win (A : ℕ → ℕ → ℕ → ℕ → ℝ) (r n h j d : ℕ) : ℝ := if 128 ≤ n * 128 + j then A r (n * 128 + j - 128) h d else 0

/-- The band: a query sees the 128 keys before its own and its own, none before the sequence's first. -/
def on (n i : ℕ) (j : Fin 256) : Prop := (i ≤ j.val ∧ j.val ≤ i + 128) ∧ (0 < n ∨ 128 ≤ j.val)

instance (n i : ℕ) : DecidablePred (on n i) := fun _ => inferInstanceAs (Decidable (_ ∧ _))

/-- A query sees its own key. -/
theorem exists_on (n : ℕ) {i : ℕ} (hi : i < 128) : ∃ j, on n i j :=
  ⟨⟨i + 128, by omega⟩, ⟨by show i ≤ i + 128; omega, le_refl _⟩, Or.inr (by show 128 ≤ i + 128; omega)⟩

namespace RealArgs

variable (A : RealArgs) (r n h i : ℕ)

/-- A query's scores. -/
def sc (j : Fin 256) : ℝ := (∑ d : Fin 64, A.q r (n * 128 + i) h d * win A.k r n h j d) * (1 / 8)
/-- The gradient of a query's weights. -/
def dp (j : Fin 256) : ℝ := ∑ d : Fin 64, A.g r (n * 128 + i) h d * win A.v r n h j d
/-- The log-sum's gradient of a query. -/
def dl : ℝ := A.l r (n * 128 + i) h
/-- A query's weights. -/
def W (j : Fin 256) : ℝ := wt (on n i) (A.sc r n h i) j
/-- The gradient of a query's scores. -/
def G (j : Fin 256) : ℝ := gsc (on n i) (A.sc r n h i) (A.dp r n h i) (A.dl r n h i) j
/-- A query's output. -/
def out (d : ℕ) : ℝ := ∑ j : Fin 256, W A r n h i j * win A.v r n h j d
/-- A query's gradient. -/
def dq (d : ℕ) : ℝ := ∑ j : Fin 256, A.G r n h i j * (1 / 8) * win A.k r n h j d

variable (A : RealArgs) (r n h : ℕ)

/-- A key's gradient by the queries of block `n`. -/
def dk2 (j : Fin 256) (d : ℕ) : ℝ := ∑ i : Fin 128, A.G r n h i j * (1 / 8) * A.q r (n * 128 + i) h d
/-- A value's gradient by the queries of block `n`. -/
def dv2 (j : Fin 256) (d : ℕ) : ℝ := ∑ i : Fin 128, A.g r (n * 128 + i) h d * A.W r n h i j
/-- A key's gradient: by its own block's queries and by the next block's. -/
def dk (i : Fin 128) (d : ℕ) : ℝ :=
  A.dk2 r n h ⟨i.val + 128, by omega⟩ d + if n + 1 < 16 then A.dk2 r (n + 1) h ⟨i.val, by omega⟩ d else 0
/-- A value's gradient: by its own block's queries and by the next block's. -/
def dv (i : Fin 128) (d : ℕ) : ℝ :=
  A.dv2 r n h ⟨i.val + 128, by omega⟩ d + if n + 1 < 16 then A.dv2 r (n + 1) h ⟨i.val, by omega⟩ d else 0

end RealArgs

/-- The five arrays are the coercions of the real arguments. -/
structure Coe (A : RealArgs) (x0 x1 x2 x3 : (⟨4, ![4, 2048, 16, 64]⟩ : Idealize.ShloMosaic.Shape).Idx → EReal)
    (x4 : (⟨3, ![4, 2048, 16]⟩ : Idealize.ShloMosaic.Shape).Idx → EReal) : Prop where
  q : ∀ i, x0 i = (A.q (i 0).val (i 1).val (i 2).val (i 3).val : EReal)
  k : ∀ i, x1 i = (A.k (i 0).val (i 1).val (i 2).val (i 3).val : EReal)
  v : ∀ i, x2 i = (A.v (i 0).val (i 1).val (i 2).val (i 3).val : EReal)
  g : ∀ i, x3 i = (A.g (i 0).val (i 1).val (i 2).val (i 3).val : EReal)
  l : ∀ i, x4 i = (A.l (i 0).val (i 1).val (i 2).val : EReal)

end Cert.KernelIdeal.Dil
-- ==== Proof.Dil.Finite.lean ====
/- Finite arguments are arrays of reals. -/
module

public import proofs.«01_k».proof.Defs
public import proofs.«01_k».proof.Proof.Dil.Model

@[expose] public section

noncomputable section

namespace Cert.KernelIdeal.Dil

open Idealize.ShloMosaic

/-- What the predicate's operations ask of their shapes. -/
theorem pre_facts : Cert.Pre_finite.Facts := ⟨by decide, by decide⟩

theorem litTop : Ideal.ofBits .f32 0x7F800000#32 = ⊤ := by simp [Ideal.ofBits, Ideal.ieee]

/-- An element whose absolute value is less than infinity is a real. -/
theorem real_of_lt (x : EReal) (h : Ideal.cmp .olt (max x (-x)) (Ideal.ofBits .f32 0x7F800000#32) = 1#1) :
    x = ((x.toReal : ℝ) : EReal) := by
  rw [litTop] at h
  have hlt : max x (-x) < ⊤ := by
    by_contra hc
    have e : Ideal.cmp .olt (max x (-x)) ⊤ = 0#1 := by
      show BitVec.ofBool (decide (max x (-x) < ⊤)) = 0#1
      rw [decide_eq_false hc]
      rfl
    rw [e] at h
    exact absurd h (by decide)
  have h1 : x ≠ ⊤ := fun e => absurd (lt_of_le_of_lt (le_max_left x (-x)) hlt) (by rw [e]; exact lt_irrefl _)
  have h2 : x ≠ ⊥ := fun e => absurd (lt_of_le_of_lt (le_max_right x (-x)) hlt) (by rw [e, EReal.neg_bot]; exact lt_irrefl _)
  exact (EReal.coe_toReal h1 h2).symm

/-- A four-axis array's elements as reals, zero outside it. -/
def reals4 (x : (⟨4, ![4, 2048, 16, 64]⟩ : Shape).Idx → EReal) (r p h d : ℕ) : ℝ :=
  if k : r < 4 ∧ p < 2048 ∧ h < 16 ∧ d < 64 then
    (x fun a => match a with
      | ⟨0, _⟩ => ⟨r, k.1⟩
      | ⟨1, _⟩ => ⟨p, k.2.1⟩
      | ⟨2, _⟩ => ⟨h, k.2.2.1⟩
      | ⟨3, _⟩ => ⟨d, k.2.2.2⟩).toReal
  else 0

/-- A three-axis array's elements as reals, zero outside it. -/
def reals3 (x : (⟨3, ![4, 2048, 16]⟩ : Shape).Idx → EReal) (r p h : ℕ) : ℝ :=
  if k : r < 4 ∧ p < 2048 ∧ h < 16 then
    (x fun a => match a with
      | ⟨0, _⟩ => ⟨r, k.1⟩
      | ⟨1, _⟩ => ⟨p, k.2.1⟩
      | ⟨2, _⟩ => ⟨h, k.2.2⟩).toReal
  else 0

theorem reals4_apply (x : (⟨4, ![4, 2048, 16, 64]⟩ : Shape).Idx → EReal) (i : (⟨4, ![4, 2048, 16, 64]⟩ : Shape).Idx) :
    reals4 x (i 0).val (i 1).val (i 2).val (i 3).val = (x i).toReal := by
  unfold reals4
  refine (dif_pos ⟨(i 0).isLt, (i 1).isLt, (i 2).isLt, (i 3).isLt⟩).trans ?_
  exact congrArg (fun j => (x j).toReal) (funext fun a => by
    match a with
    | ⟨0, _⟩ => rfl
    | ⟨1, _⟩ => rfl
    | ⟨2, _⟩ => rfl
    | ⟨3, _⟩ => rfl)

theorem reals3_apply (x : (⟨3, ![4, 2048, 16]⟩ : Shape).Idx → EReal) (i : (⟨3, ![4, 2048, 16]⟩ : Shape).Idx) :
    reals3 x (i 0).val (i 1).val (i 2).val = (x i).toReal := by
  unfold reals3
  refine (dif_pos ⟨(i 0).isLt, (i 1).isLt, (i 2).isLt⟩).trans ?_
  exact congrArg (fun j => (x j).toReal) (funext fun a => by
    match a with
    | ⟨0, _⟩ => rfl
    | ⟨1, _⟩ => rfl
    | ⟨2, _⟩ => rfl)

/-- The reals the arguments hold. -/
def realArgs (x0 x1 x2 x3 : (⟨4, ![4, 2048, 16, 64]⟩ : Shape).Idx → EReal) (x4 : (⟨3, ![4, 2048, 16]⟩ : Shape).Idx → EReal) : RealArgs where
  q := reals4 x0
  k := reals4 x1
  v := reals4 x2
  g := reals4 x3
  l := reals3 x4

theorem coe4 {x : (⟨4, ![4, 2048, 16, 64]⟩ : Shape).Idx → EReal}
    (h : ∀ i, Ideal.cmp .olt (max (x i) (-(x i))) (Ideal.ofBits .f32 0x7F800000#32) = 1#1) (i : (⟨4, ![4, 2048, 16, 64]⟩ : Shape).Idx) :
    x i = (reals4 x (i 0).val (i 1).val (i 2).val (i 3).val : EReal) := by
  rw [reals4_apply]
  exact real_of_lt _ (h i)

theorem coe3 {x : (⟨3, ![4, 2048, 16]⟩ : Shape).Idx → EReal}
    (h : ∀ i, Ideal.cmp .olt (max (x i) (-(x i))) (Ideal.ofBits .f32 0x7F800000#32) = 1#1) (i : (⟨3, ![4, 2048, 16]⟩ : Shape).Idx) :
    x i = (reals3 x (i 0).val (i 1).val (i 2).val : EReal) := by
  rw [reals3_apply]
  exact real_of_lt _ (h i)

section
variable [Cert.Pre_finite.Facts]
variable (x0 x1 x2 x3 : FVec Ideal Cert.Pre_finite.S4x2048x16x64 .f32) (x4 : FVec Ideal Cert.Pre_finite.S4x2048x16 .f32)

/-- Arguments the predicate holds of are reals. -/
theorem coe_of_pre
    (h : (Cert.Pre_finite.fn (F := Ideal) x0 x1 x2 x3 x4).1 = (fun _ => 1#1)
      ∧ (Cert.Pre_finite.fn (F := Ideal) x0 x1 x2 x3 x4).2.1 = (fun _ => 1#1)
      ∧ (Cert.Pre_finite.fn (F := Ideal) x0 x1 x2 x3 x4).2.2.1 = (fun _ => 1#1)
      ∧ (Cert.Pre_finite.fn (F := Ideal) x0 x1 x2 x3 x4).2.2.2.1 = (fun _ => 1#1)
      ∧ (Cert.Pre_finite.fn (F := Ideal) x0 x1 x2 x3 x4).2.2.2.2 = (fun _ => 1#1)) :
    Coe (realArgs x0 x1 x2 x3 x4) x0 x1 x2 x3 x4 where
  q := coe4 fun i => congrFun h.1 i
  k := coe4 fun i => congrFun h.2.1 i
  v := coe4 fun i => congrFun h.2.2.1 i
  g := coe4 fun i => congrFun h.2.2.2.1 i
  l := coe3 fun i => congrFun h.2.2.2.2 i
end

end Cert.KernelIdeal.Dil
-- ==== Proof.Dil.Tile.lean ====
/- What one grid point of the backward kernel computes, as named pure functions of the blocks it reads.

   A point handles one residue class and one block of 128 query rows; the 16 heads of 64 columns are taken two at a
   time, so every product is of tiles 128 columns wide and a pair of heads shares one. -/
module

public import proofs.«01_k».proof.Proof.Gen.KernelIdeal.Skeleton
public import Idealize.ShloMosaic.Lib.Pipeline.FrameBody
public import Idealize.ShloMosaic.Lib.WritesUnit

@[expose] public section

noncomputable section

namespace Cert.KernelIdeal.Dil

open Cert.KernelIdeal.Gen
open Idealize.ShloMosaic Idealize.ShloMosaic.TcCoe

variable {F : FTy → Type} [FloatOps F]

/-! ## Tiles of 128 columns -/

theorem inb_cols (p : Fin 8) : ∀ a, (![0, 128 * p.val] : Fin 2 → Nat) a + S128x128.size a ≤ S128x1024.size a := by
  revert p; decide
theorem slices_cols (p : Fin 8) : S256x1024.Slices ![0, 128 * p.val] S256x128 := by revert p; decide
theorem slices_rowE (p : Fin 8) : S128x128.Slices ![2 * p.val, 0] S1x128 := by revert p; decide
theorem slices_rowO (p : Fin 8) : S128x128.Slices ![2 * p.val + 1, 0] S1x128 := by revert p; decide

/-- The rectangle of column tile `p`. -/
abbrev colRect (p : Fin 8) : Rect S128x1024 := Rect.unit ![0, 128 * p.val] S128x128.size (inb_cols p)
/-- The columns of head pair `p` of a block of rows. -/
abbrev colTile {e : EltTy} (p : Fin 8) (x : Vec F S128x1024 e) : Vec F S128x128 e := View.ld x (colRect p)
/-- A whole block as a load of it reads it. -/
abbrev wholeBlk {e : EltTy} (x : Vec F S128x1024 e) : Vec F S128x1024 e :=
  View.ld x (Rect.unit ![0, 0] S128x1024.size inb_S128x1024_S128x1024_0_0)
/-- A whole block of row statistics as a load of it reads it. -/
abbrev wholeStat (x : Vec F S128x128 .f32) : Vec F S128x128 .f32 :=
  View.ld x (Rect.unit ![0, 0] S128x128.size inb_S128x128_S128x128_0_0)

/-- An index of a block within the tile that holds it. -/
abbrev tileIdx (i : S128x1024.Idx) : S128x128.Idx := fun a => match a with
  | ⟨0, _⟩ => ⟨(i 0).val, (i 0).isLt⟩
  | ⟨1, _⟩ => ⟨(i 1).val % 128, Nat.mod_lt _ (by decide)⟩

/-- Eight tiles side by side. -/
def colTiles {e : EltTy} (f : Fin 8 → Vec F S128x128 e) : Vec F S128x1024 e := fun i =>
  f ⟨(i 1).val / 128, by have h : (i 1).val < 1024 := (i 1).isLt; omega⟩ (tileIdx i)

/-! ## One pair of heads -/

/-- The two heads of a tile one under the other, each in its own 64 columns and zero in the other's. -/
def twoHeads (x : FVec F S128x128 .bf16) : FVec F S256x128 .bf16 :=
  concatenate S256x128 0
    [⟨S128x128, select (cmpi .slt (iota .tc S128x128 32 [1] iota_S128x128_d1_w32) (broadcast S128x128 64#32)) x
        (broadcast S128x128 (Scalar.ofBits .bf16 0x0000#16 : F .bf16))⟩,
     ⟨S128x128, select (cmpi .sge (iota .tc S128x128 32 [1] iota_S128x128_d1_w32) (broadcast S128x128 64#32)) x
        (broadcast S128x128 (Scalar.ofBits .bf16 0x0000#16 : F .bf16))⟩]
    concatenates_S128x128_S128x128_S256x128_d0

/-- A row statistic of the two heads of pair `p`, side by side, from the statistics with heads along the rows. -/
def statRow (p : Fin 8) (y : FVec F S128x128 .f32) : FVec F S1x256 .f32 :=
  concatenate S1x256 1
    [⟨S1x128, extractStridedSlice S1x128 ![2 * p.val, 0] y (slices_rowE p)⟩,
     ⟨S1x128, extractStridedSlice S1x128 ![2 * p.val + 1, 0] y (slices_rowO p)⟩]
    concatenates_S1x128_S1x128_S1x256_d1

/-- Products of the 256 keys with the 2·128 rows of a pair. -/
def keyDot (kt : FVec F S256x128 .bf16) (x : FVec F S128x128 .bf16) : FVec F S256x256 .f32 :=
  matmul dot_S256x128_S256x128_S256x256_1_1_0_0_n_n none kt (twoHeads x) (constant S256x256 .f32 0x00000000#32)

/-- The attention weights, from the unscaled scores, the mask and the log-sums. -/
def weights (b : IVec S256x256 1) (l : FVec F S1x256 .f32) (s : FVec F S256x256 .f32) : FVec F S256x256 .f32 :=
  exp (subf (select b (mulf s (broadcast S256x256 (Scalar.ofBits .f32 0x3E000000#32 : F .f32)))
      (broadcast S256x256 (Scalar.ofBits .f32 0xFF800000#32 : F .f32)))
    (broadcastTo S256x256 l broadcasts_S1x256_S256x256))

/-- The scores' gradient, from the weights, the weights' gradient and the row sums `delta`. -/
def dscores (w : FVec F S256x256 .f32) (d : FVec F S1x256 .f32) (dp : FVec F S256x256 .f32) : FVec F S256x256 .f32 :=
  mulf (mulf w (subf dp (broadcastTo S256x256 d broadcasts_S1x256_S256x256)))
    (broadcast S256x256 (Scalar.ofBits .f32 0x3E000000#32 : F .f32))

/-- Keys' rows times the scores' gradient, brought back to one row per query. -/
def queryTile (kt : FVec F S256x128 .bf16) (ds : FVec F S256x256 .f32) : FVec F S128x128 .f32 :=
  k0_pay43 (matmul dot_S256x128_S256x256_S128x256_0_0_1_1_n_n none kt (truncf .bf16 ds bitsLt_bf16_f32)
    (constant S128x256 .f32 0x00000000#32))

/-- The 256 keys' gradient of a pair: a 256 × 2·128 matrix times the pair's rows. -/
def keyGrad (w : FVec F S256x256 .f32) (x : FVec F S128x128 .bf16) : FVec F S256x128 .f32 :=
  matmul dot_S256x256_S256x128_S256x128_1_0_0_1_n_n none (truncf .bf16 w bitsLt_bf16_f32) (twoHeads x)
    (constant S256x128 .f32 0x00000000#32)

/-- The first 128 keys' rows (the block before). -/
abbrev loRows (x : FVec F S256x128 .f32) : FVec F S128x128 .f32 :=
  extractStridedSlice S128x128 ![0, 0] x slices_S256x128_o0_0_S128x128
/-- The last 128 keys' rows (the block itself). -/
abbrev hiRows (x : FVec F S256x128 .f32) : FVec F S128x128 .f32 :=
  shapeCast S128x128 (extractStridedSlice S128x128 ![128, 0] x slices_S256x128_o128_0_S128x128) shapeCasts_S128x128_S128x128

/-! ## One grid point -/

/-- The blocks a grid point reads: queries, the keys and values of the block before and of the block, the outputs'
    gradient, the log-sums and the row sums. -/
structure Blocks (F : FTy → Type) where
  q : Vec F S128x1024 .bf16
  kp : Vec F S128x1024 .bf16
  kc : Vec F S128x1024 .bf16
  vp : Vec F S128x1024 .bf16
  vc : Vec F S128x1024 .bf16
  d : Vec F S128x1024 .bf16
  lse : Vec F S128x128 .f32
  delta : Vec F S128x128 .f32

/-- The keys of pair `p`, both blocks. -/
def Blocks.keys (X : Blocks F) (p : Fin 8) : FVec F S256x128 .bf16 :=
  extractStridedSlice S256x128 ![0, 128 * p.val] (k0_pay5 (wholeBlk X.kp) (wholeBlk X.kc)) (slices_cols p)
/-- The values of pair `p`, both blocks. -/
def Blocks.vals (X : Blocks F) (p : Fin 8) : FVec F S256x128 .bf16 :=
  extractStridedSlice S256x128 ![0, 128 * p.val] (k0_pay6 (wholeBlk X.vp) (wholeBlk X.vc)) (slices_cols p)
/-- The rows of queries of pair `p`. -/
def Blocks.qt (X : Blocks F) (p : Fin 8) : FVec F S128x128 .bf16 := shapeCast S128x128 (colTile p X.q) shapeCasts_S128x128_S128x128
/-- The rows of the outputs' gradient of pair `p`. -/
def Blocks.dt (X : Blocks F) (p : Fin 8) : FVec F S128x128 .bf16 := shapeCast S128x128 (colTile p X.d) shapeCasts_S128x128_S128x128
/-- The weights of pair `p` at block number `n`. -/
def Blocks.w (X : Blocks F) (n : BitVec 32) (p : Fin 8) : FVec F S256x256 .f32 :=
  weights (k0_pay9 n) (statRow p (k0_pay7 (wholeStat X.lse))) (keyDot (X.keys p) (X.qt p))
/-- The scores' gradient of pair `p`. -/
def Blocks.ds (X : Blocks F) (n : BitVec 32) (p : Fin 8) : FVec F S256x256 .f32 :=
  dscores (X.w n p) (statRow p (k0_pay8 (wholeStat X.delta))) (keyDot (X.vals p) (X.dt p))
/-- The queries' gradient of pair `p`. -/
def Blocks.dqT (X : Blocks F) (n : BitVec 32) (p : Fin 8) : FVec F S128x128 .f32 := queryTile (X.keys p) (X.ds n p)
/-- The keys' gradient of pair `p`, both blocks. -/
def Blocks.dk2 (X : Blocks F) (n : BitVec 32) (p : Fin 8) : FVec F S256x128 .f32 := keyGrad (X.ds n p) (X.qt p)
/-- The values' gradient of pair `p`, both blocks. -/
def Blocks.dv2 (X : Blocks F) (n : BitVec 32) (p : Fin 8) : FVec F S256x128 .f32 := keyGrad (X.w n p) (X.dt p)

/-- The block of queries' gradient a point stores. -/
def Blocks.dqBlk (X : Blocks F) (n : BitVec 32) : Vec F S128x1024 .f32 := colTiles (X.dqT n)
/-- The block of keys' gradient a point stores: what the block before left, plus this block's share of it. -/
def Blocks.dkBlk (X : Blocks F) (n : BitVec 32) (C : Vec F S128x1024 .f32) : Vec F S128x1024 .f32 :=
  colTiles fun p => addf (colTile p C) (loRows (X.dk2 n p))
/-- The block of values' gradient a point stores. -/
def Blocks.dvBlk (X : Blocks F) (n : BitVec 32) (C : Vec F S128x1024 .f32) : Vec F S128x1024 .f32 :=
  colTiles fun p => addf (colTile p C) (loRows (X.dv2 n p))
/-- What a point leaves for the keys' gradient of its own block. -/
def Blocks.dkCarry (X : Blocks F) (n : BitVec 32) : Vec F S128x1024 .f32 := colTiles fun p => hiRows (X.dk2 n p)
/-- What a point leaves for the values' gradient of its own block. -/
def Blocks.dvCarry (X : Blocks F) (n : BitVec 32) : Vec F S128x1024 .f32 := colTiles fun p => hiRows (X.dv2 n p)

/-! ## Eight stores that tile a block -/

section

variable {sig : RefSig} {κ : Kind} {sp : Space} {e : EltTy}

/-- After a store into column tile `p`: its payload in the tile, what was there elsewhere. -/
theorem read_cons_col (v : View sig κ sp S128x1024 e) (f : v.ty.Contents (Elt F)) (p : Fin 8) (w : Vec F S128x128 e)
    (L : List (View.Piece (Elt F) S128x1024 e)) (y : S128x1024.Idx) :
    v.read (Elt F) (v.writes (Elt F) f (⟨colRect p, w⟩ :: L)) y
      = if (y 1).val / 128 = p.val then w (tileIdx y) else v.read (Elt F) (v.writes (Elt F) f L) y := by
  have h0 : (y 0).val < 128 := (y 0).isLt
  have h1 : (y 1).val < 1024 := (y 1).isLt
  split
  · rename_i h
    refine View.read_writes_cons_unit_of_mem v f (inb_cols p) w L y (tileIdx y) rfl ?_
    refine Fin.forall_fin_two.mpr ⟨?_, ?_⟩
    · show (y 0).val = 0 + (y 0).val
      omega
    · show (y 1).val = 128 * p.val + (y 1).val % 128
      omega
  · rename_i h
    refine View.read_writes_cons_unit_of_not_mem v f (inb_cols p) w L y rfl 1 ?_
    show (y 1).val < 128 * p.val ∨ 128 * p.val + 128 ≤ (y 1).val
    omega

/-- Eight stores, one per column tile, leave the tiles side by side, whatever was there. -/
theorem read_colTiles (v : View sig κ sp S128x1024 e) (f : v.ty.Contents (Elt F)) (w : Fin 8 → Vec F S128x128 e)
    (L : List (View.Piece (Elt F) S128x1024 e)) :
    v.read (Elt F) (v.writes (Elt F) f (⟨colRect 7, w 7⟩ :: ⟨colRect 6, w 6⟩ :: ⟨colRect 5, w 5⟩ :: ⟨colRect 4, w 4⟩ ::
      ⟨colRect 3, w 3⟩ :: ⟨colRect 2, w 2⟩ :: ⟨colRect 1, w 1⟩ :: ⟨colRect 0, w 0⟩ :: L)) = colTiles w := by
  funext y
  have h1 : (y 1).val < 1024 := (y 1).isLt
  have key : ∀ p : Fin 8, (y 1).val / 128 = p.val → colTiles w y = w p (tileIdx y) := by
    intro p h
    have : (⟨(y 1).val / 128, by omega⟩ : Fin 8) = p := Fin.ext h
    exact congrFun (congrArg w this) (tileIdx y)
  simp only [read_cons_col]
  split_ifs with h7 h6 h5 h4 h3 h2 h1 h0
  · exact (key 7 h7).symm
  · exact (key 6 h6).symm
  · exact (key 5 h5).symm
  · exact (key 4 h4).symm
  · exact (key 3 h3).symm
  · exact (key 2 h2).symm
  · exact (key 1 h1).symm
  · exact (key 0 h0).symm
  · exfalso
    simp only [Fin.isValue, Fin.val_zero, Fin.val_one, Fin.val_two] at *
    have : (y 1).val / 128 = 0 ∨ (y 1).val / 128 = 1 ∨ (y 1).val / 128 = 2 ∨ (y 1).val / 128 = 3 ∨ (y 1).val / 128 = 4
      ∨ (y 1).val / 128 = 5 ∨ (y 1).val / 128 = 6 ∨ (y 1).val / 128 = 7 := by omega
    rcases this with h | h | h | h | h | h | h | h <;> first | exact h0 h | exact h1 h | exact h2 h | exact h3 h | exact h4 h | exact h5 h | exact h6 h | exact h7 h

/-- A load of a whole block reads it. -/
theorem wholeBlk_eq (x : Vec F S128x1024 e) : wholeBlk x = x := by
  funext y
  refine congrArg x (funext (Fin.forall_fin_two.mpr ⟨Fin.ext ?_, Fin.ext ?_⟩))
  · show 0 + 1 * (y 0).val = (y 0).val
    omega
  · show 0 + 1 * (y 1).val = (y 1).val
    omega

/-- A store of a whole block leaves it. -/
theorem read_whole (v : View sig κ sp S128x1024 e) (f : v.ty.Contents (Elt F)) (w : Vec F S128x1024 e)
    (L : List (View.Piece (Elt F) S128x1024 e)) :
    v.read (Elt F) (v.writes (Elt F) f (⟨Rect.unit ![0, 0] S128x1024.size inb_S128x1024_S128x1024_0_0, w⟩ :: L)) = w := by
  funext y
  refine View.read_writes_cons_unit_of_mem v f _ w L y y rfl (Fin.forall_fin_two.mpr ⟨?_, ?_⟩)
  · show (y 0).val = 0 + (y 0).val
    omega
  · show (y 1).val = 0 + (y 1).val
    omega

/-- The same with each payload named by an equation. -/
theorem read_of_tiles (v : View sig κ sp S128x1024 e) (f : v.ty.Contents (Elt F)) (w : Fin 8 → Vec F S128x128 e)
    (L : List (View.Piece (Elt F) S128x1024 e)) (P0 P1 P2 P3 P4 P5 P6 P7 : Vec F S128x128 e)
    (h0 : P0 = w 0) (h1 : P1 = w 1) (h2 : P2 = w 2) (h3 : P3 = w 3) (h4 : P4 = w 4) (h5 : P5 = w 5) (h6 : P6 = w 6)
    (h7 : P7 = w 7) :
    v.read (Elt F) (v.writes (Elt F) f (⟨colRect 7, P7⟩ :: ⟨colRect 6, P6⟩ :: ⟨colRect 5, P5⟩ :: ⟨colRect 4, P4⟩ ::
      ⟨colRect 3, P3⟩ :: ⟨colRect 2, P2⟩ :: ⟨colRect 1, P1⟩ :: ⟨colRect 0, P0⟩ :: L)) = colTiles w := by
  subst h0 h1 h2 h3 h4 h5 h6 h7
  exact read_colTiles v f w L

/-- A load of column tile `p` after the stores `L` reads that tile of `z`. -/
def ReadsTile (v : View sig κ sp S128x1024 e) (L : List (View.Piece (Elt F) S128x1024 e)) (p : Fin 8)
    (z : Vec F S128x1024 e) : Prop :=
  v.readCov (Val := Elt F) L (colRect p).toLoadRect = colTile p z

/-- After the store of the whole of `z` a load of any tile reads it there. -/
theorem ReadsTile.base (v : View sig κ sp S128x1024 e) (p : Fin 8) (z : Vec F S128x1024 e) :
    ReadsTile v [⟨Rect.unit ![0, 0] S128x1024.size inb_S128x1024_S128x1024_0_0, z⟩] p z := by
  unfold ReadsTile View.readCov
  funext x
  exact congrFun (read_whole v _ z []) _

/-- A store into another tile changes nothing of it. -/
theorem ReadsTile.skip {v : View sig κ sp S128x1024 e} {L : List (View.Piece (Elt F) S128x1024 e)} {p : Fin 8}
    {z : Vec F S128x1024 e} (j : Fin 8) (hj : p ≠ j) {w : Vec F S128x128 e} (h : ReadsTile v L p z) :
    ReadsTile v (⟨colRect j, w⟩ :: L) p z := by
  unfold ReadsTile View.readCov at *
  rw [← h]
  funext x
  have h1 : (x 1).val < 128 := (x 1).isLt
  refine (read_cons_col v _ j w L _).trans (if_neg ?_)
  show ¬ (128 * p.val + 1 * (x 1).val) / 128 = j.val
  have : p.val ≠ j.val := fun hh => hj (Fin.ext hh)
  omega

end

end Cert.KernelIdeal.Dil
end
-- ==== Proof.Dil.Point.lean ====
/- The kernel body's branch conditions at a grid point, its staging buffers there, and its two carried scratch blocks. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Dil

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 17) — by arithmetic of the point. -/
theorem hcond0_0 : ∀ t : Fin cfg0.N, cond0_0 (grid0.coords t) ↔ t.val % 17 = 0 :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 1 % 17 := Pipeline.Grid.coords_val t 1 (by decide) rfl
    simp only [cond0_0, e0, e1]
    word_cmp
   : ∀ t : Fin grid0.N, cond0_0 (grid0.coords t) ↔ t.val % 17 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 15 — decided over the grid. -/
theorem hcond0_1 : ∀ t : Fin cfg0.N, cond0_1 (grid0.coords t) ↔ t.val % 17 ≤ 15 :=
  (by decide +kernel : ∀ t : Fin grid0.N, cond0_1 (grid0.coords t) ↔ t.val % 17 ≤ 15)

/-- The condition of the body's `scf.if` 2 (`k0_h3`), from the grid coordinates (the skeleton's scalar
    chain substituted). -/
abbrev cond0_2 (i : grid0.Coords) : Prop := k0_cond3 i = 1#1
/-- It holds at the points ≡ 16 (mod 17) — by arithmetic of the point. -/
theorem hcond0_2 : ∀ t : Fin cfg0.N, cond0_2 (grid0.coords t) ↔ t.val % 17 = 16 :=
  (fun t => by
    have ht : t.val < 68 := Nat.lt_of_lt_of_eq t.isLt N_0
    have e0 : (grid0.coords t 0).val = t.val / 17 % 4 := Pipeline.Grid.coords_val t 0 (by decide) rfl
    have e1 : (grid0.coords t 1).val = t.val / 1 % 17 := Pipeline.Grid.coords_val t 1 (by decide) rfl
    simp only [cond0_2, k0_cond3, e0, e1]
    word_cmp
   : ∀ t : Fin grid0.N, cond0_2 (grid0.coords t) ↔ t.val % 17 = 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1024 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x1024 .f32 := Memref.whole cc0_scratch0
abbrev scM0_1 : Memref sig .tc .vmem S128x1024 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Dil
end
-- ==== Proof.Dil.RunA.lean ====
/- The body at the first point of a residue class: the carried blocks are set to zero first. -/
module

public import proofs.«01_k».proof.Proof.Dil.Tile
public import proofs.«01_k».proof.Proof.Dil.Point

@[expose] public section

set_option maxRecDepth 16384

noncomputable section

namespace Cert.KernelIdeal.Dil

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- A first point: as a middle point with zero carried in, whatever the carried blocks held. -/
theorem runA (c : Dev nD) (i : grid0.Coords)
    (arg2 : Memref sig .tc .vmem S128x1024 .bf16) (harg2 : arg2.IsWhole)
    (arg3 : Memref sig .tc .vmem S128x1024 .bf16) (harg3 : arg3.IsWhole)
    (arg4 : Memref sig .tc .vmem S128x1024 .bf16) (harg4 : arg4.IsWhole)
    (arg5 : Memref sig .tc .vmem S128x1024 .bf16) (harg5 : arg5.IsWhole)
    (arg6 : Memref sig .tc .vmem S128x1024 .bf16) (harg6 : arg6.IsWhole)
    (arg7 : Memref sig .tc .vmem S128x1024 .bf16) (harg7 : arg7.IsWhole)
    (arg8 : Memref sig .tc .vmem S128x128 .f32) (harg8 : arg8.IsWhole)
    (arg9 : Memref sig .tc .vmem S128x128 .f32) (harg9 : arg9.IsWhole)
    (arg10 : Memref sig .tc .vmem S128x1024 .f32) (harg10 : arg10.IsWhole)
    (arg11 : Memref sig .tc .vmem S128x1024 .f32) (harg11 : arg11.IsWhole)
    (arg12 : Memref sig .tc .vmem S128x1024 .f32) (harg12 : arg12.IsWhole)
    (arg13 : Memref sig .tc .vmem S128x1024 .f32) (harg13 : arg13.IsWhole)
    (arg14 : Memref sig .tc .vmem S128x1024 .f32) (harg14 : arg14.IsWhole)
    (hc0 : cond0_0 i) (hc1 : cond0_1 i) (hc2 : ¬cond0_2 i)
    (X : Blocks F)  (E : Set ℕ) (K : PUnit → sProp 𝕄) :
    iprop(owns (c : Thread nD τ) arg2 fullShare X.q ∗ owns (c : Thread nD τ) arg3 fullShare X.kp ∗ owns (c : Thread nD τ) arg4 fullShare X.kc ∗ owns (c : Thread nD τ) arg5 fullShare X.vp ∗ owns (c : Thread nD τ) arg6 fullShare X.vc ∗ owns (c : Thread nD τ) arg7 fullShare X.d ∗ owns (c : Thread nD τ) arg8 fullShare X.lse ∗ owns (c : Thread nD τ) arg9 fullShare X.delta ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg2 fullShare X.q ∗ owns (c : Thread nD τ) arg3 fullShare X.kp ∗ owns (c : Thread nD τ) arg4 fullShare X.kc ∗ owns (c : Thread nD τ) arg5 fullShare X.vp ∗ owns (c : Thread nD τ) arg6 fullShare X.vc ∗ owns (c : Thread nD τ) arg7 fullShare X.d ∗ owns (c : Thread nD τ) arg8 fullShare X.lse ∗ owns (c : Thread nD τ) arg9 fullShare X.delta ∗ owns (c : Thread nD τ) arg10 fullShare (X.dqBlk (BitVec.ofNat 32 (i 1).val)) ∗ owns (c : Thread nD τ) arg11 fullShare (X.dkBlk (BitVec.ofNat 32 (i 1).val) (k0_pay1 (F := F))) ∗ owns (c : Thread nD τ) arg12 fullShare (X.dvBlk (BitVec.ofNat 32 (i 1).val) (k0_pay2 (F := F))) ∗ owns (c : Thread nD τ) arg13 fullShare (X.dkCarry (BitVec.ofNat 32 (i 1).val)) ∗ owns (c : Thread nD τ) arg14 fullShare (X.dvCarry (BitVec.ofNat 32 (i 1).val))) -∗ K ⟨⟩))
      ⊢ wp frame (wpE (defs₀ (F := F)) Variants.none c none) E (cc0_l1_dil4_bwd i arg2 harg2 arg3 harg3 arg4 harg4 arg5 harg5 arg6 harg6 arg7 harg7 arg8 harg8 arg9 harg9 arg10 harg10 arg11 harg11 arg12 harg12 arg13 harg13 arg14 harg14) K := by
  obtain ⟨x0, x1, x2, x3, x4, x5, x6, x7⟩ := X
  simp only [cc0_l1_dil4_bwd_eq_skeleton]; unfold cc0_l1_dil4_bwd_skel
  simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  subst hf0
  subst hf1
  subst hf2
  subst hf3
  subst hf4
  subst hf5
  subst hf6
  subst hf7
  sl_exec (disch := first | sl_exact hc0 | sl_exact hc1 | sl_exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro
    unfold Blocks.dqBlk
    refine read_of_tiles arg10.view _ _ [] _ _ _ _ _ _ _ _ ?_ ?_ ?_ ?_ ?_ ?_ ?_ ?_ <;> rfl
  isplitl [H9]
  · iexists _; isplitr; swap; · iexact H9
    ipureintro
    unfold Blocks.dkBlk
    refine read_of_tiles arg11.view _ _ [] _ _ _ _ _ _ _ _ ?_ ?_ ?_ ?_ ?_ ?_ ?_ ?_
    · exact congrArg (fun t => addf t _) (show ReadsTile arg13.view _ 0 _ from .base _ _ _)
    · exact congrArg (fun t => addf t _) (show ReadsTile arg13.view _ 1 _ from .skip 0 (by decide) (.base _ _ _))
    · exact congrArg (fun t => addf t _) (show ReadsTile arg13.view _ 2 _ from .skip 1 (by decide) (.skip 0 (by decide) (.base _ _ _)))
    · exact congrArg (fun t => addf t _) (show ReadsTile arg13.view _ 3 _ from .skip 2 (by decide) (.skip 1 (by decide) (.skip 0 (by decide) (.base _ _ _))))
    · exact congrArg (fun t => addf t _) (show ReadsTile arg13.view _ 4 _ from .skip 3 (by decide) (.skip 2 (by decide) (.skip 1 (by decide) (.skip 0 (by decide) (.base _ _ _)))))
    · exact congrArg (fun t => addf t _) (show ReadsTile arg13.view _ 5 _ from .skip 4 (by decide) (.skip 3 (by decide) (.skip 2 (by decide) (.skip 1 (by decide) (.skip 0 (by decide) (.base _ _ _))))))
    · exact congrArg (fun t => addf t _) (show ReadsTile arg13.view _ 6 _ from .skip 5 (by decide) (.skip 4 (by decide) (.skip 3 (by decide) (.skip 2 (by decide) (.skip 1 (by decide) (.skip 0 (by decide) (.base _ _ _)))))))
    · exact congrArg (fun t => addf t _) (show ReadsTile arg13.view _ 7 _ from .skip 6 (by decide) (.skip 5 (by decide) (.skip 4 (by decide) (.skip 3 (by decide) (.skip 2 (by decide) (.skip 1 (by decide) (.skip 0 (by decide) (.base _ _ _))))))))
  isplitl [H10]
  · iexists _; isplitr; swap; · iexact H10
    ipureintro
    unfold Blocks.dvBlk
    refine read_of_tiles arg12.view _ _ [] _ _ _ _ _ _ _ _ ?_ ?_ ?_ ?_ ?_ ?_ ?_ ?_
    · exact congrArg (fun t => addf t _) (show ReadsTile arg14.view _ 0 _ from .base _ _ _)
    · exact congrArg (fun t => addf t _) (show ReadsTile arg14.view _ 1 _ from .skip 0 (by decide) (.base _ _ _))
    · exact congrArg (fun t => addf t _) (show ReadsTile arg14.view _ 2 _ from .skip 1 (by decide) (.skip 0 (by decide) (.base _ _ _)))
    · exact congrArg (fun t => addf t _) (show ReadsTile arg14.view _ 3 _ from .skip 2 (by decide) (.skip 1 (by decide) (.skip 0 (by decide) (.base _ _ _))))
    · exact congrArg (fun t => addf t _) (show ReadsTile arg14.view _ 4 _ from .skip 3 (by decide) (.skip 2 (by decide) (.skip 1 (by decide) (.skip 0 (by decide) (.base _ _ _)))))
    · exact congrArg (fun t => addf t _) (show ReadsTile arg14.view _ 5 _ from .skip 4 (by decide) (.skip 3 (by decide) (.skip 2 (by decide) (.skip 1 (by decide) (.skip 0 (by decide) (.base _ _ _))))))
    · exact congrArg (fun t => addf t _) (show ReadsTile arg14.view _ 6 _ from .skip 5 (by decide) (.skip 4 (by decide) (.skip 3 (by decide) (.skip 2 (by decide) (.skip 1 (by decide) (.skip 0 (by decide) (.base _ _ _)))))))
    · exact congrArg (fun t => addf t _) (show ReadsTile arg14.view _ 7 _ from .skip 6 (by decide) (.skip 5 (by decide) (.skip 4 (by decide) (.skip 3 (by decide) (.skip 2 (by decide) (.skip 1 (by decide) (.skip 0 (by decide) (.base _ _ _))))))))
  isplitl [H11]
  · iexists _; isplitr; swap; · iexact H11
    ipureintro
    unfold Blocks.dkCarry
    refine read_of_tiles arg13.view _ _ _ _ _ _ _ _ _ _ _ ?_ ?_ ?_ ?_ ?_ ?_ ?_ ?_ <;> rfl
  iexists _; isplitr; swap; · iexact H12
  ipureintro
  unfold Blocks.dvCarry
  refine read_of_tiles arg14.view _ _ _ _ _ _ _ _ _ _ _ ?_ ?_ ?_ ?_ ?_ ?_ ?_ ?_ <;> rfl

end Cert.KernelIdeal.Dil
end
-- ==== Proof.Dil.RunB.lean ====
/- The body at a point that is neither the first nor the last of its residue class: it reads what the point before left in the two carried blocks, stores the three outputs and leaves its own share. -/
module

public import proofs.«01_k».proof.Proof.Dil.Tile
public import proofs.«01_k».proof.Proof.Dil.Point

@[expose] public section

set_option maxRecDepth 16384

noncomputable section

namespace Cert.KernelIdeal.Dil

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- A middle point: the outputs are the named functions of the blocks read and of the carried blocks, which are replaced by the point's own. -/
theorem runB (c : Dev nD) (i : grid0.Coords)
    (arg2 : Memref sig .tc .vmem S128x1024 .bf16) (harg2 : arg2.IsWhole)
    (arg3 : Memref sig .tc .vmem S128x1024 .bf16) (harg3 : arg3.IsWhole)
    (arg4 : Memref sig .tc .vmem S128x1024 .bf16) (harg4 : arg4.IsWhole)
    (arg5 : Memref sig .tc .vmem S128x1024 .bf16) (harg5 : arg5.IsWhole)
    (arg6 : Memref sig .tc .vmem S128x1024 .bf16) (harg6 : arg6.IsWhole)
    (arg7 : Memref sig .tc .vmem S128x1024 .bf16) (harg7 : arg7.IsWhole)
    (arg8 : Memref sig .tc .vmem S128x128 .f32) (harg8 : arg8.IsWhole)
    (arg9 : Memref sig .tc .vmem S128x128 .f32) (harg9 : arg9.IsWhole)
    (arg10 : Memref sig .tc .vmem S128x1024 .f32) (harg10 : arg10.IsWhole)
    (arg11 : Memref sig .tc .vmem S128x1024 .f32) (harg11 : arg11.IsWhole)
    (arg12 : Memref sig .tc .vmem S128x1024 .f32) (harg12 : arg12.IsWhole)
    (arg13 : Memref sig .tc .vmem S128x1024 .f32) (harg13 : arg13.IsWhole)
    (arg14 : Memref sig .tc .vmem S128x1024 .f32) (harg14 : arg14.IsWhole)
    (hc0 : ¬cond0_0 i) (hc1 : cond0_1 i) (hc2 : ¬cond0_2 i)
    (X : Blocks F) (Ck Cv : Vec F S128x1024 .f32) (E : Set ℕ) (K : PUnit → sProp 𝕄) :
    iprop(owns (c : Thread nD τ) arg2 fullShare X.q ∗ owns (c : Thread nD τ) arg3 fullShare X.kp ∗ owns (c : Thread nD τ) arg4 fullShare X.kc ∗ owns (c : Thread nD τ) arg5 fullShare X.vp ∗ owns (c : Thread nD τ) arg6 fullShare X.vc ∗ owns (c : Thread nD τ) arg7 fullShare X.d ∗ owns (c : Thread nD τ) arg8 fullShare X.lse ∗ owns (c : Thread nD τ) arg9 fullShare X.delta ∗ (∃ d, owns (c : Thread nD τ) arg10 fullShare d) ∗ (∃ d, owns (c : Thread nD τ) arg11 fullShare d) ∗ (∃ d, owns (c : Thread nD τ) arg12 fullShare d) ∗ owns (c : Thread nD τ) arg13 fullShare Ck ∗ owns (c : Thread nD τ) arg14 fullShare Cv
      ∗ (iprop(owns (c : Thread nD τ) arg2 fullShare X.q ∗ owns (c : Thread nD τ) arg3 fullShare X.kp ∗ owns (c : Thread nD τ) arg4 fullShare X.kc ∗ owns (c : Thread nD τ) arg5 fullShare X.vp ∗ owns (c : Thread nD τ) arg6 fullShare X.vc ∗ owns (c : Thread nD τ) arg7 fullShare X.d ∗ owns (c : Thread nD τ) arg8 fullShare X.lse ∗ owns (c : Thread nD τ) arg9 fullShare X.delta ∗ owns (c : Thread nD τ) arg10 fullShare (X.dqBlk (BitVec.ofNat 32 (i 1).val)) ∗ owns (c : Thread nD τ) arg11 fullShare (X.dkBlk (BitVec.ofNat 32 (i 1).val) Ck) ∗ owns (c : Thread nD τ) arg12 fullShare (X.dvBlk (BitVec.ofNat 32 (i 1).val) Cv) ∗ owns (c : Thread nD τ) arg13 fullShare (X.dkCarry (BitVec.ofNat 32 (i 1).val)) ∗ owns (c : Thread nD τ) arg14 fullShare (X.dvCarry (BitVec.ofNat 32 (i 1).val))) -∗ K ⟨⟩))
      ⊢ wp frame (wpE (defs₀ (F := F)) Variants.none c none) E (cc0_l1_dil4_bwd i arg2 harg2 arg3 harg3 arg4 harg4 arg5 harg5 arg6 harg6 arg7 harg7 arg8 harg8 arg9 harg9 arg10 harg10 arg11 harg11 arg12 harg12 arg13 harg13 arg14 harg14) K := by
  obtain ⟨x0, x1, x2, x3, x4, x5, x6, x7⟩ := X
  simp only [cc0_l1_dil4_bwd_eq_skeleton]; unfold cc0_l1_dil4_bwd_skel
  simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  subst hf0
  subst hf1
  subst hf2
  subst hf3
  subst hf4
  subst hf5
  subst hf6
  subst hf7
  subst hf11
  subst hf12
  sl_exec (disch := first | sl_exact hc0 | sl_exact hc1 | sl_exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro
    unfold Blocks.dqBlk
    refine read_of_tiles arg10.view _ _ [] _ _ _ _ _ _ _ _ ?_ ?_ ?_ ?_ ?_ ?_ ?_ ?_ <;> rfl
  isplitl [H9]
  · iexists _; isplitr; swap; · iexact H9
    ipureintro
    unfold Blocks.dkBlk
    refine read_of_tiles arg11.view _ _ [] _ _ _ _ _ _ _ _ ?_ ?_ ?_ ?_ ?_ ?_ ?_ ?_ <;> rfl
  isplitl [H10]
  · iexists _; isplitr; swap; · iexact H10
    ipureintro
    unfold Blocks.dvBlk
    refine read_of_tiles arg12.view _ _ [] _ _ _ _ _ _ _ _ ?_ ?_ ?_ ?_ ?_ ?_ ?_ ?_ <;> rfl
  isplitl [H11]
  · iexists _; isplitr; swap; · iexact H11
    ipureintro
    unfold Blocks.dkCarry
    refine read_of_tiles arg13.view _ _ [] _ _ _ _ _ _ _ _ ?_ ?_ ?_ ?_ ?_ ?_ ?_ ?_ <;> rfl
  iexists _; isplitr; swap; · iexact H12
  ipureintro
  unfold Blocks.dvCarry
  refine read_of_tiles arg14.view _ _ [] _ _ _ _ _ _ _ _ ?_ ?_ ?_ ?_ ?_ ?_ ?_ ?_ <;> rfl
end Cert.KernelIdeal.Dil
end
-- ==== Proof.Dil.RunC.lean ====
/- The body at the last point of a residue class: the carried blocks are the last blocks of the keys' and values' gradients. -/
module

public import proofs.«01_k».proof.Proof.Dil.Tile
public import proofs.«01_k».proof.Proof.Dil.Point

@[expose] public section

set_option maxRecDepth 16384

noncomputable section

namespace Cert.KernelIdeal.Dil

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- A last point: the two gradients are the carried blocks; the queries' gradient is left as it was. -/
theorem runC (c : Dev nD) (i : grid0.Coords)
    (arg2 : Memref sig .tc .vmem S128x1024 .bf16) (harg2 : arg2.IsWhole)
    (arg3 : Memref sig .tc .vmem S128x1024 .bf16) (harg3 : arg3.IsWhole)
    (arg4 : Memref sig .tc .vmem S128x1024 .bf16) (harg4 : arg4.IsWhole)
    (arg5 : Memref sig .tc .vmem S128x1024 .bf16) (harg5 : arg5.IsWhole)
    (arg6 : Memref sig .tc .vmem S128x1024 .bf16) (harg6 : arg6.IsWhole)
    (arg7 : Memref sig .tc .vmem S128x1024 .bf16) (harg7 : arg7.IsWhole)
    (arg8 : Memref sig .tc .vmem S128x128 .f32) (harg8 : arg8.IsWhole)
    (arg9 : Memref sig .tc .vmem S128x128 .f32) (harg9 : arg9.IsWhole)
    (arg10 : Memref sig .tc .vmem S128x1024 .f32) (harg10 : arg10.IsWhole)
    (arg11 : Memref sig .tc .vmem S128x1024 .f32) (harg11 : arg11.IsWhole)
    (arg12 : Memref sig .tc .vmem S128x1024 .f32) (harg12 : arg12.IsWhole)
    (arg13 : Memref sig .tc .vmem S128x1024 .f32) (harg13 : arg13.IsWhole)
    (arg14 : Memref sig .tc .vmem S128x1024 .f32) (harg14 : arg14.IsWhole)
    (hc0 : ¬cond0_0 i) (hc1 : ¬cond0_1 i) (hc2 : cond0_2 i)
    (X : Blocks F) (Ck Cv D : Vec F S128x1024 .f32) (E : Set ℕ) (K : PUnit → sProp 𝕄) :
    iprop(owns (c : Thread nD τ) arg2 fullShare X.q ∗ owns (c : Thread nD τ) arg3 fullShare X.kp ∗ owns (c : Thread nD τ) arg4 fullShare X.kc ∗ owns (c : Thread nD τ) arg5 fullShare X.vp ∗ owns (c : Thread nD τ) arg6 fullShare X.vc ∗ owns (c : Thread nD τ) arg7 fullShare X.d ∗ owns (c : Thread nD τ) arg8 fullShare X.lse ∗ owns (c : Thread nD τ) arg9 fullShare X.delta ∗ owns (c : Thread nD τ) arg10 fullShare D ∗ (∃ d, owns (c : Thread nD τ) arg11 fullShare d) ∗ (∃ d, owns (c : Thread nD τ) arg12 fullShare d) ∗ owns (c : Thread nD τ) arg13 fullShare Ck ∗ owns (c : Thread nD τ) arg14 fullShare Cv
      ∗ (iprop(owns (c : Thread nD τ) arg2 fullShare X.q ∗ owns (c : Thread nD τ) arg3 fullShare X.kp ∗ owns (c : Thread nD τ) arg4 fullShare X.kc ∗ owns (c : Thread nD τ) arg5 fullShare X.vp ∗ owns (c : Thread nD τ) arg6 fullShare X.vc ∗ owns (c : Thread nD τ) arg7 fullShare X.d ∗ owns (c : Thread nD τ) arg8 fullShare X.lse ∗ owns (c : Thread nD τ) arg9 fullShare X.delta ∗ owns (c : Thread nD τ) arg10 fullShare D ∗ owns (c : Thread nD τ) arg11 fullShare Ck ∗ owns (c : Thread nD τ) arg12 fullShare Cv ∗ owns (c : Thread nD τ) arg13 fullShare Ck ∗ owns (c : Thread nD τ) arg14 fullShare Cv) -∗ K ⟨⟩))
      ⊢ wp frame (wpE (defs₀ (F := F)) Variants.none c none) E (cc0_l1_dil4_bwd i arg2 harg2 arg3 harg3 arg4 harg4 arg5 harg5 arg6 harg6 arg7 harg7 arg8 harg8 arg9 harg9 arg10 harg10 arg11 harg11 arg12 harg12 arg13 harg13 arg14 harg14) K := by
  obtain ⟨x0, x1, x2, x3, x4, x5, x6, x7⟩ := X
  simp only [cc0_l1_dil4_bwd_eq_skeleton]; unfold cc0_l1_dil4_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
  subst hf0
  subst hf1
  subst hf2
  subst hf3
  subst hf4
  subst hf5
  subst hf6
  subst hf7
  subst hf8
  subst hf11
  subst hf12
  sl_exec (disch := first | sl_exact hc0 | sl_exact hc1 | sl_exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro; rfl
  isplitl [H9]
  · iexists _; isplitr; swap; · iexact H9
    ipureintro
    exact (read_whole arg11.view _ _ []).trans (wholeBlk_eq _)
  isplitl [H10]
  · iexists _; isplitr; swap; · iexact H10
    ipureintro
    exact (read_whole arg12.view _ _ []).trans (wholeBlk_eq _)
  isplitl [H11]
  · iexists _; isplitr; swap; · iexact H11
    ipureintro; rfl
  iexists _; isplitr; swap; · iexact H12
  ipureintro; rfl
end Cert.KernelIdeal.Dil
end
-- ==== Proof.Dil.Run.lean ====
/- The launch: what every point leaves, and what the three result arrays hold at the end of every run. -/
module

public import Idealize.ShloMosaic.Lib.Claim
public import proofs.«01_k».proof.Proof.Dil.RunA
public import proofs.«01_k».proof.Proof.Dil.RunB
public import proofs.«01_k».proof.Proof.Dil.RunC
public import proofs.«01_k».proof.Proof.Gen.KernelIdeal.Frame
public import proofs.«01_k».proof.Proof.Gen.KernelIdeal.Points
public import proofs.«01_k».proof.Proof.Gen.KernelIdeal.Launch

@[expose] public section

set_option maxRecDepth 16384

noncomputable section

namespace Cert.KernelIdeal.Dil

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- Point number `s`. -/
def pt (s : ℕ) : Fin cfg0.N := ⟨s % 68, lt_of_lt_of_eq (Nat.mod_lt s (by decide)) N_0.symm⟩

theorem pt_val (t : Fin cfg0.N) : pt t.val = t :=
  Fin.ext (Nat.mod_eq_of_lt (lt_of_lt_of_eq t.isLt N_0))

/-- A point's block number within its residue class, as the body reads it. -/
abbrev blkNo (t : Fin cfg0.N) : BitVec 32 := BitVec.ofNat 32 (grid0.coords t 1).val

/-- The blocks point `t` reads. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t⟩

/-- What point number `s` leaves for the keys' gradient of its own block. -/
def carryK (c : Dev nD) (s : ℕ) : Vec F S128x1024 .f32 := (blocksAt m c (pt s)).dkCarry (blkNo (pt s))
/-- What point number `s` leaves for the values' gradient of its own block. -/
def carryV (c : Dev nD) (s : ℕ) : Vec F S128x1024 .f32 := (blocksAt m c (pt s)).dvCarry (blkNo (pt s))

/-- The queries' gradient in its staging buffer after point number `s`; the last point of a class stores none. -/
def dqAt (c : Dev nD) (s : ℕ) : Vec F S128x1024 .f32 :=
  if s % 17 = 16 then (blocksAt m c (pt (s - 1))).dqBlk (blkNo (pt (s - 1))) else (blocksAt m c (pt s)).dqBlk (blkNo (pt s))
/-- The keys' gradient in its staging buffer after point number `s`. -/
def dkAt (c : Dev nD) (s : ℕ) : Vec F S128x1024 .f32 :=
  if s % 17 = 16 then carryK m c (s - 1)
  else (blocksAt m c (pt s)).dkBlk (blkNo (pt s)) (if s % 17 = 0 then k0_pay1 (F := F) else carryK m c (s - 1))
/-- The values' gradient in its staging buffer after point number `s`. -/
def dvAt (c : Dev nD) (s : ℕ) : Vec F S128x1024 .f32 :=
  if s % 17 = 16 then carryV m c (s - 1)
  else (blocksAt m c (pt s)).dvBlk (blkNo (pt s)) (if s % 17 = 0 then k0_pay2 (F := F) else carryV m c (s - 1))

/-- Between points: the two carried blocks, but at the start of a class, where they may be anything. -/
def inv (c : Dev nD) (s : ℕ) : sProp 𝕄 :=
  if s % 17 = 0 then Pipeline.ΦA spec0 c
  else iprop(iprop(owns (c : Thread nD τ) scM0_0 fullShare (carryK m c (s - 1)) ∗ owns (c : Thread nD τ) scM0_1 fullShare (carryV m c (s - 1))) ∗ (∃ r, prngReg c r))

/-- The launch's proof data: the arrays as the region finds them, each input's buffer left at its block, the three
    outputs' at the gradients above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c t.val
    | ⟨9, _⟩ => dkAt m c t.val
    | ⟨10, _⟩ => dvAt m c t.val
  Φ t := inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqAt m c t.val := by dsimp only [dats]
theorem after0_9 (c : Dev nD) (t : Fin cfg0.N) : (dats m 0 c).after 9 t = dkAt m c t.val := by dsimp only [dats]
theorem after0_10 (c : Dev nD) (t : Fin cfg0.N) : (dats m 0 c).after 10 t = dvAt m c t.val := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## When an output's block is written back -/

/-- The queries' gradient is stored at all points but a class's last. -/
theorem idle8 : ∀ t : Fin cfg0.N, cfg0.idle 8 (grid0.coords t) = decide (t.val % 17 = 16) :=
  (by decide +kernel : ∀ t : Fin grid0.N, idle0 8 (grid0.coords t) = decide (t.val % 17 = 16))
theorem live9 : ∀ t : Fin cfg0.N, cfg0.idle 9 (grid0.coords t) = false :=
  (by decide +kernel : ∀ t : Fin grid0.N, idle0 9 (grid0.coords t) = false)
theorem live10 : ∀ t : Fin cfg0.N, cfg0.idle 10 (grid0.coords t) = false :=
  (by decide +kernel : ∀ t : Fin grid0.N, idle0 10 (grid0.coords t) = false)
/-- A class's last two points hold one block of queries, written back after the last. -/
theorem flush8 : ∀ t : Fin cfg0.N, (cfg0.win 8).flush t = !decide (t.val % 17 = 15) :=
  (by decide +kernel : ∀ t : Fin grid0.N, win0_8.flush t = !decide (t.val % 17 = 15))
/-- A class's first two points hold one block of keys, written back after the second. -/
theorem flush9 : ∀ t : Fin cfg0.N, (cfg0.win 9).flush t = !decide (t.val % 17 = 0) :=
  (by decide +kernel : ∀ t : Fin grid0.N, win0_9.flush t = !decide (t.val % 17 = 0))
theorem flush10 : ∀ t : Fin cfg0.N, (cfg0.win 10).flush t = !decide (t.val % 17 = 0) :=
  (by decide +kernel : ∀ t : Fin grid0.N, win0_10.flush t = !decide (t.val % 17 = 0))

/-- At a class's last point the queries' gradient is still the one of the point before. -/
theorem before8_last (c : Dev nD) (t : Fin cfg0.N) (h : t.val % 17 = 16) (d) :
    (dats m 0 c).before 8 t d = dqAt m c t.val := by
  have ht : t.val ≠ 0 := by omega
  have e1 : (t.val - 1) % 17 = 15 := by omega
  rw [(dats m 0 c).before_of_pos 8 t ht ((cfg0.win 8).fetch_out rfl t), flush8]
  simp only [e1, decide_true, Bool.not_true, Bool.false_eq_true, if_false]
  unfold Dat.left
  have hi : cfg0.idle 8 (cfg0.grid.coords ⟨t.val - 1, Nat.lt_of_le_of_lt (Nat.sub_le _ _) t.isLt⟩) = false := by
    rw [idle8]; simp only [e1]; decide
  rw [hi]
  show (dats m 0 c).after 8 ⟨t.val - 1, _⟩ = _
  rw [after0_8]
  unfold dqAt
  rw [if_pos h, if_neg (by show ¬ (t.val - 1) % 17 = 16; omega)]

theorem leaves8 (c : Dev nD) (t : Fin cfg0.N) :
    (dats m 0 c).leavesExact 8 t = owns (c : Thread nD τ) (ms0_8 t) fullShare (dqAt m c t.val) := by
  unfold Dat.leavesExact
  rw [idle8, ← after0_8]
  by_cases h : t.val % 17 = 16
  · have hf : (cfg0.win 8).flush t = true := by rw [flush8]; simp [h]
    simp only [h, decide_true, hf]
  · simp only [h, decide_false]
theorem leaves9 (c : Dev nD) (t : Fin cfg0.N) :
    (dats m 0 c).leavesExact 9 t = owns (c : Thread nD τ) (ms0_9 t) fullShare (dkAt m c t.val) := by
  unfold Dat.leavesExact; rw [live9 t, after0_9]
theorem leaves10 (c : Dev nD) (t : Fin cfg0.N) :
    (dats m 0 c).leavesExact 10 t = owns (c : Thread nD τ) (ms0_10 t) fullShare (dvAt m c t.val) := by
  unfold Dat.leavesExact; rw [live10 t, after0_10]
theorem leaves0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves6 (c : Dev nD) (t : Fin cfg0.N) :
    (dats m 0 c).leavesExact 6 t = owns (c : Thread nD τ) (ms0_6 t) fullShare (iblk m c 6 t) := by
  unfold Dat.leavesExact; rw [liveAt0_6 t, after0_6]
theorem leaves7 (c : Dev nD) (t : Fin cfg0.N) :
    (dats m 0 c).leavesExact 7 t = owns (c : Thread nD τ) (ms0_7 t) fullShare (iblk m c 7 t) := by
  unfold Dat.leavesExact; rw [liveAt0_7 t, after0_7]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 3600000 in
/-- The body at any point: a class's first point, an inner one, or its last. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7,
    leaves0, leaves1, leaves2, leaves3, leaves4, leaves5, leaves6, leaves7, leaves8, leaves9, leaves10]
  rw [show (dats m 0 c).owesAt () t.succ = (dats m 0 c).owesAt () t.castSucc from rfl,
    show (dats m 0 c).Φ t.succ = inv m c (t.val + 1) from rfl, show (dats m 0 c).Φ t.castSucc = inv m c t.val from rfl]
  by_cases h0 : t.val % 17 = 0
  · have e0 : inv m c t.val = Pipeline.ΦA spec0 c := if_pos h0
    have e1 : inv m c (t.val + 1) = iprop(iprop(owns (c : Thread nD τ) scM0_0 fullShare ((blocksAt m c t).dkCarry (blkNo t)) ∗ owns (c : Thread nD τ) scM0_1 fullShare ((blocksAt m c t).dvCarry (blkNo t))) ∗ (∃ r, prngReg c r)) := by
      unfold inv carryK carryV; rw [if_neg (by omega), Nat.add_sub_cancel, pt_val]
    have e2 : dqAt m c t.val = (blocksAt m c t).dqBlk (blkNo t) := by unfold dqAt; rw [if_neg (by omega), pt_val]
    have e3 : dkAt m c t.val = (blocksAt m c t).dkBlk (blkNo t) (k0_pay1 (F := F)) := by
      unfold dkAt; rw [if_neg (by omega), if_pos h0, pt_val]
    have e4 : dvAt m c t.val = (blocksAt m c t).dvBlk (blkNo t) (k0_pay2 (F := F)) := by
      unfold dvAt; rw [if_neg (by omega), if_pos h0, pt_val]
    rw [e0, e1, e2, e3, e4, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ _ _ _ _ ((hcond0_0 t).mpr h0) ((hcond0_1 t).mpr (by omega)) (fun h => absurd ((hcond0_2 t).mp h) (by omega)) (blocksAt m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  have e0 : inv m c t.val = iprop(iprop(owns (c : Thread nD τ) scM0_0 fullShare (carryK m c (t.val - 1)) ∗ owns (c : Thread nD τ) scM0_1 fullShare (carryV m c (t.val - 1))) ∗ (∃ r, prngReg c r)) := if_neg h0
  by_cases h2 : t.val % 17 = 16
  · have e1 : inv m c (t.val + 1) = Pipeline.ΦA spec0 c := if_pos (by omega)
    have e3 : dkAt m c t.val = carryK m c (t.val - 1) := if_pos h2
    have e4 : dvAt m c t.val = carryV m c (t.val - 1) := if_pos h2
    simp only [before8_last m c t h2]
    rw [e0, e1, e3, e4, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runC c (grid0.coords t) _ _ _ _ _ _ _ _ _ _ _ _ _ _ _ _ _ _ _ _ _ _ _ _ _ _ (fun h => h0 ((hcond0_0 t).mp h)) (fun h => absurd ((hcond0_1 t).mp h) (by omega)) ((hcond0_2 t).mpr h2) (blocksAt m c t) (carryK m c (t.val - 1)) (carryV m c (t.val - 1)) (dqAt m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexists _; iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have e1 : inv m c (t.val + 1) = iprop(iprop(owns (c : Thread nD τ) scM0_0 fullShare ((blocksAt m c t).dkCarry (blkNo t)) ∗ owns (c : Thread nD τ) scM0_1 fullShare ((blocksAt m c t).dvCarry (blkNo t))) ∗ (∃ r, prngReg c r)) := by
      unfold inv carryK carryV; rw [if_neg (by omega), Nat.add_sub_cancel, pt_val]
    have e2 : dqAt m c t.val = (blocksAt m c t).dqBlk (blkNo t) := by unfold dqAt; rw [if_neg h2, pt_val]
    have e3 : dkAt m c t.val = (blocksAt m c t).dkBlk (blkNo t) (carryK m c (t.val - 1)) := by
      unfold dkAt; rw [if_neg h2, if_neg h0, pt_val]
    have e4 : dvAt m c t.val = (blocksAt m c t).dvBlk (blkNo t) (carryV m c (t.val - 1)) := by
      unfold dvAt; rw [if_neg h2, if_neg h0, pt_val]
    rw [e0, e1, e2, e3, e4]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) _ _ _ _ _ _ _ _ _ _ _ _ _ _ _ _ _ _ _ _ _ _ _ _ _ _ (fun h => h0 ((hcond0_0 t).mp h)) ((hcond0_1 t).mpr (by omega)) (fun h => h2 ((hcond0_2 t).mp h)) (blocksAt m c t) (carryK m c (t.val - 1)) (carryV m c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t` is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Dil
end
-- ==== Proof.Dil.RunEnd.lean ====
/- Every run of the kernel ends, with the result arrays at the gradients. -/
module

public import proofs.«01_k».proof.Proof.Dil.Run

@[expose] public section

set_option maxRecDepth 16384

noncomputable section

namespace Cert.KernelIdeal.Dil

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- After the last point the carried blocks may be anything. -/
theorem inv_last (c : Dev nD) : (dats m 0 c).Φ (Fin.last cfg0.N) = Pipeline.ΦA spec0 c := by
  show inv m c (Fin.last cfg0.N).val = _
  unfold inv
  rw [if_pos (by rw [Fin.val_last, show cfg0.N = grid0.N from rfl, N_0])]

set_option backward.isDefEq.respectTransparency.types false in
/-- Every run ends, with the result arrays at the gradients written back block by block, every other buffer as the
    region found it and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun _ => .rfl) (hout := fun c => Entails.of_eq (inv_last m c))
    (hQ' := fun _ h => h)

/-- The frame: every run ends with the arguments unchanged and every counter at zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Dil
end
-- ==== Proof.Dil.Block1.lean ====
/- The tiles of a grid point over the reals: every operation on two heads' tiles, on coercions of real ones. -/
module

public import proofs.«01_k».proof.Proof.Dil.Tile
public import proofs.«01_k».proof.Proof.Dil.Model
public import Idealize.ShloMosaic.Lib.ValueIdx
public import Idealize.ShloMosaic.Lib.Pipeline.Value
public import Idealize.ShloMosaic.Lib.WordCmp

@[expose] public section

noncomputable section

namespace Cert.KernelIdeal.Dil

open Cert.KernelIdeal.Gen
open Idealize.ShloMosaic

/-! ## Indices -/

abbrev at128x128 (a b : Fin 128) : S128x128.Idx := fun x => match x with
  | ⟨0, _⟩ => a
  | ⟨1, _⟩ => b
abbrev at256x128 (a : Fin 256) (b : Fin 128) : S256x128.Idx := fun x => match x with
  | ⟨0, _⟩ => a
  | ⟨1, _⟩ => b
abbrev at256x256 (a b : Fin 256) : S256x256.Idx := fun x => match x with
  | ⟨0, _⟩ => a
  | ⟨1, _⟩ => b
abbrev at128x256 (a : Fin 128) (b : Fin 256) : S128x256.Idx := fun x => match x with
  | ⟨0, _⟩ => a
  | ⟨1, _⟩ => b
abbrev at128x1024 (a : Fin 128) (b : Fin 1024) : S128x1024.Idx := fun x => match x with
  | ⟨0, _⟩ => a
  | ⟨1, _⟩ => b
abbrev at256x1024 (a : Fin 256) (b : Fin 1024) : S256x1024.Idx := fun x => match x with
  | ⟨0, _⟩ => a
  | ⟨1, _⟩ => b
abbrev at1x128 (b : Fin 128) : S1x128.Idx := fun x => match x with
  | ⟨0, _⟩ => ⟨0, Nat.one_pos⟩
  | ⟨1, _⟩ => b
abbrev at1x256 (b : Fin 256) : S1x256.Idx := fun x => match x with
  | ⟨0, _⟩ => ⟨0, Nat.one_pos⟩
  | ⟨1, _⟩ => b

/-! ## Sums over two heads -/

/-- A sum over a tile's columns, head by head. -/
theorem sum_cols (f : ℕ → ℕ → ℝ) :
    ∑ c : Fin 128, f (c.val / 64) (c.val % 64) = ∑ d : Fin 64, f 0 d.val + ∑ d : Fin 64, f 1 d.val := by
  rw [show (∑ c : Fin 128, f (c.val / 64) (c.val % 64)) = ∑ c : Fin (64 + 64), f (c.val / 64) (c.val % 64) from rfl, Fin.sum_univ_add]
  refine congrArg₂ (· + ·) (Finset.sum_congr rfl fun d _ => ?_) (Finset.sum_congr rfl fun d _ => ?_)
  · have hd := d.isLt
    exact congrArg₂ f (by show d.val / 64 = 0; omega) (by show d.val % 64 = d.val; omega)
  · have hd := d.isLt
    exact congrArg₂ f (by show (64 + d.val) / 64 = 1; omega) (by show (64 + d.val) % 64 = d.val; omega)

/-- A sum over the two heads' rows, head by head. -/
theorem sum_rows (f : ℕ → ℕ → ℝ) :
    ∑ c : Fin 256, f (c.val / 128) (c.val % 128) = ∑ d : Fin 128, f 0 d.val + ∑ d : Fin 128, f 1 d.val := by
  rw [show (∑ c : Fin 256, f (c.val / 128) (c.val % 128)) = ∑ c : Fin (128 + 128), f (c.val / 128) (c.val % 128) from rfl,
    Fin.sum_univ_add]
  refine congrArg₂ (· + ·) (Finset.sum_congr rfl fun d _ => ?_) (Finset.sum_congr rfl fun d _ => ?_)
  · have hd := d.isLt
    exact congrArg₂ f (by show d.val / 128 = 0; omega) (by show d.val % 128 = d.val; omega)
  · have hd := d.isLt
    exact congrArg₂ f (by show (128 + d.val) / 128 = 1; omega) (by show (128 + d.val) % 128 = d.val; omega)

theorem lit8 : Ideal.ofBits .f32 0x3E000000#32 = ((1 / 8 : ℝ) : EReal) := by
  simp [Ideal.ofBits, Ideal.ieee]
  rw [← EReal.coe_mul]
  norm_num
theorem litBot : Ideal.ofBits .f32 0xFF800000#32 = ⊥ := by simp [Ideal.ofBits, Ideal.ieee]
theorem litZero16 : Ideal.ofBits .bf16 0x0000#16 = 0 := by simp [Ideal.ofBits, Ideal.ieee]

theorem sel_ofBool {α : Type} (p : Prop) [Decidable p] (a b : α) :
    Scalar.select (BitVec.ofBool (decide p)) a b = if p then a else b := by
  by_cases h : p
  · rw [if_pos h, decide_eq_true h]; rfl
  · rw [if_neg h, decide_eq_false h]; rfl

theorem and_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]
theorem or_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem sge_ofNat {a b : ℕ} (ha : a < 2 ^ 31) (hb : b < 2 ^ 31) :
    IntOp.cmpi .sge (BitVec.ofNat 32 a) (BitVec.ofNat 32 b) = BitVec.ofBool (decide (b ≤ a)) := by
  rw [WordCmp.cmpi_sge_eq, WordCmp.toInt_ofNat_of_lt hb, WordCmp.toInt_ofNat_of_lt ha]
  exact congrArg _ (decide_eq_decide.mpr (by omega))
theorem slt_ofNat {a b : ℕ} (ha : a < 2 ^ 31) (hb : b < 2 ^ 31) :
    IntOp.cmpi .slt (BitVec.ofNat 32 a) (BitVec.ofNat 32 b) = BitVec.ofBool (decide (a < b)) := by
  rw [WordCmp.cmpi_slt_eq, WordCmp.toInt_ofNat_of_lt ha, WordCmp.toInt_ofNat_of_lt hb]
  exact congrArg _ (decide_eq_decide.mpr (by omega))
theorem sgt_ofNat {a b : ℕ} (ha : a < 2 ^ 31) (hb : b < 2 ^ 31) :
    IntOp.cmpi .sgt (BitVec.ofNat 32 a) (BitVec.ofNat 32 b) = BitVec.ofBool (decide (b < a)) := by
  rw [WordCmp.cmpi_sgt_eq, WordCmp.toInt_ofNat_of_lt hb, WordCmp.toInt_ofNat_of_lt ha]
  exact congrArg _ (decide_eq_decide.mpr (by omega))

/-! ## Tiles -/

theorem twoHeads_apply (x : FVec Ideal S128x128 .bf16) (j : S256x128.Idx) :
    twoHeads x j = if (j 1).val / 64 = (j 0).val / 128 then x (at128x128 ⟨(j 0).val % 128, Nat.mod_lt _ (by decide)⟩ ⟨(j 1).val, (j 1).isLt⟩) else 0 := by
  have h0 : (j 0).val < 256 := (j 0).isLt
  have h1 : (j 1).val < 128 := (j 1).isLt
  unfold twoHeads
  by_cases hc : (j 0).val < 128
  · rw [concatenate_pair_apply_left (s₁ := S128x128) (s₂ := S128x128) 0 _ _ _ j rfl (at128x128 ⟨(j 0).val, hc⟩ ⟨(j 1).val, h1⟩)
      (fun b => match b with
        | ⟨0, _⟩ => rfl
        | ⟨1, _⟩ => rfl)]
    show Scalar.select (IntOp.cmpi .slt (BitVec.ofNat 32 (0 * 128 + (j 1).val)) (BitVec.ofNat 32 64)) _ (Ideal.ofBits .bf16 0x0000#16) = _
    rw [slt_ofNat (by omega) (by omega), sel_ofBool, litZero16]
    have e : (⟨(j 0).val, hc⟩ : Fin 128) = ⟨(j 0).val % 128, Nat.mod_lt _ (by decide)⟩ := Fin.ext (Nat.mod_eq_of_lt hc).symm
    rw [e]
    exact if_congr (by omega) rfl rfl
  · rw [concatenate_pair_apply_right (s₁ := S128x128) (s₂ := S128x128) 0 _ _ _ j rfl rfl (at128x128 ⟨(j 0).val - 128, by omega⟩ ⟨(j 1).val, h1⟩)
      (fun b hb => match b with
        | ⟨0, _⟩ => absurd rfl hb
        | ⟨1, _⟩ => rfl)
      (by show (j 0).val - 128 + 128 = (j 0).val; omega)]
    show Scalar.select (IntOp.cmpi .sge (BitVec.ofNat 32 (0 * 128 + (j 1).val)) (BitVec.ofNat 32 64)) _ (Ideal.ofBits .bf16 0x0000#16) = _
    rw [sge_ofNat (by omega) (by omega), sel_ofBool, litZero16]
    have e : (⟨(j 0).val - 128, by omega⟩ : Fin 128) = ⟨(j 0).val % 128, Nat.mod_lt _ (by decide)⟩ := Fin.ext (by show (j 0).val - 128 = (j 0).val % 128; omega)
    rw [e]
    exact if_congr (by omega) rfl rfl

theorem statRow_apply (p : Fin 8) (y : FVec Ideal S128x128 .f32) (j : S1x256.Idx) :
    statRow p y j = y (at128x128 ⟨2 * p.val + (j 1).val / 128, by have h : (j 1).val < 256 := (j 1).isLt; omega⟩
      ⟨(j 1).val % 128, Nat.mod_lt _ (by decide)⟩) := by
  have h1 : (j 1).val < 256 := (j 1).isLt
  have h0 : (j 0).val < 1 := (j 0).isLt
  unfold statRow
  by_cases hc : (j 1).val < 128
  · rw [concatenate_pair_apply_left (s₁ := S1x128) (s₂ := S1x128) 1 _ _ _ j rfl (at1x128 ⟨(j 1).val, hc⟩)
      (fun b => match b with
        | ⟨0, _⟩ => by show 0 = (j 0).val; omega
        | ⟨1, _⟩ => rfl)]
    refine extractStridedSlice_apply _ _ _ _ _ fun a => ?_
    match a with
    | ⟨0, _⟩ => show 2 * p.val + (j 1).val / 128 = 2 * p.val + 0; omega
    | ⟨1, _⟩ => show (j 1).val % 128 = 0 + (j 1).val; omega
  · rw [concatenate_pair_apply_right (s₁ := S1x128) (s₂ := S1x128) 1 _ _ _ j rfl rfl (at1x128 ⟨(j 1).val - 128, by omega⟩)
      (fun b hb => match b with
        | ⟨0, _⟩ => by show 0 = (j 0).val; omega
        | ⟨1, _⟩ => absurd rfl hb)
      (by show (j 1).val - 128 + 128 = (j 1).val; omega)]
    refine extractStridedSlice_apply _ _ _ _ _ fun a => ?_
    match a with
    | ⟨0, _⟩ => show 2 * p.val + (j 1).val / 128 = 2 * p.val + 1 + 0; omega
    | ⟨1, _⟩ => show (j 1).val % 128 = 0 + ((j 1).val - 128); omega

/-! ## Products -/

/-- The keys' products with the two heads' rows. -/
theorem keyDot_apply {kt : FVec Ideal S256x128 .bf16} {x : FVec Ideal S128x128 .bf16} {K Q : ℕ → ℕ → ℕ → ℝ}
    (hk : ∀ i, kt i = (K (i 0).val ((i 1).val / 64) ((i 1).val % 64) : EReal))
    (hx : ∀ i, x i = (Q (i 0).val ((i 1).val / 64) ((i 1).val % 64) : EReal)) (j : S256x256.Idx) :
    keyDot kt x j
      = ((∑ d : Fin 64, K (j 0).val ((j 1).val / 128) d.val * Q ((j 1).val % 128) ((j 1).val / 128) d.val : ℝ) : EReal) := by
  have h1 : (j 1).val < 256 := (j 1).isLt
  unfold keyDot matmul
  rw [Ideal.matmul_constant_zero_apply, ← Equiv.sum_comp (ValueIdx.contrEquiv1 dot_S256x128_S256x128_S256x256_1_1_0_0_n_n 128 rfl rfl).symm]
  have e : ∀ k : Fin 128, kt (dot_S256x128_S256x128_S256x256_1_1_0_0_n_n.lhsIdx j ((ValueIdx.contrEquiv1 dot_S256x128_S256x128_S256x256_1_1_0_0_n_n 128 rfl rfl).symm k))
      * twoHeads x (dot_S256x128_S256x128_S256x256_1_1_0_0_n_n.rhsIdx j ((ValueIdx.contrEquiv1 dot_S256x128_S256x128_S256x256_1_1_0_0_n_n 128 rfl rfl).symm k))
      = ((fun (h d : ℕ) => K (j 0).val h d * (if h = (j 1).val / 128 then Q ((j 1).val % 128) h d else 0)) (k.val / 64) (k.val % 64) : ℝ) := by
    intro k
    have hv := ValueIdx.contrEquiv1_symm_val dot_S256x128_S256x128_S256x256_1_1_0_0_n_n 128 rfl rfl k
    have el : dot_S256x128_S256x128_S256x256_1_1_0_0_n_n.lhsIdx j ((ValueIdx.contrEquiv1 dot_S256x128_S256x128_S256x256_1_1_0_0_n_n 128 rfl rfl).symm k)
        = at256x128 ⟨(j 0).val, (j 0).isLt⟩ k := funext fun a => Fin.ext (
      match a with
      | ⟨0, _⟩ => by
        unfold DotDims.lhsIdx
        rw [dif_neg (show ¬(⟨0, by decide⟩ : Fin S256x128.rank) ∈ dot_S256x128_S256x128_S256x256_1_1_0_0_n_n.lhsBatch by decide),
          dif_pos (show (⟨0, by decide⟩ : Fin S256x128.rank) ∈ dot_S256x128_S256x128_S256x256_1_1_0_0_n_n.lhsNonContracting by decide)]
        rfl
      | ⟨1, _⟩ => (dot_S256x128_S256x128_S256x256_1_1_0_0_n_n.lhsIdx_val_of_single rfl j _).trans hv)
    have er : dot_S256x128_S256x128_S256x256_1_1_0_0_n_n.rhsIdx j ((ValueIdx.contrEquiv1 dot_S256x128_S256x128_S256x256_1_1_0_0_n_n 128 rfl rfl).symm k)
        = at256x128 ⟨(j 1).val, (j 1).isLt⟩ k := funext fun a => Fin.ext (
      match a with
      | ⟨0, _⟩ => by
        unfold DotDims.rhsIdx
        rw [dif_neg (show ¬(⟨0, by decide⟩ : Fin S256x128.rank) ∈ dot_S256x128_S256x128_S256x256_1_1_0_0_n_n.rhsBatch by decide),
          dif_pos (show (⟨0, by decide⟩ : Fin S256x128.rank) ∈ dot_S256x128_S256x128_S256x256_1_1_0_0_n_n.rhsNonContracting by decide)]
        rfl
      | ⟨1, _⟩ => (dot_S256x128_S256x128_S256x256_1_1_0_0_n_n.rhsIdx_val_of_single rfl j _).trans hv)
    rw [el, er, hk, twoHeads_apply, hx, EReal.coe_mul]
    refine congrArg _ ?_
    show (if k.val / 64 = (j 1).val / 128 then _ else (0 : EReal)) = _
    split <;> rfl
  rw [Finset.sum_congr rfl fun k _ => e k, sum_coe]
  refine congrArg Real.toEReal ((sum_cols fun h d => K (j 0).val h d * (if h = (j 1).val / 128 then Q ((j 1).val % 128) h d else 0)).trans ?_)
  have h : (j 1).val / 128 = 0 ∨ (j 1).val / 128 = 1 := by omega
  rcases h with h | h <;> simp [h]

/-- A matrix over the two heads' rows, times the rows, head by head. -/
theorem keyGrad_apply {w : FVec Ideal S256x256 .f32} {x : FVec Ideal S128x128 .bf16} {W : ℕ → ℕ → ℕ → ℝ} {Q : ℕ → ℕ → ℕ → ℝ}
    (hw : ∀ i, w i = (W (i 0).val ((i 1).val / 128) ((i 1).val % 128) : EReal))
    (hx : ∀ i, x i = (Q (i 0).val ((i 1).val / 64) ((i 1).val % 64) : EReal)) (j : S256x128.Idx) :
    keyGrad w x j
      = ((∑ i : Fin 128, W (j 0).val ((j 1).val / 64) i.val * Q i.val ((j 1).val / 64) ((j 1).val % 64) : ℝ) : EReal) := by
  have h1 : (j 1).val < 128 := (j 1).isLt
  unfold keyGrad matmul
  rw [Ideal.matmul_constant_zero_apply, ← Equiv.sum_comp (ValueIdx.contrEquiv1 dot_S256x256_S256x128_S256x128_1_0_0_1_n_n 256 rfl rfl).symm]
  have e : ∀ k : Fin 256, truncf .bf16 w bitsLt_bf16_f32 (dot_S256x256_S256x128_S256x128_1_0_0_1_n_n.lhsIdx j ((ValueIdx.contrEquiv1 dot_S256x256_S256x128_S256x128_1_0_0_1_n_n 256 rfl rfl).symm k))
      * twoHeads x (dot_S256x256_S256x128_S256x128_1_0_0_1_n_n.rhsIdx j ((ValueIdx.contrEquiv1 dot_S256x256_S256x128_S256x128_1_0_0_1_n_n 256 rfl rfl).symm k))
      = ((fun (h i : ℕ) => W (j 0).val h i * (if (j 1).val / 64 = h then Q i ((j 1).val / 64) ((j 1).val % 64) else 0)) (k.val / 128) (k.val % 128) : ℝ) := by
    intro k
    have hv := ValueIdx.contrEquiv1_symm_val dot_S256x256_S256x128_S256x128_1_0_0_1_n_n 256 rfl rfl k
    have el : dot_S256x256_S256x128_S256x128_1_0_0_1_n_n.lhsIdx j ((ValueIdx.contrEquiv1 dot_S256x256_S256x128_S256x128_1_0_0_1_n_n 256 rfl rfl).symm k)
        = at256x256 ⟨(j 0).val, (j 0).isLt⟩ k := funext fun a => Fin.ext (
      match a with
      | ⟨0, _⟩ => by
        unfold DotDims.lhsIdx
        rw [dif_neg (show ¬(⟨0, by decide⟩ : Fin S256x256.rank) ∈ dot_S256x256_S256x128_S256x128_1_0_0_1_n_n.lhsBatch by decide),
          dif_pos (show (⟨0, by decide⟩ : Fin S256x256.rank) ∈ dot_S256x256_S256x128_S256x128_1_0_0_1_n_n.lhsNonContracting by decide)]
        rfl
      | ⟨1, _⟩ => (dot_S256x256_S256x128_S256x128_1_0_0_1_n_n.lhsIdx_val_of_single rfl j _).trans hv)
    have er : dot_S256x256_S256x128_S256x128_1_0_0_1_n_n.rhsIdx j ((ValueIdx.contrEquiv1 dot_S256x256_S256x128_S256x128_1_0_0_1_n_n 256 rfl rfl).symm k)
        = at256x128 k ⟨(j 1).val, (j 1).isLt⟩ := funext fun a => Fin.ext (
      match a with
      | ⟨0, _⟩ => (dot_S256x256_S256x128_S256x128_1_0_0_1_n_n.rhsIdx_val_of_single rfl j _).trans hv
      | ⟨1, _⟩ => by
        unfold DotDims.rhsIdx
        rw [dif_neg (show ¬(⟨1, by decide⟩ : Fin S256x128.rank) ∈ dot_S256x256_S256x128_S256x128_1_0_0_1_n_n.rhsBatch by decide),
          dif_pos (show (⟨1, by decide⟩ : Fin S256x128.rank) ∈ dot_S256x256_S256x128_S256x128_1_0_0_1_n_n.rhsNonContracting by decide)]
        rfl)
    rw [el, er, twoHeads_apply, hx, EReal.coe_mul]
    refine congrArg₂ (· * ·) (hw _) ?_
    show (if (j 1).val / 64 = k.val / 128 then _ else (0 : EReal)) = _
    split <;> rfl
  rw [Finset.sum_congr rfl fun k _ => e k, sum_coe]
  refine congrArg Real.toEReal ((sum_rows fun h i => W (j 0).val h i * (if (j 1).val / 64 = h then Q i ((j 1).val / 64) ((j 1).val % 64) else 0)).trans ?_)
  have h : (j 1).val / 64 = 0 ∨ (j 1).val / 64 = 1 := by omega
  rcases h with h | h <;> simp [h]

/-- The keys' rows times a matrix over keys and the two heads' rows, back at one row per query. -/
theorem queryTile_apply {kt : FVec Ideal S256x128 .bf16} {ds : FVec Ideal S256x256 .f32} {K : ℕ → ℕ → ℕ → ℝ} {D : ℕ → ℕ → ℕ → ℝ}
    (hk : ∀ i, kt i = (K (i 0).val ((i 1).val / 64) ((i 1).val % 64) : EReal))
    (hd : ∀ i, ds i = (D (i 0).val ((i 1).val / 128) ((i 1).val % 128) : EReal)) (j : S128x128.Idx) :
    queryTile kt ds j
      = ((∑ k : Fin 256, K k.val ((j 1).val / 64) ((j 1).val % 64) * D k.val ((j 1).val / 64) (j 0).val : ℝ) : EReal) := by
  have h0 : (j 0).val < 128 := (j 0).isLt
  have h1 : (j 1).val < 128 := (j 1).isLt
  have M : ∀ i : S128x256.Idx, matmul dot_S256x128_S256x256_S128x256_0_0_1_1_n_n none kt (truncf .bf16 ds bitsLt_bf16_f32)
      (constant S128x256 .f32 0x00000000#32) i
      = ((∑ k : Fin 256, K k.val ((i 0).val / 64) ((i 0).val % 64) * D k.val ((i 1).val / 128) ((i 1).val % 128) : ℝ) : EReal) := by
    intro i
    unfold matmul
    rw [Ideal.matmul_constant_zero_apply, ← Equiv.sum_comp (ValueIdx.contrEquiv1 dot_S256x128_S256x256_S128x256_0_0_1_1_n_n 256 rfl rfl).symm,
      ← sum_coe]
    refine Finset.sum_congr rfl fun k _ => ?_
    have hv := ValueIdx.contrEquiv1_symm_val dot_S256x128_S256x256_S128x256_0_0_1_1_n_n 256 rfl rfl k
    have el : dot_S256x128_S256x256_S128x256_0_0_1_1_n_n.lhsIdx i ((ValueIdx.contrEquiv1 dot_S256x128_S256x256_S128x256_0_0_1_1_n_n 256 rfl rfl).symm k)
        = at256x128 k ⟨(i 0).val, (i 0).isLt⟩ := funext fun a => Fin.ext (
      match a with
      | ⟨0, _⟩ => (dot_S256x128_S256x256_S128x256_0_0_1_1_n_n.lhsIdx_val_of_single rfl i _).trans hv
      | ⟨1, _⟩ => by
        unfold DotDims.lhsIdx
        rw [dif_neg (show ¬(⟨1, by decide⟩ : Fin S256x128.rank) ∈ dot_S256x128_S256x256_S128x256_0_0_1_1_n_n.lhsBatch by decide),
          dif_pos (show (⟨1, by decide⟩ : Fin S256x128.rank) ∈ dot_S256x128_S256x256_S128x256_0_0_1_1_n_n.lhsNonContracting by decide)]
        rfl)
    have er : dot_S256x128_S256x256_S128x256_0_0_1_1_n_n.rhsIdx i ((ValueIdx.contrEquiv1 dot_S256x128_S256x256_S128x256_0_0_1_1_n_n 256 rfl rfl).symm k)
        = at256x256 k ⟨(i 1).val, (i 1).isLt⟩ := funext fun a => Fin.ext (
      match a with
      | ⟨0, _⟩ => (dot_S256x128_S256x256_S128x256_0_0_1_1_n_n.rhsIdx_val_of_single rfl i _).trans hv
      | ⟨1, _⟩ => by
        unfold DotDims.rhsIdx
        rw [dif_neg (show ¬(⟨1, by decide⟩ : Fin S256x256.rank) ∈ dot_S256x128_S256x256_S128x256_0_0_1_1_n_n.rhsBatch by decide),
          dif_pos (show (⟨1, by decide⟩ : Fin S256x256.rank) ∈ dot_S256x128_S256x256_S128x256_0_0_1_1_n_n.rhsNonContracting by decide)]
        rfl)
    rw [el, er, hk, EReal.coe_mul]
    exact congrArg _ (hd _)
  unfold queryTile k0_pay43
  rw [transpose_apply _ _ _ j (at128x128 ⟨(j 1).val, h1⟩ ⟨(j 0).val, h0⟩) (fun b => match b with
    | ⟨0, _⟩ => rfl
    | ⟨1, _⟩ => rfl)]
  show Scalar.select (IntOp.cmpi .slt (BitVec.ofNat 32 (0 * 128 + (j 1).val)) (BitVec.ofNat 32 64)) _ _ = _
  rw [slt_ofNat (by omega) (by omega), sel_ofBool,
    extractStridedSlice_apply _ _ slices_S128x256_o0_0_S128x128 _ (at128x256 ⟨(j 1).val, h1⟩ ⟨(j 0).val, by omega⟩) (fun a => match a with
      | ⟨0, _⟩ => by show (j 1).val = 0 + (j 1).val; omega
      | ⟨1, _⟩ => by show (j 0).val = 0 + (j 0).val; omega),
    extractStridedSlice_apply _ _ slices_S128x256_o0_128_S128x128 _ (at128x256 ⟨(j 1).val, h1⟩ ⟨128 + (j 0).val, by omega⟩) (fun a => match a with
      | ⟨0, _⟩ => by show (j 1).val = 0 + (j 1).val; omega
      | ⟨1, _⟩ => by show 128 + (j 0).val = 128 + (j 0).val; rfl), M, M]
  dsimp only
  split
  · congr 1
    refine Finset.sum_congr rfl fun k _ => ?_
    congr 2 <;> omega
  · congr 1
    refine Finset.sum_congr rfl fun k _ => ?_
    congr 2 <;> omega

end Cert.KernelIdeal.Dil
-- ==== Proof.Dil.Block2.lean ====
/- A grid point over the reals: the gradients it computes are its share of the model's. -/
module

public import proofs.«01_k».proof.Proof.Dil.Block1

@[expose] public section

noncomputable section

namespace Cert.KernelIdeal.Dil

open Cert.KernelIdeal.Gen
open Idealize.ShloMosaic

/-- The blocks of a point are those of class `r` and block `n` of the arguments. -/
structure BlockCoe (A : RealArgs) (r n : ℕ) (X : Blocks Ideal) : Prop where
  q : ∀ i, X.q i = (A.q r (n * 128 + (i 0).val) ((i 1).val / 64) ((i 1).val % 64) : EReal)
  kp : ∀ i, X.kp i = (A.k r ((n - 1) * 128 + (i 0).val) ((i 1).val / 64) ((i 1).val % 64) : EReal)
  kc : ∀ i, X.kc i = (A.k r (n * 128 + (i 0).val) ((i 1).val / 64) ((i 1).val % 64) : EReal)
  vp : ∀ i, X.vp i = (A.v r ((n - 1) * 128 + (i 0).val) ((i 1).val / 64) ((i 1).val % 64) : EReal)
  vc : ∀ i, X.vc i = (A.v r (n * 128 + (i 0).val) ((i 1).val / 64) ((i 1).val % 64) : EReal)
  d : ∀ i, X.d i = (A.g r (n * 128 + (i 0).val) ((i 1).val / 64) ((i 1).val % 64) : EReal)
  lse : ∀ i : S128x128.Idx, (i 1).val < 16 →
    X.lse i = (lsum (on n (i 0).val) (A.sc r n (i 1).val (i 0).val) : EReal)
  delta : ∀ i : S128x128.Idx, (i 1).val < 16 →
    X.delta i = (mean (on n (i 0).val) (A.sc r n (i 1).val (i 0).val) (A.dp r n (i 1).val (i 0).val) - A.dl r n (i 1).val (i 0).val : ℝ)

/-- The 256 keys a point reads: at the first block the previous ones are the block itself. -/
def near (A : ℕ → ℕ → ℕ → ℕ → ℝ) (r n h j d : ℕ) : ℝ :=
  if j < 128 then A r ((n - 1) * 128 + j) h d else A r (n * 128 + (j - 128)) h d

theorem near_eq (A : ℕ → ℕ → ℕ → ℕ → ℝ) (r n h : ℕ) (j : Fin 256) (d : ℕ) {i : ℕ} (hon : on n i j) :
    near A r n h j.val d = win A r n h j.val d := by
  have h2 := hon.2
  unfold near win
  rw [if_pos (show 128 ≤ n * 128 + j.val by omega)]
  split <;> congr 1 <;> omega

/-- A pair's head and feature at a column. -/
abbrev hd (p : Fin 8) (c : ℕ) : ℕ := 2 * p.val + c

theorem wholeStat_eq (x : Vec Ideal S128x128 .f32) : wholeStat x = x := by
  funext y
  refine congrArg x (funext (Fin.forall_fin_two.mpr ⟨Fin.ext ?_, Fin.ext ?_⟩))
  · show 0 + 1 * (y 0).val = (y 0).val
    omega
  · show 0 + 1 * (y 1).val = (y 1).val
    omega

/-- Two blocks one under the other. -/
theorem stack_apply (a b : Vec Ideal S128x1024 .bf16) (y : S256x1024.Idx) :
    k0_pay5 a b y = if h : (y 0).val < 128 then a (at128x1024 ⟨(y 0).val, h⟩ ⟨(y 1).val, (y 1).isLt⟩)
      else b (at128x1024 ⟨(y 0).val - 128, by have h : (y 0).val < 256 := (y 0).isLt; omega⟩ ⟨(y 1).val, (y 1).isLt⟩) := by
  have h0 : (y 0).val < 256 := (y 0).isLt
  unfold k0_pay5
  split
  · rename_i h
    rw [concatenate_pair_apply_left (s₁ := S128x1024) (s₂ := S128x1024) 0 _ _ _ y rfl (at128x1024 ⟨(y 0).val, h⟩ ⟨(y 1).val, (y 1).isLt⟩)
      (fun b => match b with
        | ⟨0, _⟩ => rfl
        | ⟨1, _⟩ => rfl)]
    exact shapeCast_apply _ _ _ _ rfl
  · rename_i h
    rw [concatenate_pair_apply_right (s₁ := S128x1024) (s₂ := S128x1024) 0 _ _ _ y rfl rfl
      (at128x1024 ⟨(y 0).val - 128, by omega⟩ ⟨(y 1).val, (y 1).isLt⟩)
      (fun b hb => match b with
        | ⟨0, _⟩ => absurd rfl hb
        | ⟨1, _⟩ => rfl)
      (by show (y 0).val - 128 + 128 = (y 0).val; omega)]
    exact shapeCast_apply _ _ _ _ rfl

theorem pair_apply {B : ℕ → ℕ → ℕ → ℕ → ℝ} {r n : ℕ} {a b : Vec Ideal S128x1024 .bf16}
    (ha : ∀ i, a i = (B r ((n - 1) * 128 + (i 0).val) ((i 1).val / 64) ((i 1).val % 64) : EReal))
    (hb : ∀ i, b i = (B r (n * 128 + (i 0).val) ((i 1).val / 64) ((i 1).val % 64) : EReal)) (p : Fin 8) (i : S256x128.Idx) :
    extractStridedSlice S256x128 ![0, 128 * p.val] (k0_pay5 a b) (slices_cols p) i
      = (near B r n (hd p ((i 1).val / 64)) (i 0).val ((i 1).val % 64) : EReal) := by
  have h0 : (i 0).val < 256 := (i 0).isLt
  have h1 : (i 1).val < 128 := (i 1).isLt
  rw [extractStridedSlice_apply _ _ (slices_cols p) _ (at256x1024 ⟨(i 0).val, h0⟩ ⟨128 * p.val + (i 1).val, by omega⟩) (fun a => match a with
    | ⟨0, _⟩ => by show (i 0).val = 0 + (i 0).val; omega
    | ⟨1, _⟩ => rfl), stack_apply]
  have e1 : (128 * p.val + (i 1).val) / 64 = hd p ((i 1).val / 64) := by show _ = 2 * p.val + _; omega
  have e2 : (128 * p.val + (i 1).val) % 64 = (i 1).val % 64 := by omega
  unfold near
  dsimp only
  split
  · rename_i h
    rw [ha]
    dsimp only
    rw [e1, e2]
  · rename_i h
    rw [hb]
    dsimp only
    rw [e1, e2]

namespace BlockCoe

variable {A : RealArgs} {r n : ℕ} {X : Blocks Ideal} (H : BlockCoe A r n X) (p : Fin 8)

include H

theorem keys (i : S256x128.Idx) : X.keys p i = (near A.k r n (hd p ((i 1).val / 64)) (i 0).val ((i 1).val % 64) : EReal) := by
  unfold Blocks.keys
  rw [wholeBlk_eq, wholeBlk_eq]
  exact pair_apply H.kp H.kc p i

theorem vals (i : S256x128.Idx) : X.vals p i = (near A.v r n (hd p ((i 1).val / 64)) (i 0).val ((i 1).val % 64) : EReal) := by
  unfold Blocks.vals
  rw [wholeBlk_eq, wholeBlk_eq]
  exact pair_apply H.vp H.vc p i

theorem qt (i : S128x128.Idx) : X.qt p i = (A.q r (n * 128 + (i 0).val) (hd p ((i 1).val / 64)) ((i 1).val % 64) : EReal) := by
  have h1 : (i 1).val < 128 := (i 1).isLt
  unfold Blocks.qt
  rw [shapeCast_apply _ _ _ i rfl]
  show X.q ((colRect p).emb i) = _
  rw [H.q]
  congr 2
  · show n * 128 + (0 + 1 * (i 0).val) = _; omega
  · show (128 * p.val + 1 * (i 1).val) / 64 = 2 * p.val + _; omega
  · show (128 * p.val + 1 * (i 1).val) % 64 = _; omega

theorem dt (i : S128x128.Idx) : X.dt p i = (A.g r (n * 128 + (i 0).val) (hd p ((i 1).val / 64)) ((i 1).val % 64) : EReal) := by
  have h1 : (i 1).val < 128 := (i 1).isLt
  unfold Blocks.dt
  rw [shapeCast_apply _ _ _ i rfl]
  show X.d ((colRect p).emb i) = _
  rw [H.d]
  congr 2
  · show n * 128 + (0 + 1 * (i 0).val) = _; omega
  · show (128 * p.val + 1 * (i 1).val) / 64 = 2 * p.val + _; omega
  · show (128 * p.val + 1 * (i 1).val) % 64 = _; omega

theorem row_lse (i : S1x256.Idx) : statRow p (k0_pay7 (wholeStat X.lse)) i
    = (lsum (on n ((i 1).val % 128)) (A.sc r n (hd p ((i 1).val / 128)) ((i 1).val % 128)) : EReal) := by
  have h1 : (i 1).val < 256 := (i 1).isLt
  rw [statRow_apply, wholeStat_eq]
  unfold k0_pay7
  dsimp only
  rw [transpose_apply _ _ _ _ (at128x128 ⟨(i 1).val % 128, Nat.mod_lt _ (by decide)⟩ ⟨2 * p.val + (i 1).val / 128, by omega⟩) (fun b => match b with
    | ⟨0, _⟩ => rfl
    | ⟨1, _⟩ => rfl)]
  try rw [shapeCast_apply _ _ _ _ rfl]
  exact H.lse _ (by show 2 * p.val + (i 1).val / 128 < 16; omega)

theorem row_delta (i : S1x256.Idx) : statRow p (k0_pay8 (wholeStat X.delta)) i
    = (mean (on n ((i 1).val % 128)) (A.sc r n (hd p ((i 1).val / 128)) ((i 1).val % 128)) (A.dp r n (hd p ((i 1).val / 128)) ((i 1).val % 128))
        - A.dl r n (hd p ((i 1).val / 128)) ((i 1).val % 128) : ℝ) := by
  have h1 : (i 1).val < 256 := (i 1).isLt
  rw [statRow_apply, wholeStat_eq]
  unfold k0_pay8
  dsimp only
  rw [transpose_apply _ _ _ _ (at128x128 ⟨(i 1).val % 128, Nat.mod_lt _ (by decide)⟩ ⟨2 * p.val + (i 1).val / 128, by omega⟩) (fun b => match b with
    | ⟨0, _⟩ => rfl
    | ⟨1, _⟩ => rfl)]
  try rw [shapeCast_apply _ _ _ _ rfl]
  exact H.delta _ (by show 2 * p.val + (i 1).val / 128 < 16; omega)

end BlockCoe

/-- A key of the window. -/
abbrev keyOf (j : ℕ) (h : j < 256) : Fin 256 := ⟨j, h⟩

/-- The mask at block `n`. -/
theorem mask_apply {n : ℕ} (hn : n < 16) (i : S256x256.Idx) :
    k0_pay9 (BitVec.ofNat 32 n) i = BitVec.ofBool (decide (on n ((i 1).val % 128) ⟨(i 0).val, (i 0).isLt⟩)) := by
  have h0 : (i 0).val < 256 := (i 0).isLt
  have h1 : (i 1).val < 256 := (i 1).isLt
  have core : ∀ y : Fin 128, IntOp.andi
      (IntOp.andi (IntOp.cmpi .sge (IntOp.subi (IntOp.addi (128#32) (BitVec.ofNat 32 (0 * 128 + y.val))) (BitVec.ofNat 32 (0 * 256 + (i 0).val))) 0#32)
        (IntOp.cmpi .sle (IntOp.subi (IntOp.addi (128#32) (BitVec.ofNat 32 (0 * 128 + y.val))) (BitVec.ofNat 32 (0 * 256 + (i 0).val))) 128#32))
      (IntOp.ori (IntOp.cmpi .sge (BitVec.ofNat 32 (0 * 256 + (i 0).val)) (BitVec.ofNat 32 128))
        (IntOp.cmpi .sgt (BitVec.ofNat 32 n) (BitVec.ofNat 32 0)))
      = BitVec.ofBool (decide (on n y.val ⟨(i 0).val, (i 0).isLt⟩)) := by
    intro y
    have hy := y.isLt
    have hs : (IntOp.subi (IntOp.addi (128#32) (BitVec.ofNat 32 (0 * 128 + y.val))) (BitVec.ofNat 32 (0 * 256 + (i 0).val))).toInt
        = 128 + (y.val : ℤ) - (i 0).val := by
      simp only [IntOp.subi, IntOp.addi]
      rw [BitVec.toInt_eq_toNat_bmod]
      simp only [BitVec.toNat_sub, BitVec.toNat_add, BitVec.toNat_ofNat]
      rw [Int.bmod_def]
      split <;> omega
    rw [sge_ofNat (by omega) (by omega), sgt_ofNat (by omega) (by omega), WordCmp.cmpi_sge_eq, WordCmp.cmpi_sle_eq, hs, and_ofBool, or_ofBool, and_ofBool]
    refine congrArg _ (decide_eq_decide.mpr ?_)
    unfold on
    have z : (0#32).toInt = 0 := by decide
    have z2 : (128#32).toInt = 128 := by decide
    rw [z, z2]
    constructor
    · rintro ⟨⟨a, b⟩, c⟩
      exact ⟨⟨by show y.val ≤ (i 0).val; omega, by show (i 0).val ≤ y.val + 128; omega⟩, by show 0 < n ∨ 128 ≤ (i 0).val; omega⟩
    · rintro ⟨⟨a, b⟩, c⟩
      change y.val ≤ (i 0).val at a
      change (i 0).val ≤ y.val + 128 at b
      change 0 < n ∨ 128 ≤ (i 0).val at c
      omega
  unfold k0_pay9
  by_cases hc : (i 1).val < 128
  · rw [concatenate_pair_apply_left (s₁ := S256x128) (s₂ := S256x128) 1 _ _ _ i rfl (at256x128 ⟨(i 0).val, h0⟩ ⟨(i 1).val, hc⟩)
      (fun b => match b with
        | ⟨0, _⟩ => rfl
        | ⟨1, _⟩ => rfl)]
    refine (core ⟨(i 1).val, hc⟩).trans ?_
    rw [Nat.mod_eq_of_lt hc]
  · rw [concatenate_pair_apply_right (s₁ := S256x128) (s₂ := S256x128) 1 _ _ _ i rfl rfl (at256x128 ⟨(i 0).val, h0⟩ ⟨(i 1).val - 128, by omega⟩)
      (fun b hb => match b with
        | ⟨0, _⟩ => rfl
        | ⟨1, _⟩ => absurd rfl hb)
      (by show (i 1).val - 128 + 128 = (i 1).val; omega)]
    refine (core ⟨(i 1).val - 128, by omega⟩).trans ?_
    rw [show (i 1).val % 128 = (i 1).val - 128 by omega]

theorem lo_apply (x : FVec Ideal S256x128 .f32) (i : S128x128.Idx) :
    loRows x i = x (at256x128 ⟨(i 0).val, by have h : (i 0).val < 128 := (i 0).isLt; omega⟩ ⟨(i 1).val, (i 1).isLt⟩) :=
  extractStridedSlice_apply _ _ slices_S256x128_o0_0_S128x128 _ _ (fun a => match a with
    | ⟨0, _⟩ => by show (i 0).val = 0 + (i 0).val; omega
    | ⟨1, _⟩ => by show (i 1).val = 0 + (i 1).val; omega)

theorem hi_apply (x : FVec Ideal S256x128 .f32) (i : S128x128.Idx) :
    hiRows x i = x (at256x128 ⟨(i 0).val + 128, by have h : (i 0).val < 128 := (i 0).isLt; omega⟩ ⟨(i 1).val, (i 1).isLt⟩) := by
  unfold hiRows
  rw [shapeCast_apply _ _ _ i rfl]
  exact extractStridedSlice_apply _ _ slices_S256x128_o128_0_S128x128 _ _ (fun a => match a with
    | ⟨0, _⟩ => by show (i 0).val + 128 = 128 + (i 0).val; omega
    | ⟨1, _⟩ => by show (i 1).val = 0 + (i 1).val; omega)

theorem tile_of (C : Vec Ideal S128x1024 .f32) (i : S128x1024.Idx) :
    colTile ⟨(i 1).val / 128, by have h : (i 1).val < 1024 := (i 1).isLt; omega⟩ C (tileIdx i) = C i := by
  refine congrArg C (funext (Fin.forall_fin_two.mpr ⟨Fin.ext ?_, Fin.ext ?_⟩))
  · show 0 + 1 * (i 0).val = (i 0).val
    omega
  · show 128 * ((i 1).val / 128) + 1 * ((i 1).val % 128) = (i 1).val
    omega

namespace BlockCoe

variable {A : RealArgs} {r n : ℕ} {X : Blocks Ideal} (H : BlockCoe A r n X) (hn : n < 16) (p : Fin 8)

include H hn

theorem bcast_row (x : FVec Ideal S1x256 .f32) (i : S256x256.Idx) :
    broadcastTo S256x256 x broadcasts_S1x256_S256x256 i = x (at1x256 ⟨(i 1).val, (i 1).isLt⟩) :=
  broadcastTo_apply _ _ _ _ (fun a => match a with
    | ⟨0, _⟩ => rfl
    | ⟨1, _⟩ => rfl)

/-- The weights. -/
theorem w (i : S256x256.Idx) : X.w (BitVec.ofNat 32 n) p i
    = (A.W r n (hd p ((i 1).val / 128)) ((i 1).val % 128) ⟨(i 0).val, (i 0).isLt⟩ : EReal) := by
  have h1 : (i 1).val < 256 := (i 1).isLt
  unfold Blocks.w weights
  show Ideal.exp (Scalar.select (k0_pay9 (BitVec.ofNat 32 n) i) (keyDot (X.keys p) (X.qt p) i * Ideal.ofBits .f32 0x3E000000#32) (Ideal.ofBits .f32 0xFF800000#32)
    - broadcastTo S256x256 (statRow p (k0_pay7 (wholeStat X.lse))) broadcasts_S1x256_S256x256 i) = _
  rw [bcast_row H hn, H.row_lse, mask_apply hn, sel_ofBool, lit8, litBot, keyDot_apply (K := fun j h d => near A.k r n (hd p h) j d)
    (Q := fun j h d => A.q r (n * 128 + j) (hd p h) d) (H.keys p) (H.qt p)]
  refine Eq.trans (congrArg Ideal.exp (congrArg (· - _) ?_)) (exp_score_lsum _ (exists_on n (Nat.mod_lt _ (by decide))) ⟨(i 0).val, (i 0).isLt⟩)
  unfold score
  split
  · rename_i ho
    rw [← EReal.coe_mul]
    refine congrArg Real.toEReal ?_
    unfold RealArgs.sc
    refine congrArg (· * (1 / 8)) (Finset.sum_congr rfl fun d _ => ?_)
    rw [mul_comm]
    exact congrArg _ (near_eq A.k r n _ ⟨(i 0).val, (i 0).isLt⟩ d.val ho)
  · rfl

/-- The scores' gradient. -/
theorem ds (i : S256x256.Idx) : X.ds (BitVec.ofNat 32 n) p i
    = (A.G r n (hd p ((i 1).val / 128)) ((i 1).val % 128) ⟨(i 0).val, (i 0).isLt⟩ * (1 / 8) : ℝ) := by
  have h1 : (i 1).val < 256 := (i 1).isLt
  unfold Blocks.ds dscores
  show X.w (BitVec.ofNat 32 n) p i * (keyDot (X.vals p) (X.dt p) i
    - broadcastTo S256x256 (statRow p (k0_pay8 (wholeStat X.delta))) broadcasts_S1x256_S256x256 i) * Ideal.ofBits .f32 0x3E000000#32 = _
  rw [bcast_row H hn, H.row_delta, H.w hn, lit8, keyDot_apply (K := fun j h d => near A.v r n (hd p h) j d)
    (Q := fun j h d => A.g r (n * 128 + j) (hd p h) d) (H.vals p) (H.dt p), ← EReal.coe_sub, ← EReal.coe_mul, ← EReal.coe_mul]
  refine congrArg Real.toEReal (congrArg (· * (1 / 8)) ?_)
  unfold RealArgs.G gsc
  by_cases ho : on n ((i 1).val % 128) ⟨(i 0).val, (i 0).isLt⟩
  · refine congrArg₂ (· * ·) rfl (congrArg (· - _) ?_)
    unfold RealArgs.dp
    refine Finset.sum_congr rfl fun d _ => ?_
    rw [mul_comm]
    exact congrArg _ (near_eq A.v r n _ ⟨(i 0).val, (i 0).isLt⟩ d.val ho)
  · unfold RealArgs.W
    rw [wt_of_not _ ho, zero_mul, zero_mul]

/-- The queries' gradient. -/
theorem dqT (i : S128x128.Idx) : X.dqT (BitVec.ofNat 32 n) p i
    = (A.dq r n (hd p ((i 1).val / 64)) (i 0).val ((i 1).val % 64) : EReal) := by
  have h0 : (i 0).val < 128 := (i 0).isLt
  unfold Blocks.dqT
  rw [queryTile_apply (K := fun j h d => near A.k r n (hd p h) j d)
    (D := fun j h y => if hj : j < 256 then A.G r n (hd p h) y ⟨j, hj⟩ * (1 / 8) else 0) (H.keys p)
    (fun i => by
      have hi : (i 0).val < 256 := (i 0).isLt
      dsimp only
      rw [dif_pos hi]
      exact H.ds hn p i)]
  refine congrArg Real.toEReal ?_
  unfold RealArgs.dq
  refine Finset.sum_congr rfl fun k _ => ?_
  rw [dif_pos k.isLt]
  by_cases ho : on n (i 0).val k
  · rw [near_eq A.k r n _ k _ ho, mul_comm]
  · unfold RealArgs.G
    rw [gsc_of_not _ _ _ ho, zero_mul, mul_zero, zero_mul]

/-- The keys' gradient by the block's queries. -/
theorem dk2 (i : S256x128.Idx) : X.dk2 (BitVec.ofNat 32 n) p i
    = (A.dk2 r n (hd p ((i 1).val / 64)) ⟨(i 0).val, (i 0).isLt⟩ ((i 1).val % 64) : EReal) := by
  unfold Blocks.dk2
  rw [keyGrad_apply (W := fun j h y => if hj : j < 256 then A.G r n (hd p h) y ⟨j, hj⟩ * (1 / 8) else 0)
    (Q := fun j h d => A.q r (n * 128 + j) (hd p h) d)
    (fun i => by
      have hi : (i 0).val < 256 := (i 0).isLt
      dsimp only
      rw [dif_pos hi]
      exact H.ds hn p i) (H.qt p)]
  refine congrArg Real.toEReal (Finset.sum_congr rfl fun k _ => ?_)
  rw [dif_pos (show (i 0).val < 256 from (i 0).isLt)]

/-- The values' gradient by the block's queries. -/
theorem dv2 (i : S256x128.Idx) : X.dv2 (BitVec.ofNat 32 n) p i
    = (A.dv2 r n (hd p ((i 1).val / 64)) ⟨(i 0).val, (i 0).isLt⟩ ((i 1).val % 64) : EReal) := by
  unfold Blocks.dv2
  rw [keyGrad_apply (W := fun j h y => if hj : j < 256 then A.W r n (hd p h) y ⟨j, hj⟩ else 0)
    (Q := fun j h d => A.g r (n * 128 + j) (hd p h) d)
    (fun i => by
      have hi : (i 0).val < 256 := (i 0).isLt
      dsimp only
      rw [dif_pos hi]
      exact H.w hn p i) (H.dt p)]
  refine congrArg Real.toEReal (Finset.sum_congr rfl fun k _ => ?_)
  rw [dif_pos (show (i 0).val < 256 from (i 0).isLt), mul_comm]

/-- The block of queries' gradient. -/
theorem dqBlk (i : S128x1024.Idx) : X.dqBlk (BitVec.ofNat 32 n) i
    = (A.dq r n ((i 1).val / 64) (i 0).val ((i 1).val % 64) : EReal) := by
  have h1 : (i 1).val < 1024 := (i 1).isLt
  refine (H.dqT hn ⟨(i 1).val / 128, by omega⟩ (tileIdx i)).trans ?_
  congr 2
  · show 2 * ((i 1).val / 128) + (i 1).val % 128 / 64 = _; omega
  · show (i 1).val % 128 % 64 = _; omega

/-- What the point leaves of its own keys' gradient. -/
theorem dkCarry (i : S128x1024.Idx) : X.dkCarry (BitVec.ofNat 32 n) i
    = (A.dk2 r n ((i 1).val / 64) ⟨(i 0).val + 128, by have h : (i 0).val < 128 := (i 0).isLt; omega⟩ ((i 1).val % 64) : EReal) := by
  have h1 : (i 1).val < 1024 := (i 1).isLt
  refine (hi_apply _ (tileIdx i)).trans ((H.dk2 hn ⟨(i 1).val / 128, by omega⟩ _).trans ?_)
  congr 2
  · show 2 * ((i 1).val / 128) + (i 1).val % 128 / 64 = _; omega
  · show (i 1).val % 128 % 64 = _; omega

theorem dvCarry (i : S128x1024.Idx) : X.dvCarry (BitVec.ofNat 32 n) i
    = (A.dv2 r n ((i 1).val / 64) ⟨(i 0).val + 128, by have h : (i 0).val < 128 := (i 0).isLt; omega⟩ ((i 1).val % 64) : EReal) := by
  have h1 : (i 1).val < 1024 := (i 1).isLt
  refine (hi_apply _ (tileIdx i)).trans ((H.dv2 hn ⟨(i 1).val / 128, by omega⟩ _).trans ?_)
  congr 2
  · show 2 * ((i 1).val / 128) + (i 1).val % 128 / 64 = _; omega
  · show (i 1).val % 128 % 64 = _; omega

/-- The block of keys' gradient the point stores. -/
theorem dkBlk (C : Vec Ideal S128x1024 .f32) (i : S128x1024.Idx) : X.dkBlk (BitVec.ofNat 32 n) C i
    = C i + (A.dk2 r n ((i 1).val / 64) ⟨(i 0).val, by have h : (i 0).val < 128 := (i 0).isLt; omega⟩ ((i 1).val % 64) : EReal) := by
  have h1 : (i 1).val < 1024 := (i 1).isLt
  refine congrArg₂ (· + ·) (tile_of C i) ((lo_apply _ (tileIdx i)).trans ((H.dk2 hn ⟨(i 1).val / 128, by omega⟩ _).trans ?_))
  congr 2
  · show 2 * ((i 1).val / 128) + (i 1).val % 128 / 64 = _; omega
  · show (i 1).val % 128 % 64 = _; omega

theorem dvBlk (C : Vec Ideal S128x1024 .f32) (i : S128x1024.Idx) : X.dvBlk (BitVec.ofNat 32 n) C i
    = C i + (A.dv2 r n ((i 1).val / 64) ⟨(i 0).val, by have h : (i 0).val < 128 := (i 0).isLt; omega⟩ ((i 1).val % 64) : EReal) := by
  have h1 : (i 1).val < 1024 := (i 1).isLt
  refine congrArg₂ (· + ·) (tile_of C i) ((lo_apply _ (tileIdx i)).trans ((H.dv2 hn ⟨(i 1).val / 128, by omega⟩ _).trans ?_))
  congr 2
  · show 2 * ((i 1).val / 128) + (i 1).val % 128 / 64 = _; omega
  · show (i 1).val % 128 % 64 = _; omega

end BlockCoe

end Cert.KernelIdeal.Dil
-- ==== Proof.Dil.Host1.lean ====
/- The buffers the launch finds, as functions of the arguments: the forward's output and log-sums are the reference's. -/
module

public import proofs.«01_k».proof.Proof.Gen.KernelIdeal.Frame
public import proofs.«01_k».proof.Proof.Gen.ReferenceIdeal.Read

@[expose] public section

set_option maxRecDepth 8192

noncomputable section

namespace Cert.KernelIdeal.Dil

open Cert.KernelIdeal.Gen
open Idealize.ShloMosaic Idealize.ShloMosaic.TcCoe Idealize.ShloMosaic.Tactic Idealize.ShloMosaic.StableHlo

variable {F : FTy → Type} [FloatOps F]

/-- The buffers after the operations before the mask is applied. -/
def st1 (V0 : Valuation τ sig (Elt F)) : Valuation τ sig (Elt F) := after hostOps0 V0
/-- … after the mask. -/
def st2 (V0 : Valuation τ sig (Elt F)) : Valuation τ sig (Elt F) := after hostOps0_1 (st1 V0)
/-- … after the rows of the operands. -/
def st3 (V0 : Valuation τ sig (Elt F)) : Valuation τ sig (Elt F) := after hostOps0_2 (st2 V0)
/-- … after the log-sums' padding. -/
def st4 (V0 : Valuation τ sig (Elt F)) : Valuation τ sig (Elt F) := after hostOps0_3 (st3 V0)
def st5 (V0 : Valuation τ sig (Elt F)) : Valuation τ sig (Elt F) := after hostOps0_4 (st4 V0)
/-- … after the row sums' padding. -/
def st6 (V0 : Valuation τ sig (Elt F)) : Valuation τ sig (Elt F) := after hostOps0_5 (st5 V0)
def st7 (V0 : Valuation τ sig (Elt F)) : Valuation τ sig (Elt F) := after hostOps0_6 (st6 V0)

theorem V_eq (m : (ℓ : Loc nD τ sig) → Buf (Elt F) ℓ) (c : Dev nD) (b : Ref sig .tc) :
    V m c b = st7 (fun b => m (c, b)) (Proc.devRef .tc b) := by
  unfold V st7 st6 st5 st4 st3 st2 st1
  simp only [List.flatten_cons, List.flatten_nil, List.append_nil, after_append]

set_option maxHeartbeats 4000000 in
theorem st1_v15 (V0 : Valuation τ sig (Elt F)) : st1 V0 (no_index (Proc.devRef .tc main_v15)) = Cert.ReferenceIdeal.Read.val_main_v17 (V0 (Proc.devRef .tc main_arg0)) (V0 (Proc.devRef .tc main_arg1)) := by
  unfold st1
  simp only [hostOps0]
  after_results_simp
  all_goals first | done | rfl

set_option maxHeartbeats 4000000 in
theorem st1_v44 (V0 : Valuation τ sig (Elt F)) : st1 V0 (no_index (Proc.devRef .tc main_v44)) = Cert.ReferenceIdeal.Read.val_main_v46 (F := F) := by
  unfold st1
  simp only [hostOps0]
  after_results_simp
  all_goals first | done | rfl

set_option maxHeartbeats 4000000 in
theorem st1_v12 (V0 : Valuation τ sig (Elt F)) : st1 V0 (no_index (Proc.devRef .tc main_v12)) = Cert.ReferenceIdeal.Read.val_main_v14 (V0 (Proc.devRef .tc main_arg2)) := by
  unfold st1
  simp only [hostOps0]
  after_results_simp
  all_goals first | done | rfl

set_option maxHeartbeats 4000000 in
theorem st1_cst_6 (V0 : Valuation τ sig (Elt F)) : st1 V0 (no_index (Proc.devRef .tc main_cst_6)) = constant S_ .f32 0xFF800000#32 := by
  unfold st1
  simp only [hostOps0]
  after_results_simp
  all_goals first | done | rfl

set_option maxHeartbeats 4000000 in
theorem st1_arg0 (V0 : Valuation τ sig (Elt F)) : st1 V0 (no_index (Proc.devRef .tc main_arg0)) = (V0 (Proc.devRef .tc main_arg0)) := by
  unfold st1
  simp only [hostOps0]
  after_results_simp
  all_goals first | done | rfl

set_option maxHeartbeats 4000000 in
theorem st1_arg1 (V0 : Valuation τ sig (Elt F)) : st1 V0 (no_index (Proc.devRef .tc main_arg1)) = (V0 (Proc.devRef .tc main_arg1)) := by
  unfold st1
  simp only [hostOps0]
  after_results_simp
  all_goals first | done | rfl

set_option maxHeartbeats 4000000 in
theorem st1_arg2 (V0 : Valuation τ sig (Elt F)) : st1 V0 (no_index (Proc.devRef .tc main_arg2)) = (V0 (Proc.devRef .tc main_arg2)) := by
  unfold st1
  simp only [hostOps0]
  after_results_simp
  all_goals first | done | rfl

set_option maxHeartbeats 4000000 in
theorem st1_arg3 (V0 : Valuation τ sig (Elt F)) : st1 V0 (no_index (Proc.devRef .tc main_arg3)) = (V0 (Proc.devRef .tc main_arg3)) := by
  unfold st1
  simp only [hostOps0]
  after_results_simp
  all_goals first | done | rfl

set_option maxHeartbeats 4000000 in
theorem st1_arg4 (V0 : Valuation τ sig (Elt F)) : st1 V0 (no_index (Proc.devRef .tc main_arg4)) = (V0 (Proc.devRef .tc main_arg4)) := by
  unfold st1
  simp only [hostOps0]
  after_results_simp
  all_goals first | done | rfl

set_option maxHeartbeats 4000000 in
theorem st2_v45 (V0 : Valuation τ sig (Elt F)) : st2 V0 (no_index (Proc.devRef .tc main_v45)) = Cert.ReferenceIdeal.Read.val_main_v47_0 (V0 (Proc.devRef .tc main_arg0)) (V0 (Proc.devRef .tc main_arg1)) := by
  unfold st2
  simp only [hostOps0_1]
  after_results_simp
  simp only [st1_v15, st1_v44, st1_cst_6]
  all_goals first | done | rfl

set_option maxHeartbeats 4000000 in
theorem st2_v12 (V0 : Valuation τ sig (Elt F)) : st2 V0 (no_index (Proc.devRef .tc main_v12)) = Cert.ReferenceIdeal.Read.val_main_v14 (V0 (Proc.devRef .tc main_arg2)) := by
  unfold st2
  simp only [hostOps0_1]
  after_results_simp
  simp only [st1_v12]
  all_goals first | done | rfl

set_option maxHeartbeats 4000000 in
theorem st2_arg0 (V0 : Valuation τ sig (Elt F)) : st2 V0 (no_index (Proc.devRef .tc main_arg0)) = (V0 (Proc.devRef .tc main_arg0)) := by
  unfold st2
  simp only [hostOps0_1]
  after_results_simp
  simp only [st1_arg0]
  all_goals first | done | rfl

set_option maxHeartbeats 4000000 in
theorem st2_arg1 (V0 : Valuation τ sig (Elt F)) : st2 V0 (no_index (Proc.devRef .tc main_arg1)) = (V0 (Proc.devRef .tc main_arg1)) := by
  unfold st2
  simp only [hostOps0_1]
  after_results_simp
  simp only [st1_arg1]
  all_goals first | done | rfl

set_option maxHeartbeats 4000000 in
theorem st2_arg2 (V0 : Valuation τ sig (Elt F)) : st2 V0 (no_index (Proc.devRef .tc main_arg2)) = (V0 (Proc.devRef .tc main_arg2)) := by
  unfold st2
  simp only [hostOps0_1]
  after_results_simp
  simp only [st1_arg2]
  all_goals first | done | rfl

set_option maxHeartbeats 4000000 in
theorem st2_arg3 (V0 : Valuation τ sig (Elt F)) : st2 V0 (no_index (Proc.devRef .tc main_arg3)) = (V0 (Proc.devRef .tc main_arg3)) := by
  unfold st2
  simp only [hostOps0_1]
  after_results_simp
  simp only [st1_arg3]
  all_goals first | done | rfl

set_option maxHeartbeats 4000000 in
theorem st2_arg4 (V0 : Valuation τ sig (Elt F)) : st2 V0 (no_index (Proc.devRef .tc main_arg4)) = (V0 (Proc.devRef .tc main_arg4)) := by
  unfold st2
  simp only [hostOps0_1]
  after_results_simp
  simp only [st1_arg4]
  all_goals first | done | rfl

/-- The output's products with its gradient, summed, less the log-sums' gradient. -/
def delta0 (x0 x1 x2 x3 : (⟨S4x2048x16x64, .f32⟩ : BufTy).Contents (Elt F)) (x4 : (⟨S4x2048x16, .f32⟩ : BufTy).Contents (Elt F)) :
    (⟨S4x2048x16, .f32⟩ : BufTy).Contents (Elt F) :=
  subf (Host.reduceAdd (mulf x3 (Cert.ReferenceIdeal.Read.val_main_v72 x0 x1 x2)) (constant S_ .f32 0x00000000#32) reducesTo_S4x2048x16x64_S4x2048x16_d3 h_S_) x4

/-- An operand's rows: position along the class by class, head and feature. -/
def rows (x : (⟨S4x2048x16x64, .f32⟩ : BufTy).Contents (Elt F)) : (⟨S2048x4096, .bf16⟩ : BufTy).Contents (Elt F) :=
  truncf .bf16 (shapeCast S2048x4096 (transpose S2048x4x16x64 [1, 0, 2, 3] x transposes_S4x2048x16x64_S2048x4x16x64_1_0_2_3)
    shapeCasts_S2048x4x16x64_S2048x4096) bitsLt_bf16_f32

/-- A statistic's rows: position by class and head, each class's heads padded with zeros. -/
def stats (x : (⟨S4x2048x16, .f32⟩ : BufTy).Contents (Elt F)) : (⟨S2048x512, .f32⟩ : BufTy).Contents (Elt F) :=
  shapeCast S2048x512 (pad S2048x4x128 ![0, 0, 0] ![0, 0, 112] ![0, 0, 0]
    (transpose S2048x4x16 [1, 0, 2] x transposes_S4x2048x16_S2048x4x16_1_0_2) (sitofp .f32 (constantI S_ 32 0#32))
    pads_S2048x4x16_S2048x4x128_000_000_01120 h_S_) shapeCasts_S2048x4x128_S2048x512

set_option maxHeartbeats 4000000 in
theorem st3_v65 (V0 : Valuation τ sig (Elt F)) : st3 V0 (no_index (Proc.devRef .tc main_v65)) = delta0 (V0 (Proc.devRef .tc main_arg0)) (V0 (Proc.devRef .tc main_arg1)) (V0 (Proc.devRef .tc main_arg2)) (V0 (Proc.devRef .tc main_arg3)) (V0 (Proc.devRef .tc main_arg4)) := by
  unfold st3
  simp only [hostOps0_2]
  after_results_simp
  simp only [st2_v45, st2_v12, st2_arg3, st2_arg4]
  all_goals first | done | rfl

set_option maxHeartbeats 4000000 in
theorem st3_v78 (V0 : Valuation τ sig (Elt F)) : st3 V0 (no_index (Proc.devRef .tc main_v78)) = transpose S2048x4x16 [1, 0, 2] (Cert.ReferenceIdeal.Read.val_main_v71 (V0 (Proc.devRef .tc main_arg0)) (V0 (Proc.devRef .tc main_arg1))) transposes_S4x2048x16_S2048x4x16_1_0_2 := by
  unfold st3
  simp only [hostOps0_2]
  after_results_simp
  simp only [st2_v45]
  all_goals first | done | rfl

set_option maxHeartbeats 4000000 in
theorem st3_c_10 (V0 : Valuation τ sig (Elt F)) : st3 V0 (no_index (Proc.devRef .tc main_c_10)) = constantI S_ 32 0#32 := by
  unfold st3
  simp only [hostOps0_2]
  after_results_simp
  all_goals first | done | rfl

set_option maxHeartbeats 4000000 in
theorem st3_v68 (V0 : Valuation τ sig (Elt F)) : st3 V0 (no_index (Proc.devRef .tc main_v68)) = rows (V0 (Proc.devRef .tc main_arg0)) := by
  unfold st3
  simp only [hostOps0_2]
  after_results_simp
  simp only [st2_arg0]
  all_goals first | done | rfl

set_option maxHeartbeats 4000000 in
theorem st3_v71 (V0 : Valuation τ sig (Elt F)) : st3 V0 (no_index (Proc.devRef .tc main_v71)) = rows (V0 (Proc.devRef .tc main_arg1)) := by
  unfold st3
  simp only [hostOps0_2]
  after_results_simp
  simp only [st2_arg1]
  all_goals first | done | rfl

set_option maxHeartbeats 4000000 in
theorem st3_v74 (V0 : Valuation τ sig (Elt F)) : st3 V0 (no_index (Proc.devRef .tc main_v74)) = rows (V0 (Proc.devRef .tc main_arg2)) := by
  unfold st3
  simp only [hostOps0_2]
  after_results_simp
  simp only [st2_arg2]
  all_goals first | done | rfl

set_option maxHeartbeats 4000000 in
theorem st3_v77 (V0 : Valuation τ sig (Elt F)) : st3 V0 (no_index (Proc.devRef .tc main_v77)) = rows (V0 (Proc.devRef .tc main_arg3)) := by
  unfold st3
  simp only [hostOps0_2]
  after_results_simp
  simp only [st2_arg3]
  all_goals first | done | rfl

set_option maxHeartbeats 4000000 in
theorem st4_v79 (V0 : Valuation τ sig (Elt F)) : st4 V0 (no_index (Proc.devRef .tc main_v79)) = pad S2048x4x128 ![0, 0, 0] ![0, 0, 112] ![0, 0, 0] (transpose S2048x4x16 [1, 0, 2] (Cert.ReferenceIdeal.Read.val_main_v71 (V0 (Proc.devRef .tc main_arg0)) (V0 (Proc.devRef .tc main_arg1))) transposes_S4x2048x16_S2048x4x16_1_0_2) (sitofp .f32 (constantI S_ 32 0#32)) pads_S2048x4x16_S2048x4x128_000_000_01120 h_S_ := by
  unfold st4
  simp only [hostOps0_3]
  after_results_simp
  simp only [st3_v78, st3_c_10]
  all_goals first | done | rfl

set_option maxHeartbeats 4000000 in
theorem st4_v65 (V0 : Valuation τ sig (Elt F)) : st4 V0 (no_index (Proc.devRef .tc main_v65)) = delta0 (V0 (Proc.devRef .tc main_arg0)) (V0 (Proc.devRef .tc main_arg1)) (V0 (Proc.devRef .tc main_arg2)) (V0 (Proc.devRef .tc main_arg3)) (V0 (Proc.devRef .tc main_arg4)) := by
  unfold st4
  simp only [hostOps0_3]
  after_results_simp
  simp only [st3_v65]
  all_goals first | done | rfl

set_option maxHeartbeats 4000000 in
theorem st4_v68 (V0 : Valuation τ sig (Elt F)) : st4 V0 (no_index (Proc.devRef .tc main_v68)) = rows (V0 (Proc.devRef .tc main_arg0)) := by
  unfold st4
  simp only [hostOps0_3]
  after_results_simp
  simp only [st3_v68]
  all_goals first | done | rfl

set_option maxHeartbeats 4000000 in
theorem st4_v71 (V0 : Valuation τ sig (Elt F)) : st4 V0 (no_index (Proc.devRef .tc main_v71)) = rows (V0 (Proc.devRef .tc main_arg1)) := by
  unfold st4
  simp only [hostOps0_3]
  after_results_simp
  simp only [st3_v71]
  all_goals first | done | rfl

set_option maxHeartbeats 4000000 in
theorem st4_v74 (V0 : Valuation τ sig (Elt F)) : st4 V0 (no_index (Proc.devRef .tc main_v74)) = rows (V0 (Proc.devRef .tc main_arg2)) := by
  unfold st4
  simp only [hostOps0_3]
  after_results_simp
  simp only [st3_v74]
  all_goals first | done | rfl

set_option maxHeartbeats 4000000 in
theorem st4_v77 (V0 : Valuation τ sig (Elt F)) : st4 V0 (no_index (Proc.devRef .tc main_v77)) = rows (V0 (Proc.devRef .tc main_arg3)) := by
  unfold st4
  simp only [hostOps0_3]
  after_results_simp
  simp only [st3_v77]
  all_goals first | done | rfl

set_option maxHeartbeats 4000000 in
theorem st5_v80 (V0 : Valuation τ sig (Elt F)) : st5 V0 (no_index (Proc.devRef .tc main_v80)) = stats (Cert.ReferenceIdeal.Read.val_main_v71 (V0 (Proc.devRef .tc main_arg0)) (V0 (Proc.devRef .tc main_arg1))) := by
  unfold st5
  simp only [hostOps0_4]
  after_results_simp
  simp only [st4_v79]
  all_goals first | done | rfl

set_option maxHeartbeats 4000000 in
theorem st5_v81 (V0 : Valuation τ sig (Elt F)) : st5 V0 (no_index (Proc.devRef .tc main_v81)) = transpose S2048x4x16 [1, 0, 2] (delta0 (V0 (Proc.devRef .tc main_arg0)) (V0 (Proc.devRef .tc main_arg1)) (V0 (Proc.devRef .tc main_arg2)) (V0 (Proc.devRef .tc main_arg3)) (V0 (Proc.devRef .tc main_arg4))) transposes_S4x2048x16_S2048x4x16_1_0_2 := by
  unfold st5
  simp only [hostOps0_4]
  after_results_simp
  simp only [st4_v65]
  all_goals first | done | rfl

set_option maxHeartbeats 4000000 in
theorem st5_c_11 (V0 : Valuation τ sig (Elt F)) : st5 V0 (no_index (Proc.devRef .tc main_c_11)) = constantI S_ 32 0#32 := by
  unfold st5
  simp only [hostOps0_4]
  after_results_simp
  all_goals first | done | rfl

set_option maxHeartbeats 4000000 in
theorem st5_v68 (V0 : Valuation τ sig (Elt F)) : st5 V0 (no_index (Proc.devRef .tc main_v68)) = rows (V0 (Proc.devRef .tc main_arg0)) := by
  unfold st5
  simp only [hostOps0_4]
  after_results_simp
  simp only [st4_v68]
  all_goals first | done | rfl

set_option maxHeartbeats 4000000 in
theorem st5_v71 (V0 : Valuation τ sig (Elt F)) : st5 V0 (no_index (Proc.devRef .tc main_v71)) = rows (V0 (Proc.devRef .tc main_arg1)) := by
  unfold st5
  simp only [hostOps0_4]
  after_results_simp
  simp only [st4_v71]
  all_goals first | done | rfl

set_option maxHeartbeats 4000000 in
theorem st5_v74 (V0 : Valuation τ sig (Elt F)) : st5 V0 (no_index (Proc.devRef .tc main_v74)) = rows (V0 (Proc.devRef .tc main_arg2)) := by
  unfold st5
  simp only [hostOps0_4]
  after_results_simp
  simp only [st4_v74]
  all_goals first | done | rfl

set_option maxHeartbeats 4000000 in
theorem st5_v77 (V0 : Valuation τ sig (Elt F)) : st5 V0 (no_index (Proc.devRef .tc main_v77)) = rows (V0 (Proc.devRef .tc main_arg3)) := by
  unfold st5
  simp only [hostOps0_4]
  after_results_simp
  simp only [st4_v77]
  all_goals first | done | rfl

set_option maxHeartbeats 4000000 in
theorem st6_v82 (V0 : Valuation τ sig (Elt F)) : st6 V0 (no_index (Proc.devRef .tc main_v82)) = pad S2048x4x128 ![0, 0, 0] ![0, 0, 112] ![0, 0, 0] (transpose S2048x4x16 [1, 0, 2] (delta0 (V0 (Proc.devRef .tc main_arg0)) (V0 (Proc.devRef .tc main_arg1)) (V0 (Proc.devRef .tc main_arg2)) (V0 (Proc.devRef .tc main_arg3)) (V0 (Proc.devRef .tc main_arg4))) transposes_S4x2048x16_S2048x4x16_1_0_2) (sitofp .f32 (constantI S_ 32 0#32)) pads_S2048x4x16_S2048x4x128_000_000_01120 h_S_ := by
  unfold st6
  simp only [hostOps0_5]
  after_results_simp
  simp only [st5_v81, st5_c_11]
  all_goals first | done | rfl

set_option maxHeartbeats 4000000 in
theorem st6_v80 (V0 : Valuation τ sig (Elt F)) : st6 V0 (no_index (Proc.devRef .tc main_v80)) = stats (Cert.ReferenceIdeal.Read.val_main_v71 (V0 (Proc.devRef .tc main_arg0)) (V0 (Proc.devRef .tc main_arg1))) := by
  unfold st6
  simp only [hostOps0_5]
  after_results_simp
  simp only [st5_v80]
  all_goals first | done | rfl

set_option maxHeartbeats 4000000 in
theorem st6_v68 (V0 : Valuation τ sig (Elt F)) : st6 V0 (no_index (Proc.devRef .tc main_v68)) = rows (V0 (Proc.devRef .tc main_arg0)) := by
  unfold st6
  simp only [hostOps0_5]
  after_results_simp
  simp only [st5_v68]
  all_goals first | done | rfl

set_option maxHeartbeats 4000000 in
theorem st6_v71 (V0 : Valuation τ sig (Elt F)) : st6 V0 (no_index (Proc.devRef .tc main_v71)) = rows (V0 (Proc.devRef .tc main_arg1)) := by
  unfold st6
  simp only [hostOps0_5]
  after_results_simp
  simp only [st5_v71]
  all_goals first | done | rfl

set_option maxHeartbeats 4000000 in
theorem st6_v74 (V0 : Valuation τ sig (Elt F)) : st6 V0 (no_index (Proc.devRef .tc main_v74)) = rows (V0 (Proc.devRef .tc main_arg2)) := by
  unfold st6
  simp only [hostOps0_5]
  after_results_simp
  simp only [st5_v74]
  all_goals first | done | rfl

set_option maxHeartbeats 4000000 in
theorem st6_v77 (V0 : Valuation τ sig (Elt F)) : st6 V0 (no_index (Proc.devRef .tc main_v77)) = rows (V0 (Proc.devRef .tc main_arg3)) := by
  unfold st6
  simp only [hostOps0_5]
  after_results_simp
  simp only [st5_v77]
  all_goals first | done | rfl

set_option maxHeartbeats 4000000 in
theorem st7_v83 (V0 : Valuation τ sig (Elt F)) : st7 V0 (no_index (Proc.devRef .tc main_v83)) = stats (delta0 (V0 (Proc.devRef .tc main_arg0)) (V0 (Proc.devRef .tc main_arg1)) (V0 (Proc.devRef .tc main_arg2)) (V0 (Proc.devRef .tc main_arg3)) (V0 (Proc.devRef .tc main_arg4))) := by
  unfold st7
  simp only [hostOps0_6]
  after_results_simp
  simp only [st6_v82]
  all_goals first | done | rfl

set_option maxHeartbeats 4000000 in
theorem st7_v80 (V0 : Valuation τ sig (Elt F)) : st7 V0 (no_index (Proc.devRef .tc main_v80)) = stats (Cert.ReferenceIdeal.Read.val_main_v71 (V0 (Proc.devRef .tc main_arg0)) (V0 (Proc.devRef .tc main_arg1))) := by
  unfold st7
  simp only [hostOps0_6]
  after_results_simp
  simp only [st6_v80]
  all_goals first | done | rfl

set_option maxHeartbeats 4000000 in
theorem st7_v68 (V0 : Valuation τ sig (Elt F)) : st7 V0 (no_index (Proc.devRef .tc main_v68)) = rows (V0 (Proc.devRef .tc main_arg0)) := by
  unfold st7
  simp only [hostOps0_6]
  after_results_simp
  simp only [st6_v68]
  all_goals first | done | rfl

set_option maxHeartbeats 4000000 in
theorem st7_v71 (V0 : Valuation τ sig (Elt F)) : st7 V0 (no_index (Proc.devRef .tc main_v71)) = rows (V0 (Proc.devRef .tc main_arg1)) := by
  unfold st7
  simp only [hostOps0_6]
  after_results_simp
  simp only [st6_v71]
  all_goals first | done | rfl

set_option maxHeartbeats 4000000 in
theorem st7_v74 (V0 : Valuation τ sig (Elt F)) : st7 V0 (no_index (Proc.devRef .tc main_v74)) = rows (V0 (Proc.devRef .tc main_arg2)) := by
  unfold st7
  simp only [hostOps0_6]
  after_results_simp
  simp only [st6_v74]
  all_goals first | done | rfl

set_option maxHeartbeats 4000000 in
theorem st7_v77 (V0 : Valuation τ sig (Elt F)) : st7 V0 (no_index (Proc.devRef .tc main_v77)) = rows (V0 (Proc.devRef .tc main_arg3)) := by
  unfold st7
  simp only [hostOps0_6]
  after_results_simp
  simp only [st6_v77]
  all_goals first | done | rfl

end Cert.KernelIdeal.Dil
-- ==== Proof.Dil.Ref1.lean ====
/- The reference's scores and their row maximum, on real arguments. -/
module

public import proofs.«01_k».proof.Proof.Gen.ReferenceIdeal.Read
public import proofs.«01_k».proof.Proof.Dil.Model
public import Idealize.ShloMosaic.Lib.Pipeline.Value
public import Idealize.ShloMosaic.Lib.WordCmp

@[expose] public section

noncomputable section

namespace Cert.KernelIdeal.Dil

open Idealize.ShloMosaic Cert.ReferenceIdeal Cert.ReferenceIdeal.Read

/-! ## Literals and sums -/

theorem lit_eighth : Ideal.ofBits .f32 0x3E000000#32 = ((1 / 8 : ℝ) : EReal) := by
  simp [Ideal.ofBits, Ideal.ieee]
  rw [← EReal.coe_mul]
  norm_num
theorem lit_bot : Ideal.ofBits .f32 0xFF800000#32 = ⊥ := by simp [Ideal.ofBits, Ideal.ieee]
theorem lit_one : Ideal.ofBits .f32 0x3F800000#32 = 1 := by
  simp [Ideal.ofBits, Ideal.ieee]
  rw [← EReal.coe_mul]
  norm_num

/-- A sum of products of coercions. -/
theorem sum_mul_coe {ι : Type} [Fintype ι] {f g : ι → EReal} {f' g' : ι → ℝ} (hf : ∀ k, f k = (f' k : EReal))
    (hg : ∀ k, g k = (g' k : EReal)) : ∑ k, f k * g k = ((∑ k, f' k * g' k : ℝ) : EReal) := by
  rw [← sum_coe]
  exact Finset.sum_congr rfl fun k _ => by rw [hf, hg, EReal.coe_mul]

variable {A : RealArgs} {x0 x1 x2 x3 : (⟨S4x2048x16x64, .f32⟩ : BufTy).Contents (Elt Ideal)}
  {x4 : (⟨S4x2048x16, .f32⟩ : BufTy).Contents (Elt Ideal)}

/-! ## The keys' windows -/

theorem ref_v0 (H : Coe A x0 x1 x2 x3 x4) (i : S4x16x128x16x64.Idx) :
    val_main_v0 (F := Ideal) x0 i = (A.q (i 0).val ((i 1).val * 128 + (i 2).val) (i 3).val (i 4).val : EReal) := by
  have h0 : (i 0).val < 4 := (i 0).isLt
  have h1 : (i 1).val < 16 := (i 1).isLt
  have h2 : (i 2).val < 128 := (i 2).isLt
  have h3 : (i 3).val < 16 := (i 3).isLt
  have h4 : (i 4).val < 64 := (i 4).isLt
  rw [val_main_v0_apply, H.q]
  dsimp only [idx_main_v0]
  congr 2 <;> omega

theorem ref_v1 (H : Coe A x0 x1 x2 x3 x4) (i : S4x16x128x16x64.Idx) :
    val_main_v1 (F := Ideal) x1 i = (A.k (i 0).val ((i 1).val * 128 + (i 2).val) (i 3).val (i 4).val : EReal) := by
  have h0 : (i 0).val < 4 := (i 0).isLt
  have h1 : (i 1).val < 16 := (i 1).isLt
  have h2 : (i 2).val < 128 := (i 2).isLt
  have h3 : (i 3).val < 16 := (i 3).isLt
  have h4 : (i 4).val < 64 := (i 4).isLt
  rw [val_main_v1_apply, H.k]
  dsimp only [idx_main_v1]
  congr 2 <;> omega

/-- The same operations read the values. -/
theorem v7_v14 : val_main_v14 (F := Ideal) x2 = val_main_v7 (F := Ideal) x2 := rfl

theorem ref_v5 (H : Coe A x0 x1 x2 x3 x4) (i : S4x16x128x16x64.Idx) :
    val_main_v5 (F := Ideal) x1 i = (win A.k (i 0).val (i 1).val (i 3).val (i 2).val (i 4).val : EReal) := by
  have h1 : (i 1).val < 16 := (i 1).isLt
  have h2 : (i 2).val < 128 := (i 2).isLt
  unfold val_main_v5 win
  by_cases hc : (i 1).val = 0
  · rw [if_neg (by omega)]
    refine (concatenate_pair_apply_left (s₁ := S4x1x128x16x64) (s₂ := S4x15x128x16x64) 1 _ _ _ i rfl
      (fun a => match a with
        | ⟨0, _⟩ => ⟨(i 0).val, (i 0).isLt⟩
        | ⟨1, _⟩ => ⟨0, Nat.one_pos⟩
        | ⟨2, _⟩ => ⟨(i 2).val, (i 2).isLt⟩
        | ⟨3, _⟩ => ⟨(i 3).val, (i 3).isLt⟩
        | ⟨4, _⟩ => ⟨(i 4).val, (i 4).isLt⟩ : S4x1x128x16x64.Idx)
      (fun b => match b with
        | ⟨0, _⟩ => rfl
        | ⟨1, _⟩ => hc.symm
        | ⟨2, _⟩ => rfl
        | ⟨3, _⟩ => rfl
        | ⟨4, _⟩ => rfl)).trans ?_
    rw [val_main_v3_apply, val_main_cst_apply, Ideal.ofBits_def, Ideal.ofBits_zero_f32]; rfl
  · rw [if_pos (by omega)]
    refine (concatenate_pair_apply_right (s₁ := S4x1x128x16x64) (s₂ := S4x15x128x16x64) 1 _ _ _ i rfl rfl
      (fun a => match a with
        | ⟨0, _⟩ => ⟨(i 0).val, (i 0).isLt⟩
        | ⟨1, _⟩ => ⟨(i 1).val - 1, by show (i 1).val - 1 < 15; omega⟩
        | ⟨2, _⟩ => ⟨(i 2).val, (i 2).isLt⟩
        | ⟨3, _⟩ => ⟨(i 3).val, (i 3).isLt⟩
        | ⟨4, _⟩ => ⟨(i 4).val, (i 4).isLt⟩ : S4x15x128x16x64.Idx)
      (fun b hb => match b with
        | ⟨0, _⟩ => rfl
        | ⟨1, _⟩ => absurd rfl hb
        | ⟨2, _⟩ => rfl
        | ⟨3, _⟩ => rfl
        | ⟨4, _⟩ => rfl)
      (by show (i 1).val - 1 + 1 = (i 1).val; omega)).trans ?_
    rw [val_main_v4_apply, ref_v1 H]
    dsimp only [idx_main_v4]
    congr 2; omega

theorem ref_v7 (H : Coe A x0 x1 x2 x3 x4) (i : S4x16x256x16x64.Idx) :
    val_main_v7 (F := Ideal) x1 i = (win A.k (i 0).val (i 1).val (i 3).val (i 2).val (i 4).val : EReal) := by
  have h1 : (i 1).val < 16 := (i 1).isLt
  have h2 : (i 2).val < 256 := (i 2).isLt
  unfold val_main_v7
  by_cases hc : (i 2).val < 128
  · refine (concatenate_pair_apply_left (s₁ := S4x16x128x16x64) (s₂ := S4x16x128x16x64) 2 _ _ _ i rfl
      (fun a => match a with
        | ⟨0, _⟩ => ⟨(i 0).val, (i 0).isLt⟩
        | ⟨1, _⟩ => ⟨(i 1).val, (i 1).isLt⟩
        | ⟨2, _⟩ => ⟨(i 2).val, hc⟩
        | ⟨3, _⟩ => ⟨(i 3).val, (i 3).isLt⟩
        | ⟨4, _⟩ => ⟨(i 4).val, (i 4).isLt⟩ : S4x16x128x16x64.Idx)
      (fun b => match b with
        | ⟨0, _⟩ => rfl
        | ⟨1, _⟩ => rfl
        | ⟨2, _⟩ => rfl
        | ⟨3, _⟩ => rfl
        | ⟨4, _⟩ => rfl)).trans ?_
    rw [ref_v5 H]
  · refine (concatenate_pair_apply_right (s₁ := S4x16x128x16x64) (s₂ := S4x16x128x16x64) 2 _ _ _ i rfl rfl
      (fun a => match a with
        | ⟨0, _⟩ => ⟨(i 0).val, (i 0).isLt⟩
        | ⟨1, _⟩ => ⟨(i 1).val, (i 1).isLt⟩
        | ⟨2, _⟩ => ⟨(i 2).val - 128, by show (i 2).val - 128 < 128; omega⟩
        | ⟨3, _⟩ => ⟨(i 3).val, (i 3).isLt⟩
        | ⟨4, _⟩ => ⟨(i 4).val, (i 4).isLt⟩ : S4x16x128x16x64.Idx)
      (fun b hb => match b with
        | ⟨0, _⟩ => rfl
        | ⟨1, _⟩ => rfl
        | ⟨2, _⟩ => absurd rfl hb
        | ⟨3, _⟩ => rfl
        | ⟨4, _⟩ => rfl)
      (by show (i 2).val - 128 + 128 = (i 2).val; omega)).trans ?_
    rw [ref_v1 H]
    unfold win
    rw [if_pos (by omega)]
    dsimp only
    congr 2; omega

theorem ref_v14 (H : Coe A x0 x1 x2 x3 x4) (i : S4x16x256x16x64.Idx) :
    val_main_v14 (F := Ideal) x2 i = (win A.v (i 0).val (i 1).val (i 3).val (i 2).val (i 4).val : EReal) := by
  rw [v7_v14]
  exact ref_v7 (A := ⟨A.q, A.v, A.v, A.g, A.l⟩) (x0 := x0) (x1 := x2) (x2 := x2) (x3 := x3) (x4 := x4)
    ⟨H.q, H.v, H.v, H.g, H.l⟩ i

/-! ## The band -/

theorem cmp_band {i j : ℕ} (hi : i < 128) (hj : j < 256) :
    ((128#32 + BitVec.ofNat 32 i) - BitVec.ofNat 32 j).toInt = 128 + (i : ℤ) - j := by
  rw [BitVec.toInt_sub, BitVec.toInt_add, WordCmp.toInt_ofNat_of_lt (by omega : i < 2 ^ (32 - 1)),
    WordCmp.toInt_ofNat_of_lt (by omega : j < 2 ^ (32 - 1)), show (128#32).toInt = 128 from rfl,
    Int.bmod_def, Int.bmod_def]
  norm_num
  split <;> split <;> omega

theorem ref_v31 (i : S128x256.Idx) :
    val_main_v31 (F := Ideal) i = BitVec.ofBool (decide ((i 0).val ≤ (i 1).val ∧ (i 1).val ≤ (i 0).val + 128)) := by
  have h0 : (i 0).val < 128 := (i 0).isLt
  have h1 : (i 1).val < 256 := (i 1).isLt
  have e : val_main_v26 (F := Ideal) i = (128#32 + BitVec.ofNat 32 (i 0).val) - BitVec.ofNat 32 (i 1).val := by
    rw [val_main_v26_apply, val_main_v24_apply, val_main_v23_apply, val_main_v22_apply, val_main_v19_apply,
      val_main_v18_apply, val_main_v25_apply, val_main_v21_apply, val_main_v20_apply]
    rfl
  have e27 : (val_main_v27 (F := Ideal) i).toInt = 0 := by rw [val_main_v27_apply]; rfl
  have e29 : (val_main_v29 (F := Ideal) i).toInt = 128 := by rw [val_main_v29_apply]; rfl
  rw [val_main_v31_apply, val_main_v28_apply, val_main_v30_apply, WordCmp.cmpi_sge_eq, WordCmp.cmpi_sle_eq, e, e27, e29,
    cmp_band h0 h1]
  by_cases p : (i 0).val ≤ (i 1).val <;> by_cases p' : (i 1).val ≤ (i 0).val + 128
  · rw [decide_eq_true (by omega : (128 + ((i 0).val : ℤ) - (i 1).val ≤ 128)),
      decide_eq_true (by omega : (0 ≤ 128 + ((i 0).val : ℤ) - (i 1).val)), decide_eq_true ⟨p, p'⟩]; rfl
  · rw [decide_eq_true (by omega : (128 + ((i 0).val : ℤ) - (i 1).val ≤ 128)),
      decide_eq_false (by omega : ¬ (0 ≤ 128 + ((i 0).val : ℤ) - (i 1).val)), decide_eq_false (fun q => p' q.2)]; rfl
  · rw [decide_eq_false (by omega : ¬ (128 + ((i 0).val : ℤ) - (i 1).val ≤ 128)),
      decide_eq_true (by omega : (0 ≤ 128 + ((i 0).val : ℤ) - (i 1).val)), decide_eq_false (fun q => p q.1)]; rfl
  · omega

theorem ref_v41 (i : S16x1x256.Idx) :
    val_main_v41 (F := Ideal) i = BitVec.ofBool (decide (0 < (i 0).val ∨ 128 ≤ (i 2).val)) := by
  have h0 : (i 0).val < 16 := (i 0).isLt
  have h1 : (i 2).val < 256 := (i 2).isLt
  have e : val_main_v39 (F := Ideal) i = BitVec.ofBool (decide (0 < (i 0).val)) := by
    rw [val_main_v39_apply, val_main_v35_apply, val_main_v33_apply, val_main_v32_apply, val_main_v34_apply,
      WordCmp.cmpi_sgt_eq, WordCmp.toInt_ofNat_of_lt (by show (i 0).val < 2 ^ (32 - 1); omega)]
    congr 1
    exact decide_eq_decide.mpr (by show ((0 : ℤ) < ((i 0).val : ℤ)) ↔ _; omega)
  have e' : val_main_v40 (F := Ideal) i = BitVec.ofBool (decide (128 ≤ (i 2).val)) := by
    rw [val_main_v40_apply, val_main_v38_apply, val_main_v37_apply, val_main_v21_apply, val_main_v20_apply, val_main_v36_apply,
      WordCmp.cmpi_sge_eq, WordCmp.toInt_ofNat_of_lt (by show (i 2).val < 2 ^ (32 - 1); omega)]
    congr 1
    exact decide_eq_decide.mpr (by show ((128 : ℤ) ≤ ((i 2).val : ℤ)) ↔ _; omega)
  rw [val_main_v41_apply, e, e']
  by_cases p : 0 < (i 0).val <;> by_cases p' : 128 ≤ (i 2).val <;> simp [p, p', IntOp.ori]

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The key an index of the scores names. -/
def key (i : S4x16x16x128x256.Idx) : Fin 256 := i 4

theorem ref_mask (i : S4x16x16x128x256.Idx) :
    val_main_v47_1 (F := Ideal) i = BitVec.ofBool (decide (on (i 1).val (i 3).val (key i))) := by
  rw [val_main_v47_1_apply, val_main_v46_apply, val_main_v45_apply, val_main_v43_apply, val_main_v42_apply, val_main_v44_apply,
    ref_v31, ref_v41]
  show IntOp.andi (BitVec.ofBool (decide ((i 3).val ≤ (i 4).val ∧ (i 4).val ≤ (i 3).val + 128)))
    (BitVec.ofBool (decide (0 < (i 1).val ∨ 128 ≤ (i 4).val))) = _
  rw [andi_ofBool]
  exact congrArg BitVec.ofBool (decide_eq_decide.mpr Iff.rfl)

theorem select_ofBool {α : Type} (p : Prop) [Decidable p] (a b : α) :
    Scalar.select (BitVec.ofBool (decide p)) a b = if p then a else b := by
  by_cases h : p
  · rw [if_pos h, decide_eq_true h]; rfl
  · rw [if_neg h, decide_eq_false h]; rfl

/-! ## The scores and their maximum -/

theorem ref_v17 (H : Coe A x0 x1 x2 x3 x4) (i : S4x16x16x128x256.Idx) :
    val_main_v17 (F := Ideal) x0 x1 i = (A.sc (i 0).val (i 1).val (i 2).val (i 3).val (key i) : EReal) := by
  rw [val_main_v17_apply, val_main_v15_apply, val_main_v16_apply, val_main_cst_3_apply, Ideal.mulf_def, Ideal.ofBits_def, lit_eighth,
    sum_mul_coe (fun k => ref_v0 H _) (fun k => ref_v7 H _), ← EReal.coe_mul]
  rfl

theorem ref_score (H : Coe A x0 x1 x2 x3 x4) (i : S4x16x16x128x256.Idx) :
    val_main_v47_0 (F := Ideal) x0 x1 i
      = score (on (i 1).val (i 3).val) (A.sc (i 0).val (i 1).val (i 2).val (i 3).val) (key i) := by
  rw [val_main_v47_0_apply, ref_mask, select_ofBool, ref_v17 H, val_main_call0_v2_apply, val_main_call0_v0_apply, val_main_cst_8_apply,
    Ideal.ofBits_def, lit_bot]
  rfl

theorem red_v48 : S4x16x16x128x256.Reduces [4] S4x16x16x128 := by decide

theorem ref_top (H : Coe A x0 x1 x2 x3 x4) (i : S4x16x16x128.Idx) :
    val_main_v48 (F := Ideal) x0 x1 i = top (on (i 1).val (i 3).val) (A.sc (i 0).val (i 1).val (i 2).val (i 3).val) := by
  unfold val_main_v48 top
  rw [Host.reduce_eq_fold_single _ _ _ _ red_v48, val_main_cst_9_apply, Ideal.ofBits_def, lit_bot]
  show Finset.univ.fold max ⊥ _ = _
  congr 1
  funext j
  rw [Function.comp_apply, ref_score H]
  rfl

end Cert.KernelIdeal.Dil
-- ==== Proof.Dil.Ref2.lean ====
/- The reference's weights, output and log-sum, and the gradient of its scores, on real arguments. -/
module

public import proofs.«01_k».proof.Proof.Dil.Ref1

@[expose] public section

noncomputable section

namespace Cert.KernelIdeal.Dil

open Idealize.ShloMosaic Cert.ReferenceIdeal Cert.ReferenceIdeal.Read

variable {A : RealArgs} {x0 x1 x2 x3 : (⟨S4x2048x16x64, .f32⟩ : BufTy).Contents (Elt Ideal)}
  {x4 : (⟨S4x2048x16, .f32⟩ : BufTy).Contents (Elt Ideal)}

/-- A query's log-sum. -/
def RealArgs.lse (A : RealArgs) (r n h i : ℕ) : ℝ := lsum (on n i) (A.sc r n h i)
/-- A query's sum of exponentials. -/
def RealArgs.Z (A : RealArgs) (r n h i : ℕ) : ℝ := tot (on n i) (A.sc r n h i)

theorem mul_coe {x y : EReal} {x' y' : ℝ} (hx : x = (x' : EReal)) (hy : y = (y' : EReal)) : x * y = ((x' * y' : ℝ) : EReal) := by
  rw [hx, hy, EReal.coe_mul]

/-! ## Reshapes that move no coordinate -/

/-- The same index without the last, single coordinate. -/
abbrev drop1 (i : S4x16x16x128x1.Idx) : S4x16x16x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩

theorem idx49 (i : S4x16x16x128x1.Idx) : idx_main_v49 i = drop1 i := by
  have h0 : (i 0).val < 4 := (i 0).isLt
  have h1 : (i 1).val < 16 := (i 1).isLt
  have h2 : (i 2).val < 16 := (i 2).isLt
  have h3 : (i 3).val < 128 := (i 3).isLt
  have h4 : (i 4).val < 1 := (i 4).isLt
  funext a
  apply Fin.ext
  match a with
  | ⟨0, _⟩ => show (((((i 0).val * 16 + (i 1).val) * 16 + (i 2).val) * 128 + (i 3).val) * 1 + (i 4).val) / 32768 = (i 0).val; omega
  | ⟨1, _⟩ => show (((((i 0).val * 16 + (i 1).val) * 16 + (i 2).val) * 128 + (i 3).val) * 1 + (i 4).val) / 2048 % 16 = (i 1).val; omega
  | ⟨2, _⟩ => show (((((i 0).val * 16 + (i 1).val) * 16 + (i 2).val) * 128 + (i 3).val) * 1 + (i 4).val) / 128 % 16 = (i 2).val; omega
  | ⟨3, _⟩ => show (((((i 0).val * 16 + (i 1).val) * 16 + (i 2).val) * 128 + (i 3).val) * 1 + (i 4).val) % 128 = (i 3).val; omega

theorem idx86 (i : S4x16x16x128x1.Idx) : idx_main_v86 i = drop1 i := idx49 i
theorem idx97 (i : S4x16x16x128x1.Idx) : idx_main_v97 i = drop1 i := idx49 i

/-- The same index with a last, single coordinate. -/
abbrev add1 (i : S4x16x16x128.Idx) : S4x16x16x128x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩

theorem idx69 (i : S4x16x16x128.Idx) : idx_main_v69 i = add1 i := by
  have h0 : (i 0).val < 4 := (i 0).isLt
  have h1 : (i 1).val < 16 := (i 1).isLt
  have h2 : (i 2).val < 16 := (i 2).isLt
  have h3 : (i 3).val < 128 := (i 3).isLt
  funext a
  apply Fin.ext
  match a with
  | ⟨0, _⟩ => show ((((i 0).val * 16 + (i 1).val) * 16 + (i 2).val) * 128 + (i 3).val) / 32768 = (i 0).val; omega
  | ⟨1, _⟩ => show ((((i 0).val * 16 + (i 1).val) * 16 + (i 2).val) * 128 + (i 3).val) / 2048 % 16 = (i 1).val; omega
  | ⟨2, _⟩ => show ((((i 0).val * 16 + (i 1).val) * 16 + (i 2).val) * 128 + (i 3).val) / 128 % 16 = (i 2).val; omega
  | ⟨3, _⟩ => show ((((i 0).val * 16 + (i 1).val) * 16 + (i 2).val) * 128 + (i 3).val) / 1 % 128 = (i 3).val; omega
  | ⟨4, _⟩ => rfl

/-! ## The weights -/

theorem hon (n : ℕ) (i : Fin 128) : ∃ j, on n i.val j := exists_on n i.isLt

theorem ref_v57 (H : Coe A x0 x1 x2 x3 x4) (i : S4x16x16x128x256.Idx) :
    val_main_v57 (F := Ideal) x0 x1 i
      = (pr (on (i 1).val (i 3).val) (A.sc (i 0).val (i 1).val (i 2).val (i 3).val) (key i) : EReal) := by
  rw [val_main_v57_apply, val_main_v56_apply, ref_score H, val_main_v55_apply, val_main_v54_apply, ref_top H]
  exact exp_score_top _ (exists_on _ (i 3).isLt) _

theorem ref_v58 (H : Coe A x0 x1 x2 x3 x4) (i : S4x16x16x128.Idx) :
    val_main_v58 (F := Ideal) x0 x1 i = (A.Z (i 0).val (i 1).val (i 2).val (i 3).val : EReal) := by
  rw [val_main_v58_apply, val_main_cst_11_apply, Ideal.ofBits_def, Ideal.ofBits_zero_f32, zero_add]
  unfold RealArgs.Z tot
  rw [← sum_coe]
  exact Finset.sum_congr rfl fun k _ => ref_v57 H _

theorem ref_v59 (H : Coe A x0 x1 x2 x3 x4) (i : S4x16x16x128x1.Idx) :
    val_main_v59 (F := Ideal) x0 x1 i = (A.Z (i 0).val (i 1).val (i 2).val (i 3).val : EReal) := by
  rw [val_main_v59_apply, ref_v58 H]

theorem ref_v61 (H : Coe A x0 x1 x2 x3 x4) (i : S4x16x16x128x256.Idx) :
    val_main_v61 (F := Ideal) x0 x1 i = (A.W (i 0).val (i 1).val (i 2).val (i 3).val (key i) : EReal) := by
  rw [val_main_v61_apply, ref_v57 H, val_main_v60_apply, ref_v59 H, Ideal.hostDivf_def]
  exact div_tot _ (exists_on _ (i 3).isLt) _

/-! ## The output and the log-sum -/

theorem ref_v65 (H : Coe A x0 x1 x2 x3 x4) (i : S4x16x16x64x128.Idx) :
    val_main_v65 (F := Ideal) x0 x1 x2 i = (A.out (i 0).val (i 1).val (i 2).val (i 4).val (i 3).val : EReal) := by
  rw [val_main_v65_apply, sum_mul_coe (fun k => ref_v14 H _) (fun k => ref_v61 H _)]
  unfold RealArgs.out
  congr 1
  exact Finset.sum_congr rfl fun k _ => mul_comm _ _

theorem ref_out (H : Coe A x0 x1 x2 x3 x4) (i : S4x2048x16x64.Idx) :
    val_main_v72 (F := Ideal) x0 x1 x2 i
      = (A.out (i 0).val ((i 1).val / 128) (i 2).val ((i 1).val % 128) (i 3).val : EReal) := by
  have h0 : (i 0).val < 4 := (i 0).isLt
  have h1 : (i 1).val < 2048 := (i 1).isLt
  have h2 : (i 2).val < 16 := (i 2).isLt
  have h3 : (i 3).val < 64 := (i 3).isLt
  rw [val_main_v72_apply, val_main_v66_apply, ref_v65 H]
  dsimp only [idx_main_v66, idx_main_v72]
  congr 2 <;> omega

theorem ref_v68 (H : Coe A x0 x1 x2 x3 x4) (i : S4x16x16x128x1.Idx) :
    val_main_v68 (F := Ideal) x0 x1 i = (A.lse (i 0).val (i 1).val (i 2).val (i 3).val : EReal) := by
  rw [val_main_v68_apply, val_main_v67_apply, ref_v59 H, val_main_v54_apply, ref_top H]
  exact lsum_eq _ (exists_on _ (i 3).isLt)

theorem ref_lse (H : Coe A x0 x1 x2 x3 x4) (i : S4x2048x16.Idx) :
    val_main_v71 (F := Ideal) x0 x1 i
      = (A.lse (i 0).val ((i 1).val / 128) (i 2).val ((i 1).val % 128) : EReal) := by
  have h0 : (i 0).val < 4 := (i 0).isLt
  have h1 : (i 1).val < 2048 := (i 1).isLt
  have h2 : (i 2).val < 16 := (i 2).isLt
  rw [val_main_v71_apply, val_main_v70_apply, val_main_v69_apply, idx69, ref_v68 H]
  dsimp only [add1, idx_main_v70, idx_main_v71]
  congr 2 <;> omega

/-! ## The gradient of the scores -/

theorem ref_v73 (H : Coe A x0 x1 x2 x3 x4) (i : S4x16x128x16x64.Idx) :
    val_main_v73 (F := Ideal) x3 i = (A.g (i 0).val ((i 1).val * 128 + (i 2).val) (i 3).val (i 4).val : EReal) :=
  ref_v0 (A := ⟨A.g, A.k, A.v, A.g, A.l⟩) (x0 := x3) (x1 := x1) (x2 := x2) (x3 := x3) (x4 := x4) ⟨H.g, H.k, H.v, H.g, H.l⟩ i

theorem ref_v78 (H : Coe A x0 x1 x2 x3 x4) (i : S4x16x16x64x128.Idx) :
    val_main_v78 (F := Ideal) x3 i = (A.g (i 0).val ((i 1).val * 128 + (i 4).val) (i 2).val (i 3).val : EReal) := by
  rw [val_main_v78_apply, ref_v73 H]

theorem ref_v79 (H : Coe A x0 x1 x2 x3 x4) (i : S4x16x16x128x256.Idx) :
    val_main_v79 (F := Ideal) x2 x3 i = (A.dp (i 0).val (i 1).val (i 2).val (i 3).val (key i) : EReal) := by
  rw [val_main_v79_apply, sum_mul_coe (fun k => ref_v78 H _) (fun k => ref_v14 H _)]
  rfl

theorem ref_v76 (H : Coe A x0 x1 x2 x3 x4) (i : S4x16x16x128x1.Idx) :
    val_main_v76 (F := Ideal) x4 i = (A.dl (i 0).val (i 1).val (i 2).val (i 3).val : EReal) := by
  have h0 : (i 0).val < 4 := (i 0).isLt
  have h1 : (i 1).val < 16 := (i 1).isLt
  have h2 : (i 2).val < 16 := (i 2).isLt
  have h3 : (i 3).val < 128 := (i 3).isLt
  rw [val_main_v76_apply, val_main_v75_apply, val_main_v74_apply, H.l]
  unfold RealArgs.dl
  dsimp only [idx_main_v74, idx_main_v75, idx_main_v76]
  congr 2 <;> omega

/-- The gradient of a query's sum of exponentials. -/
def RealArgs.dZ (A : RealArgs) (r n h i : ℕ) : ℝ :=
  (A.dl r n h i - mean (on n i) (A.sc r n h i) (A.dp r n h i)) / A.Z r n h i

theorem ref_v84 (H : Coe A x0 x1 x2 x3 x4) (i : S4x16x16x128x256.Idx) :
    val_main_v84 (F := Ideal) x0 x1 x2 x3 i
      = (A.dp (i 0).val (i 1).val (i 2).val (i 3).val (key i) : EReal)
          * Ideal.div 1 ((A.Z (i 0).val (i 1).val (i 2).val (i 3).val : EReal) * (A.Z (i 0).val (i 1).val (i 2).val (i 3).val : EReal))
          * (pr (on (i 1).val (i 3).val) (A.sc (i 0).val (i 1).val (i 2).val (i 3).val) (key i) : EReal) := by
  rw [val_main_v84_apply, val_main_v83_apply, ref_v79 H, ref_v57 H, val_main_v82_apply, val_main_v64_apply, val_main_v62_apply,
    ref_v59 H, val_main_v63_apply, val_main_cst_12_apply, Ideal.ofBits_def, lit_one]
  rfl

theorem ref_v88 (H : Coe A x0 x1 x2 x3 x4) (i : S4x16x16x128x1.Idx) :
    val_main_v88 (F := Ideal) x0 x1 x2 x3 x4 i = (A.dZ (i 0).val (i 1).val (i 2).val (i 3).val : EReal) := by
  rw [val_main_v88_apply, val_main_v77_apply, ref_v76 H, ref_v59 H, val_main_v87_apply, val_main_v86_apply, idx86, val_main_v85_apply,
    val_main_cst_13_apply, Ideal.ofBits_def, Ideal.ofBits_zero_f32]
  simp only [ref_v84 H]
  exact tot_grad _ _ _ (exists_on _ (i 3).isLt)

theorem ref_v93 (H : Coe A x0 x1 x2 x3 x4) (i : S4x16x16x128x256.Idx) :
    val_main_v93 (F := Ideal) x0 x1 x2 x3 x4 i
      = Ideal.div (A.dp (i 0).val (i 1).val (i 2).val (i 3).val (key i) : EReal) (A.Z (i 0).val (i 1).val (i 2).val (i 3).val : EReal)
        + (A.dZ (i 0).val (i 1).val (i 2).val (i 3).val : EReal) := by
  rw [val_main_v93_apply, val_main_v90_apply, ref_v79 H, val_main_v89_apply, ref_v59 H, val_main_v92_apply, val_main_v91_apply,
    val_main_cst_14_apply, Ideal.ofBits_def, Ideal.ofBits_zero_f32, Fin.sum_univ_one, ref_v88 H, zero_add]
  rfl

theorem ref_v94 (H : Coe A x0 x1 x2 x3 x4) (i : S4x16x16x128x256.Idx) :
    val_main_v94 (F := Ideal) x0 x1 x2 x3 x4 i = (A.G (i 0).val (i 1).val (i 2).val (i 3).val (key i) : EReal) := by
  rw [val_main_v94_apply, ref_v93 H, ref_v57 H]
  exact score_grad _ _ _ (exists_on _ (i 3).isLt) _

theorem ref_v98 (H : Coe A x0 x1 x2 x3 x4) (i : S4x16x16x128x1.Idx) : val_main_v98 (F := Ideal) x0 x1 x2 x3 x4 i = 0 := by
  rw [val_main_v98_apply, ref_v76 H, val_main_v97_apply, idx97, val_main_v96_apply, val_main_cst_15_apply, Ideal.ofBits_def,
    Ideal.ofBits_zero_f32]
  simp only [val_main_v95_apply, ref_v94 H]
  exact top_grad (b := on (i 1).val (i 3).val) (A.sc (i 0).val (i 1).val (i 2).val (i 3).val)
    (A.dp (i 0).val (i 1).val (i 2).val (i 3).val) (A.dl (i 0).val (i 1).val (i 2).val (i 3).val) (exists_on _ (i 3).isLt)

theorem ref_v52 (H : Coe A x0 x1 x2 x3 x4) (i : S4x16x16x128x256.Idx) :
    val_main_v52 (F := Ideal) x0 x1 i
      = ((if score (on (i 1).val (i 3).val) (A.sc (i 0).val (i 1).val (i 2).val (i 3).val) (key i)
          = top (on (i 1).val (i 3).val) (A.sc (i 0).val (i 1).val (i 2).val (i 3).val) then 1 else 0 : ℝ) : EReal) := by
  rw [val_main_v52_apply, val_main_v51_apply, ref_score H, val_main_v50_apply, val_main_v49_apply, idx49, ref_top H]
  show (((BitVec.ofBool (decide (score _ _ (key i) = top _ _))).toNat : ℝ) : EReal) = _
  split
  · rename_i h
    rw [decide_eq_true h]; norm_num; rfl
  · rename_i h
    rw [decide_eq_false h]; norm_num

theorem ref_v100 (H : Coe A x0 x1 x2 x3 x4) (i : S4x16x16x128.Idx) : val_main_v100 (F := Ideal) x0 x1 x2 x3 x4 i = 0 := by
  rw [val_main_v100_apply, val_main_v99_apply, val_main_cst_16_apply, Ideal.ofBits_def, Ideal.ofBits_zero_f32, Fin.sum_univ_one,
    ref_v98 H, zero_add, Ideal.hostDivf_def]
  refine count_ne (b := on (i 1).val (i 3).val) (A.sc (i 0).val (i 1).val (i 2).val (i 3).val) _ ?_
  rw [val_main_v53_apply, val_main_cst_10_apply, Ideal.ofBits_def, Ideal.ofBits_zero_f32, zero_add]
  exact Finset.sum_congr rfl fun k _ => ref_v52 H _

theorem ref_v104 (H : Coe A x0 x1 x2 x3 x4) (i : S4x16x16x128x256.Idx) :
    val_main_v104 (F := Ideal) x0 x1 x2 x3 x4 i = (A.G (i 0).val (i 1).val (i 2).val (i 3).val (key i) : EReal) := by
  rw [val_main_v104_apply, ref_mask, select_ofBool, val_main_v103_apply, ref_v94 H, val_main_v102_apply, val_main_v101_apply, ref_v100 H,
    Ideal.mulf_def, zero_mul, Ideal.addf_def, add_zero]
  split
  · rfl
  · rename_i h
    rw [show A.G (i 0).val (i 1).val (i 2).val (i 3).val (key i) = 0 from gsc_of_not _ _ _ h, val_main_call1_v0_apply,
      val_main_call1_cst_apply, Ideal.ofBits_def, Ideal.ofBits_zero_f32]
    rfl

theorem ref_v106 (H : Coe A x0 x1 x2 x3 x4) (i : S4x16x16x128x256.Idx) :
    val_main_v106 (F := Ideal) x0 x1 x2 x3 x4 i = (A.G (i 0).val (i 1).val (i 2).val (i 3).val (key i) * (1 / 8) : ℝ) := by
  rw [val_main_v106_apply, ref_v104 H, val_main_v105_apply, val_main_cst_17_apply, Ideal.mulf_def, Ideal.ofBits_def, lit_eighth,
    ← EReal.coe_mul]

end Cert.KernelIdeal.Dil
-- ==== Proof.Dil.Host2.lean ====
/- The rows and statistics the launch finds, over the reals. -/
module

public import proofs.«01_k».proof.Proof.Dil.Host1
public import proofs.«01_k».proof.Proof.Dil.Ref2
public import Idealize.ShloMosaic.Lib.Pipeline.Value
public import Idealize.ShloMosaic.Lib.KernelVsHost

@[expose] public section

noncomputable section

namespace Cert.KernelIdeal.Dil

open Cert.KernelIdeal.Gen
open Idealize.ShloMosaic

abbrev at4x2048x16x64 (a : Fin 4) (b : Fin 2048) (c : Fin 16) (d : Fin 64) : S4x2048x16x64.Idx := fun x => match x with
  | ⟨0, _⟩ => a
  | ⟨1, _⟩ => b
  | ⟨2, _⟩ => c
  | ⟨3, _⟩ => d
abbrev at2048x4x16x64 (a : Fin 2048) (b : Fin 4) (c : Fin 16) (d : Fin 64) : S2048x4x16x64.Idx := fun x => match x with
  | ⟨0, _⟩ => a
  | ⟨1, _⟩ => b
  | ⟨2, _⟩ => c
  | ⟨3, _⟩ => d
abbrev at4x2048x16 (a : Fin 4) (b : Fin 2048) (c : Fin 16) : S4x2048x16.Idx := fun x => match x with
  | ⟨0, _⟩ => a
  | ⟨1, _⟩ => b
  | ⟨2, _⟩ => c
abbrev at2048x4x16 (a : Fin 2048) (b : Fin 4) (c : Fin 16) : S2048x4x16.Idx := fun x => match x with
  | ⟨0, _⟩ => a
  | ⟨1, _⟩ => b
  | ⟨2, _⟩ => c
abbrev at2048x4x128 (a : Fin 2048) (b : Fin 4) (c : Fin 128) : S2048x4x128.Idx := fun x => match x with
  | ⟨0, _⟩ => a
  | ⟨1, _⟩ => b
  | ⟨2, _⟩ => c

theorem rows_apply (x : FVec Ideal S4x2048x16x64 .f32) (i : S2048x4096.Idx) :
    rows (F := Ideal) x i = x (at4x2048x16x64 ⟨(i 1).val / 1024, by have h : (i 1).val < 4096 := (i 1).isLt; omega⟩ ⟨(i 0).val, (i 0).isLt⟩
      ⟨(i 1).val / 64 % 16, Nat.mod_lt _ (by decide)⟩ ⟨(i 1).val % 64, Nat.mod_lt _ (by decide)⟩) := by
  have h0 : (i 0).val < 2048 := (i 0).isLt
  have h1 : (i 1).val < 4096 := (i 1).isLt
  unfold rows
  show shapeCast S2048x4096 (transpose S2048x4x16x64 [1, 0, 2, 3] x transposes_S4x2048x16x64_S2048x4x16x64_1_0_2_3)
    shapeCasts_S2048x4x16x64_S2048x4096 i = _
  refine (shapeCast_apply _ shapeCasts_S2048x4x16x64_S2048x4096 i (at2048x4x16x64 ⟨(i 0).val, h0⟩ ⟨(i 1).val / 1024, by omega⟩
    ⟨(i 1).val / 64 % 16, Nat.mod_lt _ (by decide)⟩ ⟨(i 1).val % 64, Nat.mod_lt _ (by decide)⟩) ?_).trans ?_
  · rewrite [Shape.rowMajor_val_four, Shape.rowMajor_val_two]
    show (((i 0).val * 4 + (i 1).val / 1024) * 16 + (i 1).val / 64 % 16) * 64 + (i 1).val % 64 = (i 0).val * 4096 + (i 1).val
    omega
  · exact transpose_apply _ x _ _ _ (fun b => match b with
      | ⟨0, _⟩ => rfl
      | ⟨1, _⟩ => rfl
      | ⟨2, _⟩ => rfl
      | ⟨3, _⟩ => rfl)

theorem stats_apply (x : FVec Ideal S4x2048x16 .f32) (i : S2048x512.Idx) (hc : (i 1).val % 128 < 16) :
    stats (F := Ideal) x i = x (at4x2048x16 ⟨(i 1).val / 128, by have h : (i 1).val < 512 := (i 1).isLt; omega⟩ ⟨(i 0).val, (i 0).isLt⟩
      ⟨(i 1).val % 128, hc⟩) := by
  have h0 : (i 0).val < 2048 := (i 0).isLt
  have h1 : (i 1).val < 512 := (i 1).isLt
  unfold stats
  refine (shapeCast_apply _ shapeCasts_S2048x4x128_S2048x512 i (at2048x4x128 ⟨(i 0).val, h0⟩ ⟨(i 1).val / 128, by omega⟩
    ⟨(i 1).val % 128, Nat.mod_lt _ (by decide)⟩) ?_).trans ?_
  · rewrite [Shape.rowMajor_val_three, Shape.rowMajor_val_two]
    show ((i 0).val * 4 + (i 1).val / 128) * 128 + (i 1).val % 128 = (i 0).val * 512 + (i 1).val
    omega
  · refine (pad_apply_of_inside _ _ _ _ _ _ _ _ (at2048x4x16 ⟨(i 0).val, h0⟩ ⟨(i 1).val / 128, by omega⟩ ⟨(i 1).val % 128, hc⟩) (fun a => ?_)).trans ?_
    · match a with
      | ⟨0, _⟩ => show (i 0).val = 0 + (i 0).val * (0 + 1); omega
      | ⟨1, _⟩ => show (i 1).val / 128 = 0 + (i 1).val / 128 * (0 + 1); omega
      | ⟨2, _⟩ => show (i 1).val % 128 = 0 + (i 1).val % 128 * (0 + 1); omega
    · exact transpose_apply _ x _ _ _ (fun b => match b with
        | ⟨0, _⟩ => rfl
        | ⟨1, _⟩ => rfl
        | ⟨2, _⟩ => rfl)

variable {A : RealArgs} {x0 x1 x2 x3 : FVec Ideal S4x2048x16x64 .f32} {x4 : FVec Ideal S4x2048x16 .f32}

/-- The row sums: the weights' mean of their gradient, less the log-sum's gradient. -/
theorem delta0_apply (H : Coe A x0 x1 x2 x3 x4) (i : S4x2048x16.Idx) :
    delta0 (F := Ideal) x0 x1 x2 x3 x4 i
      = (mean (on ((i 1).val / 128) ((i 1).val % 128)) (A.sc (i 0).val ((i 1).val / 128) (i 2).val ((i 1).val % 128))
          (A.dp (i 0).val ((i 1).val / 128) (i 2).val ((i 1).val % 128))
        - A.dl (i 0).val ((i 1).val / 128) (i 2).val ((i 1).val % 128) : ℝ) := by
  have h1 : (i 1).val < 2048 := (i 1).isLt
  have hb : (i 1).val / 128 * 128 + (i 1).val % 128 = (i 1).val := by omega
  have e : Host.reduceAdd (mulf x3 (Cert.ReferenceIdeal.Read.val_main_v72 (F := Ideal) x0 x1 x2)) (constant S_ .f32 0x00000000#32)
      reducesTo_S4x2048x16x64_S4x2048x16_d3 h_S_ i
      = ((∑ d : Fin 64, A.g (i 0).val (i 1).val (i 2).val d.val
          * A.out (i 0).val ((i 1).val / 128) (i 2).val ((i 1).val % 128) d.val : ℝ) : EReal) := by
    simp only [Host.reduceAdd, Ideal.hostReduceAdd_def]
    rw [Ideal.hostReduceAdd_single reducesTo_S4x2048x16x64_S4x2048x16_d3 (by decide)]
    refine (congrArg (· + _) (show constant (F := Ideal) S_ .f32 0x00000000#32 (Shape.Idx.first h_S_) = (0 : EReal) from Ideal.ofBits_zero_f32)).trans ?_
    rw [zero_add, ← sum_coe]
    refine Finset.sum_congr rfl fun k _ => ?_
    have ei : ∀ q : S4x2048x16x64.Idx, (q 0).val = (i 0).val → (q 1).val = (i 1).val → (q 2).val = (i 2).val → (q 3).val = k.val →
        mulf x3 (Cert.ReferenceIdeal.Read.val_main_v72 (F := Ideal) x0 x1 x2) q = ((A.g (i 0).val (i 1).val (i 2).val k.val
          * A.out (i 0).val ((i 1).val / 128) (i 2).val ((i 1).val % 128) k.val : ℝ) : EReal) := by
      intro q q0 q1 q2 q3
      show x3 q * Cert.ReferenceIdeal.Read.val_main_v72 (F := Ideal) x0 x1 x2 q = _
      rw [H.g, ref_out H q, q0, q1, q2, q3, EReal.coe_mul]
    exact ei _ rfl rfl rfl rfl
  unfold delta0
  show Host.reduceAdd (mulf x3 (Cert.ReferenceIdeal.Read.val_main_v72 (F := Ideal) x0 x1 x2)) (constant S_ .f32 0x00000000#32)
      reducesTo_S4x2048x16x64_S4x2048x16_d3 h_S_ i - x4 i = _
  rw [e, H.l, ← EReal.coe_sub]
  refine congrArg Real.toEReal (congrArg₂ (· - ·) ?_ ?_)
  · unfold mean RealArgs.out RealArgs.dp RealArgs.W
    simp only [Finset.mul_sum]
    rw [Finset.sum_comm]
    refine Finset.sum_congr rfl fun j _ => Finset.sum_congr rfl fun d _ => ?_
    rw [hb]
    ring
  · unfold RealArgs.dl
    rw [hb]

end Cert.KernelIdeal.Dil
-- ==== Proof.Dil.Reads.lean ====
/- What the launch reads, over the real arguments. -/
module

public import proofs.«01_k».proof.Proof.Dil.Run
public import proofs.«01_k».proof.Proof.Dil.Block2
public import proofs.«01_k».proof.Proof.Dil.Host2

@[expose] public section

noncomputable section

namespace Cert.KernelIdeal.Dil

open Cert.KernelIdeal.Gen
open Idealize.ShloMosaic Idealize.ShloMosaic.TcCoe Idealize.SL.Sem

/-! ## Where each window's block lies -/

/-- A point's block number within its class. -/
theorem blk_no : ∀ t : Fin cfg0.N, (grid0.coords t 1).val = t.val % 17 :=
  (by decide +kernel : ∀ t : Fin grid0.N, (grid0.coords t 1).val = t.val % 17)

theorem where0 : ∀ t : Fin cfg0.N, win0_0.index t (0 : Fin 2) = min (t.val % 17) 15 ∧ win0_0.index t (1 : Fin 2) = t.val / 17 :=
  (by decide +kernel : ∀ t : Fin grid0.N, win0_0.index t (0 : Fin 2) = min (t.val % 17) 15 ∧ win0_0.index t (1 : Fin 2) = t.val / 17)
theorem where1 : ∀ t : Fin cfg0.N, win0_1.index t (0 : Fin 2) = min (t.val % 17) 15 - 1 ∧ win0_1.index t (1 : Fin 2) = t.val / 17 :=
  (by decide +kernel : ∀ t : Fin grid0.N, win0_1.index t (0 : Fin 2) = min (t.val % 17) 15 - 1 ∧ win0_1.index t (1 : Fin 2) = t.val / 17)
theorem where2 : ∀ t : Fin cfg0.N, win0_2.index t (0 : Fin 2) = min (t.val % 17) 15 ∧ win0_2.index t (1 : Fin 2) = t.val / 17 :=
  (by decide +kernel : ∀ t : Fin grid0.N, win0_2.index t (0 : Fin 2) = min (t.val % 17) 15 ∧ win0_2.index t (1 : Fin 2) = t.val / 17)
theorem where3 : ∀ t : Fin cfg0.N, win0_3.index t (0 : Fin 2) = min (t.val % 17) 15 - 1 ∧ win0_3.index t (1 : Fin 2) = t.val / 17 :=
  (by decide +kernel : ∀ t : Fin grid0.N, win0_3.index t (0 : Fin 2) = min (t.val % 17) 15 - 1 ∧ win0_3.index t (1 : Fin 2) = t.val / 17)
theorem where4 : ∀ t : Fin cfg0.N, win0_4.index t (0 : Fin 2) = min (t.val % 17) 15 ∧ win0_4.index t (1 : Fin 2) = t.val / 17 :=
  (by decide +kernel : ∀ t : Fin grid0.N, win0_4.index t (0 : Fin 2) = min (t.val % 17) 15 ∧ win0_4.index t (1 : Fin 2) = t.val / 17)
theorem where5 : ∀ t : Fin cfg0.N, win0_5.index t (0 : Fin 2) = min (t.val % 17) 15 ∧ win0_5.index t (1 : Fin 2) = t.val / 17 :=
  (by decide +kernel : ∀ t : Fin grid0.N, win0_5.index t (0 : Fin 2) = min (t.val % 17) 15 ∧ win0_5.index t (1 : Fin 2) = t.val / 17)
theorem where6 : ∀ t : Fin cfg0.N, win0_6.index t (0 : Fin 2) = min (t.val % 17) 15 ∧ win0_6.index t (1 : Fin 2) = t.val / 17 :=
  (by decide +kernel : ∀ t : Fin grid0.N, win0_6.index t (0 : Fin 2) = min (t.val % 17) 15 ∧ win0_6.index t (1 : Fin 2) = t.val / 17)
theorem where7 : ∀ t : Fin cfg0.N, win0_7.index t (0 : Fin 2) = min (t.val % 17) 15 ∧ win0_7.index t (1 : Fin 2) = t.val / 17 :=
  (by decide +kernel : ∀ t : Fin grid0.N, win0_7.index t (0 : Fin 2) = min (t.val % 17) 15 ∧ win0_7.index t (1 : Fin 2) = t.val / 17)
theorem where8 : ∀ t : Fin cfg0.N, win0_8.index t (0 : Fin 2) = min (t.val % 17) 15 ∧ win0_8.index t (1 : Fin 2) = t.val / 17 :=
  (by decide +kernel : ∀ t : Fin grid0.N, win0_8.index t (0 : Fin 2) = min (t.val % 17) 15 ∧ win0_8.index t (1 : Fin 2) = t.val / 17)
theorem where9 : ∀ t : Fin cfg0.N, win0_9.index t (0 : Fin 2) = t.val % 17 - 1 ∧ win0_9.index t (1 : Fin 2) = t.val / 17 :=
  (by decide +kernel : ∀ t : Fin grid0.N, win0_9.index t (0 : Fin 2) = t.val % 17 - 1 ∧ win0_9.index t (1 : Fin 2) = t.val / 17)
theorem where10 : ∀ t : Fin cfg0.N, win0_10.index t (0 : Fin 2) = t.val % 17 - 1 ∧ win0_10.index t (1 : Fin 2) = t.val / 17 :=
  (by decide +kernel : ∀ t : Fin grid0.N, win0_10.index t (0 : Fin 2) = t.val % 17 - 1 ∧ win0_10.index t (1 : Fin 2) = t.val / 17)

/-! So an element of a window's block is this element of its array. -/

theorem emb0 (t : Fin cfg0.N) (j : S128x1024.Idx) : (((cfg0.win 0).blk t).view.emb j (0 : Fin 2)).val = min (t.val % 17) 15 * 128 + (j 0).val
    ∧ (((cfg0.win 0).blk t).view.emb j (1 : Fin 2)).val = t.val / 17 * 1024 + (j 1).val := by
  obtain ⟨e0, e1⟩ := where0 t
  refine ⟨?_, ?_⟩
  · show win0_0.index t (0 : Fin 2) * 128 + 1 * (j 0).val = _; rw [e0, Nat.one_mul]
  · show win0_0.index t (1 : Fin 2) * 1024 + 1 * (j 1).val = _; rw [e1, Nat.one_mul]
theorem emb1 (t : Fin cfg0.N) (j : S128x1024.Idx) : (((cfg0.win 1).blk t).view.emb j (0 : Fin 2)).val = (min (t.val % 17) 15 - 1) * 128 + (j 0).val
    ∧ (((cfg0.win 1).blk t).view.emb j (1 : Fin 2)).val = t.val / 17 * 1024 + (j 1).val := by
  obtain ⟨e0, e1⟩ := where1 t
  refine ⟨?_, ?_⟩
  · show win0_1.index t (0 : Fin 2) * 128 + 1 * (j 0).val = _; rw [e0, Nat.one_mul]
  · show win0_1.index t (1 : Fin 2) * 1024 + 1 * (j 1).val = _; rw [e1, Nat.one_mul]
theorem emb2 (t : Fin cfg0.N) (j : S128x1024.Idx) : (((cfg0.win 2).blk t).view.emb j (0 : Fin 2)).val = min (t.val % 17) 15 * 128 + (j 0).val
    ∧ (((cfg0.win 2).blk t).view.emb j (1 : Fin 2)).val = t.val / 17 * 1024 + (j 1).val := by
  obtain ⟨e0, e1⟩ := where2 t
  refine ⟨?_, ?_⟩
  · show win0_2.index t (0 : Fin 2) * 128 + 1 * (j 0).val = _; rw [e0, Nat.one_mul]
  · show win0_2.index t (1 : Fin 2) * 1024 + 1 * (j 1).val = _; rw [e1, Nat.one_mul]
theorem emb3 (t : Fin cfg0.N) (j : S128x1024.Idx) : (((cfg0.win 3).blk t).view.emb j (0 : Fin 2)).val = (min (t.val % 17) 15 - 1) * 128 + (j 0).val
    ∧ (((cfg0.win 3).blk t).view.emb j (1 : Fin 2)).val = t.val / 17 * 1024 + (j 1).val := by
  obtain ⟨e0, e1⟩ := where3 t
  refine ⟨?_, ?_⟩
  · show win0_3.index t (0 : Fin 2) * 128 + 1 * (j 0).val = _; rw [e0, Nat.one_mul]
  · show win0_3.index t (1 : Fin 2) * 1024 + 1 * (j 1).val = _; rw [e1, Nat.one_mul]
theorem emb4 (t : Fin cfg0.N) (j : S128x1024.Idx) : (((cfg0.win 4).blk t).view.emb j (0 : Fin 2)).val = min (t.val % 17) 15 * 128 + (j 0).val
    ∧ (((cfg0.win 4).blk t).view.emb j (1 : Fin 2)).val = t.val / 17 * 1024 + (j 1).val := by
  obtain ⟨e0, e1⟩ := where4 t
  refine ⟨?_, ?_⟩
  · show win0_4.index t (0 : Fin 2) * 128 + 1 * (j 0).val = _; rw [e0, Nat.one_mul]
  · show win0_4.index t (1 : Fin 2) * 1024 + 1 * (j 1).val = _; rw [e1, Nat.one_mul]
theorem emb5 (t : Fin cfg0.N) (j : S128x1024.Idx) : (((cfg0.win 5).blk t).view.emb j (0 : Fin 2)).val = min (t.val % 17) 15 * 128 + (j 0).val
    ∧ (((cfg0.win 5).blk t).view.emb j (1 : Fin 2)).val = t.val / 17 * 1024 + (j 1).val := by
  obtain ⟨e0, e1⟩ := where5 t
  refine ⟨?_, ?_⟩
  · show win0_5.index t (0 : Fin 2) * 128 + 1 * (j 0).val = _; rw [e0, Nat.one_mul]
  · show win0_5.index t (1 : Fin 2) * 1024 + 1 * (j 1).val = _; rw [e1, Nat.one_mul]
theorem emb6 (t : Fin cfg0.N) (j : S128x128.Idx) : (((cfg0.win 6).blk t).view.emb j (0 : Fin 2)).val = min (t.val % 17) 15 * 128 + (j 0).val
    ∧ (((cfg0.win 6).blk t).view.emb j (1 : Fin 2)).val = t.val / 17 * 128 + (j 1).val := by
  obtain ⟨e0, e1⟩ := where6 t
  refine ⟨?_, ?_⟩
  · show win0_6.index t (0 : Fin 2) * 128 + 1 * (j 0).val = _; rw [e0, Nat.one_mul]
  · show win0_6.index t (1 : Fin 2) * 128 + 1 * (j 1).val = _; rw [e1, Nat.one_mul]
theorem emb7 (t : Fin cfg0.N) (j : S128x128.Idx) : (((cfg0.win 7).blk t).view.emb j (0 : Fin 2)).val = min (t.val % 17) 15 * 128 + (j 0).val
    ∧ (((cfg0.win 7).blk t).view.emb j (1 : Fin 2)).val = t.val / 17 * 128 + (j 1).val := by
  obtain ⟨e0, e1⟩ := where7 t
  refine ⟨?_, ?_⟩
  · show win0_7.index t (0 : Fin 2) * 128 + 1 * (j 0).val = _; rw [e0, Nat.one_mul]
  · show win0_7.index t (1 : Fin 2) * 128 + 1 * (j 1).val = _; rw [e1, Nat.one_mul]
theorem emb8 (t : Fin cfg0.N) (j : S128x1024.Idx) : (((cfg0.win 8).blk t).view.emb j (0 : Fin 2)).val = min (t.val % 17) 15 * 128 + (j 0).val
    ∧ (((cfg0.win 8).blk t).view.emb j (1 : Fin 2)).val = t.val / 17 * 1024 + (j 1).val := by
  obtain ⟨e0, e1⟩ := where8 t
  refine ⟨?_, ?_⟩
  · show win0_8.index t (0 : Fin 2) * 128 + 1 * (j 0).val = _; rw [e0, Nat.one_mul]
  · show win0_8.index t (1 : Fin 2) * 1024 + 1 * (j 1).val = _; rw [e1, Nat.one_mul]
theorem emb9 (t : Fin cfg0.N) (j : S128x1024.Idx) : (((cfg0.win 9).blk t).view.emb j (0 : Fin 2)).val = (t.val % 17 - 1) * 128 + (j 0).val
    ∧ (((cfg0.win 9).blk t).view.emb j (1 : Fin 2)).val = t.val / 17 * 1024 + (j 1).val := by
  obtain ⟨e0, e1⟩ := where9 t
  refine ⟨?_, ?_⟩
  · show win0_9.index t (0 : Fin 2) * 128 + 1 * (j 0).val = _; rw [e0, Nat.one_mul]
  · show win0_9.index t (1 : Fin 2) * 1024 + 1 * (j 1).val = _; rw [e1, Nat.one_mul]
theorem emb10 (t : Fin cfg0.N) (j : S128x1024.Idx) : (((cfg0.win 10).blk t).view.emb j (0 : Fin 2)).val = (t.val % 17 - 1) * 128 + (j 0).val
    ∧ (((cfg0.win 10).blk t).view.emb j (1 : Fin 2)).val = t.val / 17 * 1024 + (j 1).val := by
  obtain ⟨e0, e1⟩ := where10 t
  refine ⟨?_, ?_⟩
  · show win0_10.index t (0 : Fin 2) * 128 + 1 * (j 0).val = _; rw [e0, Nat.one_mul]
  · show win0_10.index t (1 : Fin 2) * 1024 + 1 * (j 1).val = _; rw [e1, Nat.one_mul]

variable {A : RealArgs} {x0 x1 x2 x3 : FVec Ideal S4x2048x16x64 .f32} {x4 : FVec Ideal S4x2048x16 .f32}

/-- A row array's element, by the argument's element it is. -/
theorem rows_real {f : ℕ → ℕ → ℕ → ℕ → ℝ} {x : FVec Ideal S4x2048x16x64 .f32}
    (h : ∀ i, x i = (f (i 0).val (i 1).val (i 2).val (i 3).val : EReal)) (i : S2048x4096.Idx) {r p c : ℕ}
    (h0 : (i 0).val = p) (h1 : (i 1).val = r * 1024 + c) (hc : c < 1024) :
    rows (F := Ideal) x i = (f r p (c / 64) (c % 64) : EReal) := by
  rw [rows_apply, h]
  show (f ((i 1).val / 1024) (i 0).val ((i 1).val / 64 % 16) ((i 1).val % 64) : EReal) = _
  have a0 : (i 1).val / 1024 = r := by omega
  have a2 : (i 1).val / 64 % 16 = c / 64 := by omega
  have a3 : (i 1).val % 64 = c % 64 := by omega
  rw [h0, a0, a2, a3]

/-- A statistics array's element, by the element it is. -/
theorem stats_real {f : ℕ → ℕ → ℕ → ℕ → ℝ} {x : FVec Ideal S4x2048x16 .f32}
    (h : ∀ i, x i = (f (i 0).val ((i 1).val / 128) (i 2).val ((i 1).val % 128) : EReal)) (i : S2048x512.Idx) {r n p c : ℕ}
    (h0 : (i 0).val = n * 128 + p) (hp : p < 128) (h1 : (i 1).val = r * 128 + c) (hc : c < 16) :
    stats (F := Ideal) x i = (f r n c p : EReal) := by
  have a3 : (i 1).val % 128 = c := by omega
  rw [stats_apply x i (by omega), h]
  show (f ((i 1).val / 128) ((i 0).val / 128) ((i 1).val % 128) ((i 0).val % 128) : EReal) = _
  have a0 : (i 1).val / 128 = r := by omega
  have a1 : (i 0).val / 128 = n := by omega
  have a2 : (i 0).val % 128 = p := by omega
  rw [a0, a1, a2, a3]

variable (m : (ℓ : Loc nD τ sig) → Buf (Elt Ideal) ℓ)

/-- Device `c`'s arguments are the reals `A`. -/
abbrev ArgsCoe (A : RealArgs) (c : Dev nD) : Prop :=
  Coe A (m ((c : Thread nD τ).loc main_arg0)) (m ((c : Thread nD τ).loc main_arg1)) (m ((c : Thread nD τ).loc main_arg2))
    (m ((c : Thread nD τ).loc main_arg3)) (m ((c : Thread nD τ).loc main_arg4))

variable {m} {c : Dev nD}

theorem V_q : V m c main_v68 = rows (F := Ideal) (m ((c : Thread nD τ).loc main_arg0)) := (V_eq m c main_v68).trans (st7_v68 _)
theorem V_k : V m c main_v71 = rows (F := Ideal) (m ((c : Thread nD τ).loc main_arg1)) := (V_eq m c main_v71).trans (st7_v71 _)
theorem V_v : V m c main_v74 = rows (F := Ideal) (m ((c : Thread nD τ).loc main_arg2)) := (V_eq m c main_v74).trans (st7_v74 _)
theorem V_g : V m c main_v77 = rows (F := Ideal) (m ((c : Thread nD τ).loc main_arg3)) := (V_eq m c main_v77).trans (st7_v77 _)
theorem V_lse : V m c main_v80 = stats (F := Ideal) (Cert.ReferenceIdeal.Read.val_main_v71 (F := Ideal) (m ((c : Thread nD τ).loc main_arg0))
    (m ((c : Thread nD τ).loc main_arg1))) := (V_eq m c main_v80).trans (st7_v80 _)
theorem V_delta : V m c main_v83 = stats (F := Ideal) (delta0 (F := Ideal) (m ((c : Thread nD τ).loc main_arg0)) (m ((c : Thread nD τ).loc main_arg1))
    (m ((c : Thread nD τ).loc main_arg2)) (m ((c : Thread nD τ).loc main_arg3)) (m ((c : Thread nD τ).loc main_arg4))) :=
  (V_eq m c main_v83).trans (st7_v83 _)

/-! What each window's block holds at point `t`, of class `t / 17` and block `t % 17`. -/

theorem q_real (H : ArgsCoe m A c) (t : Fin cfg0.N) (ht : t.val % 17 < 16) (i : S128x1024.Idx) :
    (blocksAt m c t).q i = (A.q (t.val / 17) (t.val % 17 * 128 + (i 0).val) ((i 1).val / 64) ((i 1).val % 64) : EReal) := by
  obtain ⟨e0, e1⟩ := emb0 t i
  have e2 : (((cfg0.win 0).blk t).view.emb i (0 : Fin 2)).val = t.val % 17 * 128 + (i 0).val := by omega
  show V m c main_v68 (((cfg0.win 0).blk t).view.emb i) = _
  rw [V_q]
  exact rows_real H.q _ e2 e1 (i 1).isLt

theorem kp_real (H : ArgsCoe m A c) (t : Fin cfg0.N) (ht : t.val % 17 < 16) (i : S128x1024.Idx) :
    (blocksAt m c t).kp i = (A.k (t.val / 17) ((t.val % 17 - 1) * 128 + (i 0).val) ((i 1).val / 64) ((i 1).val % 64) : EReal) := by
  obtain ⟨e0, e1⟩ := emb1 t i
  have e2 : (((cfg0.win 1).blk t).view.emb i (0 : Fin 2)).val = (t.val % 17 - 1) * 128 + (i 0).val := by omega
  show V m c main_v71 (((cfg0.win 1).blk t).view.emb i) = _
  rw [V_k]
  exact rows_real H.k _ e2 e1 (i 1).isLt

theorem kc_real (H : ArgsCoe m A c) (t : Fin cfg0.N) (ht : t.val % 17 < 16) (i : S128x1024.Idx) :
    (blocksAt m c t).kc i = (A.k (t.val / 17) (t.val % 17 * 128 + (i 0).val) ((i 1).val / 64) ((i 1).val % 64) : EReal) := by
  obtain ⟨e0, e1⟩ := emb2 t i
  have e2 : (((cfg0.win 2).blk t).view.emb i (0 : Fin 2)).val = t.val % 17 * 128 + (i 0).val := by omega
  show V m c main_v71 (((cfg0.win 2).blk t).view.emb i) = _
  rw [V_k]
  exact rows_real H.k _ e2 e1 (i 1).isLt

theorem vp_real (H : ArgsCoe m A c) (t : Fin cfg0.N) (ht : t.val % 17 < 16) (i : S128x1024.Idx) :
    (blocksAt m c t).vp i = (A.v (t.val / 17) ((t.val % 17 - 1) * 128 + (i 0).val) ((i 1).val / 64) ((i 1).val % 64) : EReal) := by
  obtain ⟨e0, e1⟩ := emb3 t i
  have e2 : (((cfg0.win 3).blk t).view.emb i (0 : Fin 2)).val = (t.val % 17 - 1) * 128 + (i 0).val := by omega
  show V m c main_v74 (((cfg0.win 3).blk t).view.emb i) = _
  rw [V_v]
  exact rows_real H.v _ e2 e1 (i 1).isLt

theorem vc_real (H : ArgsCoe m A c) (t : Fin cfg0.N) (ht : t.val % 17 < 16) (i : S128x1024.Idx) :
    (blocksAt m c t).vc i = (A.v (t.val / 17) (t.val % 17 * 128 + (i 0).val) ((i 1).val / 64) ((i 1).val % 64) : EReal) := by
  obtain ⟨e0, e1⟩ := emb4 t i
  have e2 : (((cfg0.win 4).blk t).view.emb i (0 : Fin 2)).val = t.val % 17 * 128 + (i 0).val := by omega
  show V m c main_v74 (((cfg0.win 4).blk t).view.emb i) = _
  rw [V_v]
  exact rows_real H.v _ e2 e1 (i 1).isLt

theorem d_real (H : ArgsCoe m A c) (t : Fin cfg0.N) (ht : t.val % 17 < 16) (i : S128x1024.Idx) :
    (blocksAt m c t).d i = (A.g (t.val / 17) (t.val % 17 * 128 + (i 0).val) ((i 1).val / 64) ((i 1).val % 64) : EReal) := by
  obtain ⟨e0, e1⟩ := emb5 t i
  have e2 : (((cfg0.win 5).blk t).view.emb i (0 : Fin 2)).val = t.val % 17 * 128 + (i 0).val := by omega
  show V m c main_v77 (((cfg0.win 5).blk t).view.emb i) = _
  rw [V_g]
  exact rows_real H.g _ e2 e1 (i 1).isLt

theorem lse_real (H : ArgsCoe m A c) (t : Fin cfg0.N) (ht : t.val % 17 < 16) (i : S128x128.Idx) (hi : (i 1).val < 16) :
    (blocksAt m c t).lse i = ((lsum (on (t.val % 17) (i 0).val) (A.sc (t.val / 17) (t.val % 17) (i 1).val (i 0).val) : ℝ) : EReal) := by
  obtain ⟨e0, e1⟩ := emb6 t i
  have e2 : (((cfg0.win 6).blk t).view.emb i (0 : Fin 2)).val = t.val % 17 * 128 + (i 0).val := by omega
  show V m c main_v80 (((cfg0.win 6).blk t).view.emb i) = _
  rw [V_lse]
  exact stats_real (f := fun r n h p => A.lse r n h p) (fun j => ref_lse H j) _ e2 (i 0).isLt e1 hi

theorem delta_real (H : ArgsCoe m A c) (t : Fin cfg0.N) (ht : t.val % 17 < 16) (i : S128x128.Idx) (hi : (i 1).val < 16) :
    (blocksAt m c t).delta i = ((mean (on (t.val % 17) (i 0).val) (A.sc (t.val / 17) (t.val % 17) (i 1).val (i 0).val) (A.dp (t.val / 17) (t.val % 17) (i 1).val (i 0).val) - A.dl (t.val / 17) (t.val % 17) (i 1).val (i 0).val : ℝ) : EReal) := by
  obtain ⟨e0, e1⟩ := emb7 t i
  have e2 : (((cfg0.win 7).blk t).view.emb i (0 : Fin 2)).val = t.val % 17 * 128 + (i 0).val := by omega
  show V m c main_v83 (((cfg0.win 7).blk t).view.emb i) = _
  rw [V_delta]
  exact stats_real (f := fun r n h p => mean (on n p) (A.sc r n h p) (A.dp r n h p) - A.dl r n h p) (fun j => delta0_apply H j) _ e2 (i 0).isLt e1 hi

/-- Point `t` reads the blocks of its class and block, but at a class's last point. -/
theorem blocks_real (H : ArgsCoe m A c) (t : Fin cfg0.N) (ht : t.val % 17 < 16) :
    BlockCoe A (t.val / 17) (t.val % 17) (blocksAt m c t) where
  q := q_real H t ht
  kp := kp_real H t ht
  kc := kc_real H t ht
  vp := vp_real H t ht
  vc := vc_real H t ht
  d := d_real H t ht
  lse := lse_real H t ht
  delta := delta_real H t ht

end Cert.KernelIdeal.Dil
-- ==== Proof.Dil.Grads.lean ====
/- What the launch leaves in its three result arrays, over the real arguments. -/
module

public import proofs.«01_k».proof.Proof.Dil.Reads

@[expose] public section

noncomputable section

namespace Cert.KernelIdeal.Dil

open Cert.KernelIdeal.Gen
open Idealize.ShloMosaic Idealize.ShloMosaic.TcCoe Idealize.SL.Sem

/-- The queries' gradient, row by row. -/
def gradQ (A : RealArgs) : Vec Ideal S2048x4096 .f32 := fun i =>
  (A.dq ((i 1).val / 1024) ((i 0).val / 128) ((i 1).val / 64 % 16) ((i 0).val % 128) ((i 1).val % 64) : EReal)
/-- The keys' gradient, row by row. -/
def gradK (A : RealArgs) : Vec Ideal S2048x4096 .f32 := fun i =>
  (A.dk ((i 1).val / 1024) ((i 0).val / 128) ((i 1).val / 64 % 16) ⟨(i 0).val % 128, Nat.mod_lt _ (by decide)⟩ ((i 1).val % 64) : EReal)
/-- The values' gradient, row by row. -/
def gradV (A : RealArgs) : Vec Ideal S2048x4096 .f32 := fun i =>
  (A.dv ((i 1).val / 1024) ((i 0).val / 128) ((i 1).val / 64 % 16) ⟨(i 0).val % 128, Nat.mod_lt _ (by decide)⟩ ((i 1).val % 64) : EReal)

/-- A row array's element by class, block, head, row and feature. -/
theorem at_row {X : Type} (f : ℕ → ℕ → ℕ → Fin 128 → ℕ → X) (i : S2048x4096.Idx) {r n c : ℕ} (p : Fin 128)
    (h0 : (i 0).val = n * 128 + p.val) (h1 : (i 1).val = r * 1024 + c) (hc : c < 1024) :
    f ((i 1).val / 1024) ((i 0).val / 128) ((i 1).val / 64 % 16) ⟨(i 0).val % 128, Nat.mod_lt _ (by decide)⟩ ((i 1).val % 64)
      = f r n (c / 64) p (c % 64) := by
  have a0 : (i 1).val / 1024 = r := by omega
  have a1 : (i 0).val / 128 = n := by omega
  have a2 : (i 1).val / 64 % 16 = c / 64 := by omega
  have a3 : (i 1).val % 64 = c % 64 := by omega
  have a4 : (⟨(i 0).val % 128, Nat.mod_lt _ (by decide)⟩ : Fin 128) = p := Fin.ext (show (i 0).val % 128 = p.val by omega)
  rw [a0, a1, a2, a3, a4]

variable {A : RealArgs} {m : (ℓ : Loc nD τ sig) → Buf (Elt Ideal) ℓ} {c : Dev nD}

theorem pt_of {s : ℕ} (hs : s < 68) : (pt s).val = s := Nat.mod_eq_of_lt hs

/-! ## What each point leaves -/

theorem dq_real (H : ArgsCoe m A c) {s : ℕ} (hs : s < 68) (hn : s % 17 < 16) (i : S128x1024.Idx) :
    (blocksAt m c (pt s)).dqBlk (blkNo (pt s)) i = (A.dq (s / 17) (s % 17) ((i 1).val / 64) (i 0).val ((i 1).val % 64) : EReal) := by
  have e := pt_of hs
  have B := blocks_real H (pt s) (by rw [e]; exact hn)
  have b : blkNo (pt s) = BitVec.ofNat 32 (s % 17) := congrArg (BitVec.ofNat 32) ((blk_no (pt s)).trans (by rw [e]))
  rw [e] at B
  rw [b]
  exact B.dqBlk hn i

theorem carryK_real (H : ArgsCoe m A c) {s : ℕ} (hs : s < 68) (hn : s % 17 < 16) (i : S128x1024.Idx) :
    carryK m c s i = (A.dk2 (s / 17) (s % 17) ((i 1).val / 64) ⟨(i 0).val + 128, by have h : (i 0).val < 128 := (i 0).isLt; omega⟩ ((i 1).val % 64) : EReal) := by
  have e := pt_of hs
  have B := blocks_real H (pt s) (by rw [e]; exact hn)
  have b : blkNo (pt s) = BitVec.ofNat 32 (s % 17) := congrArg (BitVec.ofNat 32) ((blk_no (pt s)).trans (by rw [e]))
  rw [e] at B
  unfold carryK
  rw [b]
  exact B.dkCarry hn i

theorem dk_real (H : ArgsCoe m A c) {s : ℕ} (hs : s < 68) (hn : s % 17 < 16) (C : Vec Ideal S128x1024 .f32) (i : S128x1024.Idx) :
    (blocksAt m c (pt s)).dkBlk (blkNo (pt s)) C i
      = C i + (A.dk2 (s / 17) (s % 17) ((i 1).val / 64) ⟨(i 0).val, by have h : (i 0).val < 128 := (i 0).isLt; omega⟩ ((i 1).val % 64) : EReal) := by
  have e := pt_of hs
  have B := blocks_real H (pt s) (by rw [e]; exact hn)
  have b : blkNo (pt s) = BitVec.ofNat 32 (s % 17) := congrArg (BitVec.ofNat 32) ((blk_no (pt s)).trans (by rw [e]))
  rw [e] at B
  rw [b]
  exact B.dkBlk hn C i

theorem carryV_real (H : ArgsCoe m A c) {s : ℕ} (hs : s < 68) (hn : s % 17 < 16) (i : S128x1024.Idx) :
    carryV m c s i = (A.dv2 (s / 17) (s % 17) ((i 1).val / 64) ⟨(i 0).val + 128, by have h : (i 0).val < 128 := (i 0).isLt; omega⟩ ((i 1).val % 64) : EReal) := by
  have e := pt_of hs
  have B := blocks_real H (pt s) (by rw [e]; exact hn)
  have b : blkNo (pt s) = BitVec.ofNat 32 (s % 17) := congrArg (BitVec.ofNat 32) ((blk_no (pt s)).trans (by rw [e]))
  rw [e] at B
  unfold carryV
  rw [b]
  exact B.dvCarry hn i

theorem dv_real (H : ArgsCoe m A c) {s : ℕ} (hs : s < 68) (hn : s % 17 < 16) (C : Vec Ideal S128x1024 .f32) (i : S128x1024.Idx) :
    (blocksAt m c (pt s)).dvBlk (blkNo (pt s)) C i
      = C i + (A.dv2 (s / 17) (s % 17) ((i 1).val / 64) ⟨(i 0).val, by have h : (i 0).val < 128 := (i 0).isLt; omega⟩ ((i 1).val % 64) : EReal) := by
  have e := pt_of hs
  have B := blocks_real H (pt s) (by rw [e]; exact hn)
  have b : blkNo (pt s) = BitVec.ofNat 32 (s % 17) := congrArg (BitVec.ofNat 32) ((blk_no (pt s)).trans (by rw [e]))
  rw [e] at B
  rw [b]
  exact B.dvBlk hn C i

/-! ## What is written back -/

/-- What a point writes back of the queries' gradient. -/
theorem dqAt_real (H : ArgsCoe m A c) {s : ℕ} (hs : s < 68) (i : S128x1024.Idx) :
    dqAt m c s i = (A.dq (s / 17) (min (s % 17) 15) ((i 1).val / 64) (i 0).val ((i 1).val % 64) : EReal) := by
  unfold dqAt
  split
  · rename_i h
    rw [dq_real H (by omega) (by omega) i]
    have a0 : (s - 1) / 17 = s / 17 := by omega
    have a1 : (s - 1) % 17 = min (s % 17) 15 := by omega
    rw [a0, a1]
  · rw [dq_real H hs (by omega) i]
    have a1 : s % 17 = min (s % 17) 15 := by omega
    rw [← a1]

/-- What a point writes back of the keys' gradient. -/
theorem dkAt_real (H : ArgsCoe m A c) {s : ℕ} (hs : s < 68) (h0 : s % 17 ≠ 0) (i : S128x1024.Idx) :
    dkAt m c s i = (A.dk (s / 17) (s % 17 - 1) ((i 1).val / 64) ⟨(i 0).val, (i 0).isLt⟩ ((i 1).val % 64) : EReal) := by
  have a0 : (s - 1) / 17 = s / 17 := by omega
  have a1 : (s - 1) % 17 = s % 17 - 1 := by omega
  have a2 : s % 17 - 1 + 1 = s % 17 := by omega
  have hc := carryK_real H (s := s - 1) (by omega) (by omega) i
  rw [a0, a1] at hc
  unfold dkAt RealArgs.dk
  rw [a2]
  split
  · rename_i h
    rw [hc, if_neg (by omega), add_zero]
  · rename_i h
    rw [dk_real H hs (by omega) _ i, hc, if_pos (by omega), EReal.coe_add]

/-- What a point writes back of the values' gradient. -/
theorem dvAt_real (H : ArgsCoe m A c) {s : ℕ} (hs : s < 68) (h0 : s % 17 ≠ 0) (i : S128x1024.Idx) :
    dvAt m c s i = (A.dv (s / 17) (s % 17 - 1) ((i 1).val / 64) ⟨(i 0).val, (i 0).isLt⟩ ((i 1).val % 64) : EReal) := by
  have a0 : (s - 1) / 17 = s / 17 := by omega
  have a1 : (s - 1) % 17 = s % 17 - 1 := by omega
  have a2 : s % 17 - 1 + 1 = s % 17 := by omega
  have hc := carryV_real H (s := s - 1) (by omega) (by omega) i
  rw [a0, a1] at hc
  unfold dvAt RealArgs.dv
  rw [a2]
  split
  · rename_i h
    rw [hc, if_neg (by omega), add_zero]
  · rename_i h
    rw [dv_real H hs (by omega) _ i, hc, if_pos (by omega), EReal.coe_add]

/-! ## The arrays at the end of the run -/

theorem flushed8_real (H : ArgsCoe m A c) (t : Fin cfg0.N) (ht : (cfg0.win 8).flush t = true) :
    (dats m 0 c).flushed 8 t = ((cfg0.win 8).blk t).view.read (Elt Ideal) (gradQ A) := by
  have hs : t.val < 68 := lt_of_lt_of_eq t.isLt N_0
  unfold Pipeline.Dat.flushed
  rw [after0_8]
  funext j
  obtain ⟨e0, e1⟩ := emb8 t j
  show dqAt m c t.val j = gradQ A (((cfg0.win 8).blk t).view.emb j)
  refine (dqAt_real H hs j).trans (at_row (fun r n h (p : Fin 128) d => ((A.dq r n h p.val d : ℝ) : EReal)) _ ⟨(j 0).val, (j 0).isLt⟩ e0 e1 (j 1).isLt).symm

theorem covered8 (i : S2048x4096.Idx) : ∃ t : Fin cfg0.N, (cfg0.win 8).flush t = true ∧ i ∈ ((cfg0.win 8).blk t).view.set := by
  have h0 : (i 0).val < 2048 := (i 0).isLt
  have h1 : (i 1).val < 4096 := (i 1).isLt
  obtain ⟨s, hs, hf, hn, hr⟩ : ∃ s, s < 68 ∧ s % 17 ≠ 15 ∧ min (s % 17) 15 = (i 0).val / 128 ∧ s / 17 = (i 1).val / 1024 :=
    ⟨if (i 0).val / 128 = 15 then (i 1).val / 1024 * 17 + 16 else (i 1).val / 1024 * 17 + (i 0).val / 128, by split <;> omega, by split <;> omega, by split <;> omega, by split <;> omega⟩
  refine ⟨⟨s, lt_of_lt_of_eq hs N_0.symm⟩, ?_, ?_⟩
  · rw [flush8]
    show (!decide (s % 17 = 15)) = true
    rw [decide_eq_false hf]
    rfl
  · have h := ((cfg0.win 8).blk (⟨s, lt_of_lt_of_eq hs N_0.symm⟩ : Fin cfg0.N)).view.emb_mem_set
      (at128x1024 ⟨(i 0).val % 128, Nat.mod_lt _ (by decide)⟩ ⟨(i 1).val % 1024, Nat.mod_lt _ (by decide)⟩)
    obtain ⟨e0, e1⟩ := emb8 (⟨s, lt_of_lt_of_eq hs N_0.symm⟩ : Fin cfg0.N)
      (at128x1024 ⟨(i 0).val % 128, Nat.mod_lt _ (by decide)⟩ ⟨(i 1).val % 1024, Nat.mod_lt _ (by decide)⟩)
    have e : ((cfg0.win 8).blk (⟨s, lt_of_lt_of_eq hs N_0.symm⟩ : Fin cfg0.N)).view.emb
        (at128x1024 ⟨(i 0).val % 128, Nat.mod_lt _ (by decide)⟩ ⟨(i 1).val % 1024, Nat.mod_lt _ (by decide)⟩) = i := by
      refine funext (Fin.forall_fin_two.mpr ⟨Fin.ext (e0.trans ?_), Fin.ext (e1.trans ?_)⟩)
      · show (min (s % 17) 15) * 128 + (i 0).val % 128 = (i 0).val
        omega
      · show s / 17 * 1024 + (i 1).val % 1024 = (i 1).val
        omega
    rwa [e] at h

theorem final8 (H : ArgsCoe m A c) : (dats m 0 c).arrAt 8 cfg0.N = gradQ A :=
  (dats m 0 c).arrAt_eq_of_cover 8 (gradQ A) (fun t ht => flushed8_real H t ht) covered8

theorem flushed9_real (H : ArgsCoe m A c) (t : Fin cfg0.N) (ht : (cfg0.win 9).flush t = true) :
    (dats m 0 c).flushed 9 t = ((cfg0.win 9).blk t).view.read (Elt Ideal) (gradK A) := by
  have hs : t.val < 68 := lt_of_lt_of_eq t.isLt N_0
  have h0 : t.val % 17 ≠ 0 := by
    intro h
    rw [flush9, h] at ht
    exact absurd ht (by decide)
  unfold Pipeline.Dat.flushed
  rw [after0_9]
  funext j
  obtain ⟨e0, e1⟩ := emb9 t j
  show dkAt m c t.val j = gradK A (((cfg0.win 9).blk t).view.emb j)
  refine (dkAt_real H hs h0 j).trans (at_row (fun r n h (p : Fin 128) d => ((A.dk r n h p d : ℝ) : EReal)) _ ⟨(j 0).val, (j 0).isLt⟩ e0 e1 (j 1).isLt).symm

theorem covered9 (i : S2048x4096.Idx) : ∃ t : Fin cfg0.N, (cfg0.win 9).flush t = true ∧ i ∈ ((cfg0.win 9).blk t).view.set := by
  have h0 : (i 0).val < 2048 := (i 0).isLt
  have h1 : (i 1).val < 4096 := (i 1).isLt
  obtain ⟨s, hs, hf, hn, hr⟩ : ∃ s, s < 68 ∧ s % 17 ≠ 0 ∧ s % 17 - 1 = (i 0).val / 128 ∧ s / 17 = (i 1).val / 1024 :=
    ⟨(i 1).val / 1024 * 17 + (i 0).val / 128 + 1, by omega, by omega, by omega, by omega⟩
  refine ⟨⟨s, lt_of_lt_of_eq hs N_0.symm⟩, ?_, ?_⟩
  · rw [flush9]
    show (!decide (s % 17 = 0)) = true
    rw [decide_eq_false hf]
    rfl
  · have h := ((cfg0.win 9).blk (⟨s, lt_of_lt_of_eq hs N_0.symm⟩ : Fin cfg0.N)).view.emb_mem_set
      (at128x1024 ⟨(i 0).val % 128, Nat.mod_lt _ (by decide)⟩ ⟨(i 1).val % 1024, Nat.mod_lt _ (by decide)⟩)
    obtain ⟨e0, e1⟩ := emb9 (⟨s, lt_of_lt_of_eq hs N_0.symm⟩ : Fin cfg0.N)
      (at128x1024 ⟨(i 0).val % 128, Nat.mod_lt _ (by decide)⟩ ⟨(i 1).val % 1024, Nat.mod_lt _ (by decide)⟩)
    have e : ((cfg0.win 9).blk (⟨s, lt_of_lt_of_eq hs N_0.symm⟩ : Fin cfg0.N)).view.emb
        (at128x1024 ⟨(i 0).val % 128, Nat.mod_lt _ (by decide)⟩ ⟨(i 1).val % 1024, Nat.mod_lt _ (by decide)⟩) = i := by
      refine funext (Fin.forall_fin_two.mpr ⟨Fin.ext (e0.trans ?_), Fin.ext (e1.trans ?_)⟩)
      · show (s % 17 - 1) * 128 + (i 0).val % 128 = (i 0).val
        omega
      · show s / 17 * 1024 + (i 1).val % 1024 = (i 1).val
        omega
    rwa [e] at h

theorem final9 (H : ArgsCoe m A c) : (dats m 0 c).arrAt 9 cfg0.N = gradK A :=
  (dats m 0 c).arrAt_eq_of_cover 9 (gradK A) (fun t ht => flushed9_real H t ht) covered9

theorem flushed10_real (H : ArgsCoe m A c) (t : Fin cfg0.N) (ht : (cfg0.win 10).flush t = true) :
    (dats m 0 c).flushed 10 t = ((cfg0.win 10).blk t).view.read (Elt Ideal) (gradV A) := by
  have hs : t.val < 68 := lt_of_lt_of_eq t.isLt N_0
  have h0 : t.val % 17 ≠ 0 := by
    intro h
    rw [flush10, h] at ht
    exact absurd ht (by decide)
  unfold Pipeline.Dat.flushed
  rw [after0_10]
  funext j
  obtain ⟨e0, e1⟩ := emb10 t j
  show dvAt m c t.val j = gradV A (((cfg0.win 10).blk t).view.emb j)
  refine (dvAt_real H hs h0 j).trans (at_row (fun r n h (p : Fin 128) d => ((A.dv r n h p d : ℝ) : EReal)) _ ⟨(j 0).val, (j 0).isLt⟩ e0 e1 (j 1).isLt).symm

theorem covered10 (i : S2048x4096.Idx) : ∃ t : Fin cfg0.N, (cfg0.win 10).flush t = true ∧ i ∈ ((cfg0.win 10).blk t).view.set := by
  have h0 : (i 0).val < 2048 := (i 0).isLt
  have h1 : (i 1).val < 4096 := (i 1).isLt
  obtain ⟨s, hs, hf, hn, hr⟩ : ∃ s, s < 68 ∧ s % 17 ≠ 0 ∧ s % 17 - 1 = (i 0).val / 128 ∧ s / 17 = (i 1).val / 1024 :=
    ⟨(i 1).val / 1024 * 17 + (i 0).val / 128 + 1, by omega, by omega, by omega, by omega⟩
  refine ⟨⟨s, lt_of_lt_of_eq hs N_0.symm⟩, ?_, ?_⟩
  · rw [flush10]
    show (!decide (s % 17 = 0)) = true
    rw [decide_eq_false hf]
    rfl
  · have h := ((cfg0.win 10).blk (⟨s, lt_of_lt_of_eq hs N_0.symm⟩ : Fin cfg0.N)).view.emb_mem_set
      (at128x1024 ⟨(i 0).val % 128, Nat.mod_lt _ (by decide)⟩ ⟨(i 1).val % 1024, Nat.mod_lt _ (by decide)⟩)
    obtain ⟨e0, e1⟩ := emb10 (⟨s, lt_of_lt_of_eq hs N_0.symm⟩ : Fin cfg0.N)
      (at128x1024 ⟨(i 0).val % 128, Nat.mod_lt _ (by decide)⟩ ⟨(i 1).val % 1024, Nat.mod_lt _ (by decide)⟩)
    have e : ((cfg0.win 10).blk (⟨s, lt_of_lt_of_eq hs N_0.symm⟩ : Fin cfg0.N)).view.emb
        (at128x1024 ⟨(i 0).val % 128, Nat.mod_lt _ (by decide)⟩ ⟨(i 1).val % 1024, Nat.mod_lt _ (by decide)⟩) = i := by
      refine funext (Fin.forall_fin_two.mpr ⟨Fin.ext (e0.trans ?_), Fin.ext (e1.trans ?_)⟩)
      · show (s % 17 - 1) * 128 + (i 0).val % 128 = (i 0).val
        omega
      · show s / 17 * 1024 + (i 1).val % 1024 = (i 1).val
        omega
    rwa [e] at h

theorem final10 (H : ArgsCoe m A c) : (dats m 0 c).arrAt 10 cfg0.N = gradV A :=
  (dats m 0 c).arrAt_eq_of_cover 10 (gradV A) (fun t ht => flushed10_real H t ht) covered10

end Cert.KernelIdeal.Dil
-- ==== Proof.Dil.Ref3.lean ====
/- The reference's three gradients, on real arguments. -/
module

public import proofs.«01_k».proof.Proof.Dil.Ref2
public import Idealize.ShloMosaic.Lib.KernelVsHost

@[expose] public section

noncomputable section

namespace Cert.KernelIdeal.Dil

open Idealize.ShloMosaic Cert.ReferenceIdeal Cert.ReferenceIdeal.Read

variable {A : RealArgs} {x0 x1 x2 x3 : (⟨S4x2048x16x64, .f32⟩ : BufTy).Contents (Elt Ideal)}
  {x4 : (⟨S4x2048x16, .f32⟩ : BufTy).Contents (Elt Ideal)}

/-- A window's key an index names. -/
abbrev key2 (i : S4x16x256x16x64.Idx) : Fin 256 := ⟨(i 2).val, (i 2).isLt⟩

theorem ref_v81 (H : Coe A x0 x1 x2 x3 x4) (i : S4x16x256x16x64.Idx) :
    val_main_v81 (F := Ideal) x0 x1 x3 i = (A.dv2 (i 0).val (i 1).val (i 3).val (key2 i) (i 4).val : EReal) := by
  rw [val_main_v81_apply, val_main_v80_apply, sum_mul_coe (fun k => ref_v78 H _) (fun k => ref_v61 H _)]
  rfl

theorem ref_v108 (H : Coe A x0 x1 x2 x3 x4) (i : S4x16x256x16x64.Idx) :
    val_main_v108 (F := Ideal) x0 x1 x2 x3 x4 i = (A.dk2 (i 0).val (i 1).val (i 3).val (key2 i) (i 4).val : EReal) := by
  rw [val_main_v108_apply, val_main_v107_apply, sum_mul_coe (fun k => ref_v106 H _) (fun k => ref_v0 H _)]
  rfl

theorem ref_v110 (H : Coe A x0 x1 x2 x3 x4) (i : S4x16x128x16x64.Idx) :
    val_main_v110 (F := Ideal) x0 x1 x2 x3 x4 i = (A.dq (i 0).val (i 1).val (i 3).val (i 2).val (i 4).val : EReal) := by
  rw [val_main_v110_apply, val_main_v109_apply, sum_mul_coe (fun k => ref_v106 H _) (fun k => ref_v7 H _)]
  rfl

/-- A block's own keys, and the next block's queries' share. -/
theorem ref_v116 (H : Coe A x0 x1 x2 x3 x4) (i : S4x16x128x16x64.Idx) :
    val_main_v116 (F := Ideal) x0 x1 x3 i = (A.dv (i 0).val (i 1).val (i 3).val ⟨(i 2).val, (i 2).isLt⟩ (i 4).val : EReal) := by
  have h1 : (i 1).val < 16 := (i 1).isLt
  have h2 : (i 2).val < 128 := (i 2).isLt
  have e1 : val_main_v112 (F := Ideal) x0 x1 x3 i
      = (A.dv2 (i 0).val (i 1).val (i 3).val ⟨(i 2).val + 128, by omega⟩ (i 4).val : EReal) := by
    rw [val_main_v112_apply, ref_v81 H]
    dsimp only [idx_main_v112, key2]
    congr 2
    exact Fin.ext (by show _ = (i 2).val + 128; dsimp only; omega)
  have e2 : val_main_v115 (F := Ideal) x0 x1 x3 i
      = ((if (i 1).val + 1 < 16 then A.dv2 (i 0).val ((i 1).val + 1) (i 3).val ⟨(i 2).val, by omega⟩ (i 4).val else 0 : ℝ) : EReal) := by
    unfold val_main_v115
    by_cases hc : (i 1).val + 1 < 16
    · rw [if_pos hc, pad_apply_of_inside _ _ _ _ _ _ _ i
        (fun a => match a with
          | ⟨0, _⟩ => ⟨(i 0).val, (i 0).isLt⟩
          | ⟨1, _⟩ => ⟨(i 1).val, by show (i 1).val < 15; omega⟩
          | ⟨2, _⟩ => ⟨(i 2).val, (i 2).isLt⟩
          | ⟨3, _⟩ => ⟨(i 3).val, (i 3).isLt⟩
          | ⟨4, _⟩ => ⟨(i 4).val, (i 4).isLt⟩ : S4x15x128x16x64.Idx)
        (fun a => match a with
          | ⟨0, _⟩ => by show (i 0).val = 0 + (i 0).val * (0 + 1); omega
          | ⟨1, _⟩ => by show (i 1).val = 0 + (i 1).val * (0 + 1); omega
          | ⟨2, _⟩ => by show (i 2).val = 0 + (i 2).val * (0 + 1); omega
          | ⟨3, _⟩ => by show (i 3).val = 0 + (i 3).val * (0 + 1); omega
          | ⟨4, _⟩ => by show (i 4).val = 0 + (i 4).val * (0 + 1); omega),
        val_main_v114_apply, val_main_v111_apply, ref_v81 H]
      dsimp only [idx_main_v114, idx_main_v111, key2]
      congr 2 <;> omega
    · rw [if_neg hc, pad_apply_of_not_inside _ _ _ _ _ _ _ i 1
        (by show ¬ (0 ≤ (i 1).val ∧ ((i 1).val - 0) % (0 + 1) = 0 ∧ ((i 1).val - 0) / (0 + 1) < 15); omega),
        val_main_cst_18_apply, Ideal.ofBits_def, Ideal.ofBits_zero_f32]
      rfl
  rw [val_main_v116_apply, e1, e2, Ideal.addf_def, ← EReal.coe_add]
  rfl

theorem ref_v123 (H : Coe A x0 x1 x2 x3 x4) (i : S4x16x128x16x64.Idx) :
    val_main_v123 (F := Ideal) x0 x1 x2 x3 x4 i = (A.dk (i 0).val (i 1).val (i 3).val ⟨(i 2).val, (i 2).isLt⟩ (i 4).val : EReal) := by
  have h1 : (i 1).val < 16 := (i 1).isLt
  have h2 : (i 2).val < 128 := (i 2).isLt
  have e1 : val_main_v119 (F := Ideal) x0 x1 x2 x3 x4 i
      = (A.dk2 (i 0).val (i 1).val (i 3).val ⟨(i 2).val + 128, by omega⟩ (i 4).val : EReal) := by
    rw [val_main_v119_apply, ref_v108 H]
    dsimp only [idx_main_v119, key2]
    congr 2
    exact Fin.ext (by show _ = (i 2).val + 128; dsimp only; omega)
  have e2 : val_main_v122 (F := Ideal) x0 x1 x2 x3 x4 i
      = ((if (i 1).val + 1 < 16 then A.dk2 (i 0).val ((i 1).val + 1) (i 3).val ⟨(i 2).val, by omega⟩ (i 4).val else 0 : ℝ) : EReal) := by
    unfold val_main_v122
    by_cases hc : (i 1).val + 1 < 16
    · rw [if_pos hc, pad_apply_of_inside _ _ _ _ _ _ _ i
        (fun a => match a with
          | ⟨0, _⟩ => ⟨(i 0).val, (i 0).isLt⟩
          | ⟨1, _⟩ => ⟨(i 1).val, by show (i 1).val < 15; omega⟩
          | ⟨2, _⟩ => ⟨(i 2).val, (i 2).isLt⟩
          | ⟨3, _⟩ => ⟨(i 3).val, (i 3).isLt⟩
          | ⟨4, _⟩ => ⟨(i 4).val, (i 4).isLt⟩ : S4x15x128x16x64.Idx)
        (fun a => match a with
          | ⟨0, _⟩ => by show (i 0).val = 0 + (i 0).val * (0 + 1); omega
          | ⟨1, _⟩ => by show (i 1).val = 0 + (i 1).val * (0 + 1); omega
          | ⟨2, _⟩ => by show (i 2).val = 0 + (i 2).val * (0 + 1); omega
          | ⟨3, _⟩ => by show (i 3).val = 0 + (i 3).val * (0 + 1); omega
          | ⟨4, _⟩ => by show (i 4).val = 0 + (i 4).val * (0 + 1); omega),
        val_main_v121_apply, val_main_v118_apply, ref_v108 H]
      dsimp only [idx_main_v121, idx_main_v118, key2]
      congr 2 <;> omega
    · rw [if_neg hc, pad_apply_of_not_inside _ _ _ _ _ _ _ i 1
        (by show ¬ (0 ≤ (i 1).val ∧ ((i 1).val - 0) % (0 + 1) = 0 ∧ ((i 1).val - 0) / (0 + 1) < 15); omega),
        val_main_cst_19_apply, Ideal.ofBits_def, Ideal.ofBits_zero_f32]
      rfl
  rw [val_main_v123_apply, e1, e2, Ideal.addf_def, ← EReal.coe_add]
  rfl

/-! ## The gradients of each class's rows -/

theorem ref_v125 (H : Coe A x0 x1 x2 x3 x4) (i : S4x2048x16x64.Idx) :
    val_main_v125 (F := Ideal) x0 x1 x2 x3 x4 i = (A.dq (i 0).val ((i 1).val / 128) (i 2).val ((i 1).val % 128) (i 3).val : EReal) := by
  have h0 : (i 0).val < 4 := (i 0).isLt
  have h1 : (i 1).val < 2048 := (i 1).isLt
  have h2 : (i 2).val < 16 := (i 2).isLt
  have h3 : (i 3).val < 64 := (i 3).isLt
  rw [val_main_v125_apply, ref_v110 H]
  dsimp only [idx_main_v125]
  congr 2 <;> first | omega | exact Fin.ext (by dsimp only; omega)

theorem ref_v124 (H : Coe A x0 x1 x2 x3 x4) (i : S4x2048x16x64.Idx) :
    val_main_v124 (F := Ideal) x0 x1 x2 x3 x4 i = (A.dk (i 0).val ((i 1).val / 128) (i 2).val ⟨(i 1).val % 128, Nat.mod_lt _ (by decide)⟩ (i 3).val : EReal) := by
  have h0 : (i 0).val < 4 := (i 0).isLt
  have h1 : (i 1).val < 2048 := (i 1).isLt
  have h2 : (i 2).val < 16 := (i 2).isLt
  have h3 : (i 3).val < 64 := (i 3).isLt
  rw [val_main_v124_apply, ref_v123 H]
  dsimp only [idx_main_v124]
  congr 2 <;> first | omega | exact Fin.ext (by dsimp only; omega)

theorem ref_v117 (H : Coe A x0 x1 x2 x3 x4) (i : S4x2048x16x64.Idx) :
    val_main_v117 (F := Ideal) x0 x1 x3 i = (A.dv (i 0).val ((i 1).val / 128) (i 2).val ⟨(i 1).val % 128, Nat.mod_lt _ (by decide)⟩ (i 3).val : EReal) := by
  have h0 : (i 0).val < 4 := (i 0).isLt
  have h1 : (i 1).val < 2048 := (i 1).isLt
  have h2 : (i 2).val < 16 := (i 2).isLt
  have h3 : (i 3).val < 64 := (i 3).isLt
  rw [val_main_v117_apply, ref_v116 H]
  dsimp only [idx_main_v117]
  congr 2 <;> first | omega | exact Fin.ext (by dsimp only; omega)

/-! ## The results: row `s` of a result holds position `s` of all classes, class by class, head by head -/

theorem ref_dq (H : Coe A x0 x1 x2 x3 x4) (i : S2048x4096.Idx) :
    val_main_v127 (F := Ideal) x0 x1 x2 x3 x4 i
      = (A.dq ((i 1).val / 1024) ((i 0).val / 128) ((i 1).val / 64 % 16) ((i 0).val % 128) ((i 1).val % 64) : EReal) := by
  have h0 : (i 0).val < 2048 := (i 0).isLt
  have h1 : (i 1).val < 4096 := (i 1).isLt
  have e0 : ((i 0).val * 4096 + (i 1).val) / 4096 = (i 0).val := by omega
  have e1 : ((i 0).val * 4096 + (i 1).val) / 1024 % 4 = (i 1).val / 1024 := by omega
  have e2 : ((i 0).val * 4096 + (i 1).val) / 64 % 16 = (i 1).val / 64 % 16 := by omega
  have e3 : ((i 0).val * 4096 + (i 1).val) % 64 = (i 1).val % 64 := by omega
  rw [val_main_v127_apply, val_main_v126_apply, ref_v125 H]
  dsimp only [idx_main_v127, idx_main_v126]
  simp only [e0, e1, e2, e3]

theorem ref_dk (H : Coe A x0 x1 x2 x3 x4) (i : S2048x4096.Idx) :
    val_main_v129 (F := Ideal) x0 x1 x2 x3 x4 i
      = (A.dk ((i 1).val / 1024) ((i 0).val / 128) ((i 1).val / 64 % 16) ⟨(i 0).val % 128, Nat.mod_lt _ (by decide)⟩ ((i 1).val % 64) : EReal) := by
  have h0 : (i 0).val < 2048 := (i 0).isLt
  have h1 : (i 1).val < 4096 := (i 1).isLt
  have e0 : ((i 0).val * 4096 + (i 1).val) / 4096 = (i 0).val := by omega
  have e1 : ((i 0).val * 4096 + (i 1).val) / 1024 % 4 = (i 1).val / 1024 := by omega
  have e2 : ((i 0).val * 4096 + (i 1).val) / 64 % 16 = (i 1).val / 64 % 16 := by omega
  have e3 : ((i 0).val * 4096 + (i 1).val) % 64 = (i 1).val % 64 := by omega
  rw [val_main_v129_apply, val_main_v128_apply, ref_v124 H]
  dsimp only [idx_main_v129, idx_main_v128]
  simp only [e0, e1, e2, e3]

theorem ref_dv (H : Coe A x0 x1 x2 x3 x4) (i : S2048x4096.Idx) :
    val_main_v131 (F := Ideal) x0 x1 x3 i
      = (A.dv ((i 1).val / 1024) ((i 0).val / 128) ((i 1).val / 64 % 16) ⟨(i 0).val % 128, Nat.mod_lt _ (by decide)⟩ ((i 1).val % 64) : EReal) := by
  have h0 : (i 0).val < 2048 := (i 0).isLt
  have h1 : (i 1).val < 4096 := (i 1).isLt
  have e0 : ((i 0).val * 4096 + (i 1).val) / 4096 = (i 0).val := by omega
  have e1 : ((i 0).val * 4096 + (i 1).val) / 1024 % 4 = (i 1).val / 1024 := by omega
  have e2 : ((i 0).val * 4096 + (i 1).val) / 64 % 16 = (i 1).val / 64 % 16 := by omega
  have e3 : ((i 0).val * 4096 + (i 1).val) % 64 = (i 1).val % 64 := by omega
  rw [val_main_v131_apply, val_main_v130_apply, ref_v117 H]
  dsimp only [idx_main_v131, idx_main_v130]
  simp only [e0, e1, e2, e3]

end Cert.KernelIdeal.Dil
-- ==== Proof.Dil.Results.lean ====
/- The three result arrays at the end of every run, of the kernel and of the reference. -/
module

public import proofs.«01_k».proof.Proof.Dil.RunEnd
public import proofs.«01_k».proof.Proof.Dil.Grads
public import proofs.«01_k».proof.Proof.Dil.Ref3
public import proofs.«01_k».proof.Proof.Gen.ReferenceIdeal.Run

@[expose] public section

noncomputable section

namespace Cert.KernelIdeal.Dil

open Cert.KernelIdeal.Gen
open Idealize.ShloMosaic Idealize.ShloMosaic.TcCoe Idealize.SL.Sem

/-- Of real arguments the kernel leaves their gradients. -/
theorem run_grads (m : (ℓ : Loc nD τ sig) → Buf (Elt Ideal) ℓ) (ρ : Dev nD → PrngReg) (A : Dev nD → RealArgs)
    (H : ∀ c, ArgsCoe m (A c) c) :
    θ_run defs (onTc (τ := τ) (main (F := Ideal))) ⟨m, fun _ => 0, ρ⟩ (fun r => ∀ c : Dev nD,
      r.2.mem ((c.tc : Thread nD τ).loc main_v84_0) = gradQ (A c)
      ∧ r.2.mem ((c.tc : Thread nD τ).loc main_v84_1) = gradK (A c)
      ∧ r.2.mem ((c.tc : Thread nD τ).loc main_v84_2) = gradV (A c)) :=
  (θ_run defs _ _).mono (fun _ h c => ⟨((h.1 c).1 8).trans (final8 (H c)), ((h.1 c).1 9).trans (final9 (H c)),
    ((h.1 c).1 10).trans (final10 (H c))⟩) (run_main m ρ)

section
variable {A : RealArgs} {x0 x1 x2 x3 : FVec Ideal S4x2048x16x64 .f32} {x4 : FVec Ideal S4x2048x16 .f32}

theorem ref_gradQ (H : Coe A x0 x1 x2 x3 x4) : Cert.ReferenceIdeal.Read.val_main_v127 (F := Ideal) x0 x1 x2 x3 x4 = gradQ A :=
  funext fun i => ref_dq H i
theorem ref_gradK (H : Coe A x0 x1 x2 x3 x4) : Cert.ReferenceIdeal.Read.val_main_v129 (F := Ideal) x0 x1 x2 x3 x4 = gradK A :=
  funext fun i => ref_dk H i
theorem ref_gradV (H : Coe A x0 x1 x2 x3 x4) : Cert.ReferenceIdeal.Read.val_main_v131 (F := Ideal) x0 x1 x3 = gradV A :=
  funext fun i => ref_dv H i
end

/-- Of the same arguments the reference leaves the same gradients. -/
theorem ref_run_grads (m : (ℓ : Loc Cert.ReferenceIdeal.nD Cert.ReferenceIdeal.τ Cert.ReferenceIdeal.sig) → Buf (Elt Ideal) ℓ)
    (ρ : Dev Cert.ReferenceIdeal.nD → PrngReg) (A : Dev Cert.ReferenceIdeal.nD → RealArgs)
    (H : ∀ c : Dev Cert.ReferenceIdeal.nD, Coe (A c)
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))) :
    θ_run Cert.ReferenceIdeal.defs (onTc (τ := Cert.ReferenceIdeal.τ) (Cert.ReferenceIdeal.main (F := Ideal))) ⟨m, fun _ => 0, ρ⟩
      (fun r => ∀ c : Dev Cert.ReferenceIdeal.nD,
      r.2.mem ((c.tc : Thread Cert.ReferenceIdeal.nD Cert.ReferenceIdeal.τ).loc Cert.ReferenceIdeal.main_v127) = gradQ (A c)
      ∧ r.2.mem ((c.tc : Thread Cert.ReferenceIdeal.nD Cert.ReferenceIdeal.τ).loc Cert.ReferenceIdeal.main_v129) = gradK (A c)
      ∧ r.2.mem ((c.tc : Thread Cert.ReferenceIdeal.nD Cert.ReferenceIdeal.τ).loc Cert.ReferenceIdeal.main_v131) = gradV (A c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono (fun _ h c =>
    ⟨(h c).1.trans ((Cert.ReferenceIdeal.Read.val_main_v127_eq (StableHlo.launchContents m c)).trans (ref_gradQ (H c))),
      (h c).2.1.trans ((Cert.ReferenceIdeal.Read.val_main_v129_eq (StableHlo.launchContents m c)).trans (ref_gradK (H c))),
      (h c).2.2.1.trans ((Cert.ReferenceIdeal.Read.val_main_v131_eq (StableHlo.launchContents m c)).trans (ref_gradV (H c))),
      (h c).2.2.2⟩) (Cert.ReferenceIdeal.Value.run m ρ)

end Cert.KernelIdeal.Dil
-- ==== Proof.Dil.Same.lean ====
/- The kernel's text is its idealization's: the same table of bodies, and so the same frame. -/
module

public import proofs.«01_k».proof.Defs
public import proofs.«01_k».proof.Proof.Gen.Kernel
public import proofs.«01_k».proof.Proof.Dil.RunEnd
public import Idealize.ShloMosaic.Adequacy

@[expose] public section

set_option maxHeartbeats 1000000

noncomputable section

namespace Cert.KernelIdeal.Dil

open Idealize.ShloMosaic Idealize.SL.Sem

theorem same_body : @Cert.Kernel.cc0_l1_dil4_bwd Bits _ _ = @Cert.KernelIdeal.cc0_l1_dil4_bwd Bits _ _ := rfl

theorem same_bodies : @Cert.Kernel.defs₀ Bits _ _ = @Cert.KernelIdeal.defs₀ Bits _ _ := by
  unfold Cert.Kernel.defs₀ Cert.KernelIdeal.defs₀
  refine congrArg Defs.onTc ?_
  funext l x
  match l, x with
  | 0, (t, s) =>
    dsimp only
    rw [same_body]
    rfl

theorem same_defs : @Cert.Kernel.defs Bits _ _ = @Cert.KernelIdeal.defs Bits _ _ := by
  unfold Cert.Kernel.defs Cert.KernelIdeal.defs
  rw [same_bodies]
  rfl

/-- The kernel's frame: the launch over any float values is its own. -/
theorem frame_kernel : Cert.quiescent_Kernel (hKernel := Cert.Kernel.Gen.facts) := fun m g _ => by
  rw [same_defs]
  exact (θ_run Cert.KernelIdeal.defs _ _).mono (fun _ h => h) (frame_run (F := Bits) m g)

end Cert.KernelIdeal.Dil

end
-- ==== Proof.Gate.Base.lean ====
/- The products and the activation of the channel mixer's first half, as the programs' arrays hold them. -/
module

public import Idealize.ShloMosaic.Lib.MatmulPlain
public import Idealize.ShloMosaic.Lib.StackMember
public import proofs.«01_k».proof.Proof.Dil.Finite
public import proofs.«01_k».proof.Proof.Dil.Row

@[expose] public section

noncomputable section

namespace Cert.Gate

open Idealize.ShloMosaic Idealize.ShloMosaic.ValueIdx

/-- An array of extended reals with two axes. -/
abbrev Mat (M N : ℕ) : Type := (⟨2, ![M, N]⟩ : Shape).Idx → EReal

/-! ## Products -/

/-- The product of two matrices. -/
def prod {M K N : ℕ} (x : Mat M K) (w : Mat K N) : Mat M N := fun i => ∑ k : Fin K, x (ix2 (i 0) k) * w (ix2 k (i 1))

/-- The product of a matrix and a transposed one. -/
def prodT {M K N : ℕ} (x : Mat M K) (w : Mat N K) : Mat M N := fun i => ∑ k : Fin K, x (ix2 (i 0) k) * w (ix2 (i 1) k)

theorem host_prod {M K N : ℕ} (x : FVec Ideal ⟨2, ![M, K]⟩ .f32) (w : FVec Ideal ⟨2, ![K, N]⟩ .f32) (i : (⟨2, ![M, N]⟩ : Shape).Idx) :
    Host.dotGeneral (DotDims.plain M K N) none x w i = prod x w i := by
  obtain ⟨a, b, rfl⟩ : ∃ a b, i = ix2 a b := ⟨_, _, eq_ix2 i⟩
  exact StackMember.dotGeneral_plain_apply none x w a b

theorem host_prodT {M K N : ℕ} (x : FVec Ideal ⟨2, ![M, K]⟩ .f32) (w : FVec Ideal ⟨2, ![N, K]⟩ .f32) (i : (⟨2, ![M, N]⟩ : Shape).Idx) :
    Host.dotGeneral (DotDims.transposedRhs M K N) none x w i = prodT x w i := by
  obtain ⟨a, b, rfl⟩ : ∃ a b, i = ix2 a b := ⟨_, _, eq_ix2 i⟩
  have h := Ideal.matmul_transposedRhs_apply none x w (constant ⟨2, ![M, N]⟩ .f32 0x00000000#32) a b
  rw [Ideal.matmul_constant_zero_apply] at h
  show FloatOps.dotGeneral _ none _ x w (ix2 a b) = _
  rw [Ideal.dotGeneral_apply, h]
  show Ideal.ofBits .f32 0x00000000#32 + _ = _
  rw [Ideal.ofBits_zero_f32, zero_add]
  rfl

/-- A launch's product of two blocks. -/
theorem tile_prod {M K N : ℕ} (x : FVec Ideal ⟨2, ![M, K]⟩ .bf16) (w : FVec Ideal ⟨2, ![K, N]⟩ .bf16) (a : Fin M) (b : Fin N) :
    FloatOps.matmul (DotDims.plain M K N) none x w (constant ⟨2, ![M, N]⟩ .f32 0x00000000#32) (ix2 a b)
      = ∑ k : Fin K, x (ix2 a k) * w (ix2 k b) := by
  rw [Ideal.matmul_plain_apply]
  show Ideal.ofBits .f32 0x00000000#32 + _ = _
  rw [Ideal.ofBits_zero_f32, zero_add]

/-- A launch's product of a block and a transposed one. -/
theorem tile_prodT {M K N : ℕ} (x : FVec Ideal ⟨2, ![M, K]⟩ .bf16) (w : FVec Ideal ⟨2, ![N, K]⟩ .bf16) (a : Fin M) (b : Fin N) :
    FloatOps.matmul (DotDims.transposedRhs M K N) none x w (constant ⟨2, ![M, N]⟩ .f32 0x00000000#32) (ix2 a b)
      = ∑ k : Fin K, x (ix2 a k) * w (ix2 b k) := by
  rw [Ideal.matmul_transposedRhs_apply]
  show Ideal.ofBits .f32 0x00000000#32 + _ = _
  rw [Ideal.ofBits_zero_f32, zero_add]

/-! ## The sigmoid -/

theorem lit_one : Ideal.ofBits .f32 0x3F800000#32 = 1 := by
  simp [Ideal.ofBits, Ideal.ieee]
  rw [← EReal.coe_mul]
  norm_num

/-- The launch's sigmoid. -/
theorem sigmoid_launch (x : EReal) :
    Ideal.div (Ideal.ofBits .f32 0x3F800000#32) (Ideal.ofBits .f32 0x3F800000#32 + Ideal.exp (Ideal.ofBits .f32 0x00000000#32 - x))
      = Ideal.logistic x := by
  rw [Ideal.ofBits_zero_f32, zero_sub, lit_one]
  rfl

/-- The reference's sigmoid. -/
theorem sigmoid_host (x : EReal) :
    Ideal.div (Ideal.ofBits .f32 0x3F800000#32) (Ideal.ofBits .f32 0x3F800000#32 + Ideal.exp (-x)) = Ideal.logistic x := by
  rw [lit_one]
  rfl

/-! ## Forward -/

/-- The activation. -/
def act {M N : ℕ} (gate up : Mat M N) : Mat M N := fun i => gate i * Ideal.logistic (gate i) * up i

/-! ## Backward: `d` the gradient of the activation -/

/-- The gate's gradient, as the launch writes it. -/
def dgate {M N : ℕ} (gate up d : Mat M N) : Mat M N := fun i =>
  d i * up i * (Ideal.logistic (gate i) * (1 + gate i * (1 - Ideal.logistic (gate i))))

/-- The other gradient, as the launch writes it. -/
def dup {M N : ℕ} (gate d : Mat M N) : Mat M N := fun i => d i * gate i * Ideal.logistic (gate i)

/-- The other gradient as the reference writes it. -/
theorem dup_host {M N : ℕ} (gate d : Mat M N) (i : (⟨2, ![M, N]⟩ : Shape).Idx) :
    gate i * Ideal.logistic (gate i) * d i = dup gate d i := by
  unfold dup
  rw [mul_comm _ (d i), mul_assoc]

/-- The gate's gradient as the reference writes it, at reals: the product is distributed over the sum. -/
theorem dgate_host {M N : ℕ} (gate up d : Mat M N) (i : (⟨2, ![M, N]⟩ : Shape).Idx) {g u e : ℝ}
    (hg : gate i = (g : EReal)) (hu : up i = (u : EReal)) (hd : d i = (e : EReal)) :
    d i * up i * Ideal.logistic (gate i) + gate i * (d i * up i) * (Ideal.logistic (gate i) * (1 - Ideal.logistic (gate i)))
      = dgate gate up d i := by
  unfold dgate
  rw [hg, hu, hd, Ideal.logistic_coe]
  generalize (1 + Real.exp (-g))⁻¹ = s
  rw [← EReal.coe_one]
  simp only [← EReal.coe_mul, ← EReal.coe_sub, ← EReal.coe_add]
  refine congrArg Real.toEReal ?_
  ring

/-- A product of arrays of reals is one. -/
theorem prodT_real {M K N : ℕ} {x : Mat M K} {w : Mat N K} (hx : ∀ i, x i = ((x i).toReal : EReal)) (hw : ∀ i, w i = ((w i).toReal : EReal))
    (i : (⟨2, ![M, N]⟩ : Shape).Idx) : ∃ e : ℝ, prodT x w i = (e : EReal) := by
  refine ⟨∑ k : Fin K, (x (ix2 (i 0) k)).toReal * (w (ix2 (i 1) k)).toReal, ?_⟩
  unfold prodT
  rw [← Cert.KernelIdeal.Dil.sum_coe]
  refine Finset.sum_congr rfl fun k _ => ?_
  rw [EReal.coe_mul, ← hx, ← hw]

end Cert.Gate
-- ==== Proof.Gate.Back.lean ====
/- The launch of the channel mixer's backward leaves the two gradients, whole. -/
module

public import proofs.«01_k».proof.Proof.Gen.Kernel2Ideal.Value
public import Idealize.ShloMosaic.Lib.Pipeline.ValueKit.Basic
public import proofs.«01_k».proof.Proof.Gate.Base

@[expose] public section

set_option maxRecDepth 8192

noncomputable section

namespace Cert.Kernel2Ideal.Gate

open Cert.Kernel2Ideal Cert.Kernel2Ideal.Gen Cert.Gate
open Idealize.ShloMosaic Idealize.ShloMosaic.TcCoe Idealize.ShloMosaic.ValueIdx Idealize.SL.Sem

/-! ## One block -/

theorem pay1_apply (x0 : Vec Ideal S1024x1024 .f32) (x1 : Vec Ideal S1408x1024 .bf16) (a : Fin 1024) (b : Fin 1408) :
    k0_pay1 x0 x1 (ix2 a b) = ∑ k : Fin 1024, x0 (ix2 a k) * x1 (ix2 b k) := by
  show FloatOps.matmul (DotDims.transposedRhs 1024 1024 1408) none (truncf .bf16 x0 bitsLt_bf16_f32)
    (shapeCast S1408x1024 x1 shapeCasts_S1408x1024_S1408x1024 : FVec Ideal S1408x1024 .bf16) (constant S1024x1408 .f32 0x00000000#32) (ix2 a b) = _
  rw [shapeCast_self]
  exact tile_prodT (truncf .bf16 x0 bitsLt_bf16_f32) x1 a b

theorem pay2_apply (x2 : Vec Ideal S1024x1408 .f32) (j : S1024x1408.Idx) : k0_pay2 x2 j = Ideal.logistic (x2 j) :=
  sigmoid_launch (x2 j)

theorem pay3_apply (x0 : Vec Ideal S1024x1024 .f32) (x1 : Vec Ideal S1408x1024 .bf16) (x2 x3 : Vec Ideal S1024x1408 .f32) (j : S1024x1408.Idx) :
    k0_pay3 x0 x1 x2 x3 j = dgate x2 x3 (k0_pay1 x0 x1) j := by
  show k0_pay1 x0 x1 j * x3 j * (k0_pay2 x2 j * (Ideal.ofBits .f32 0x3F800000#32 + x2 j * (Ideal.ofBits .f32 0x3F800000#32 - k0_pay2 x2 j))) = _
  rw [lit_one, pay2_apply]
  rfl

theorem pay4_apply (x0 : Vec Ideal S1024x1024 .f32) (x1 : Vec Ideal S1408x1024 .bf16) (x2 : Vec Ideal S1024x1408 .f32) (j : S1024x1408.Idx) :
    k0_pay4 x0 x1 x2 j = dup x2 (k0_pay1 x0 x1) j := by
  show k0_pay1 x0 x1 j * x2 j * k0_pay2 x2 j = _
  rw [pay2_apply]
  rfl

theorem out4_eq (x0 : Vec Ideal S1024x1024 .f32) (x1 : Vec Ideal S1408x1024 .bf16) (x2 x3 : Vec Ideal S1024x1408 .f32) :
    out0_4 x0 x1 x2 x3 = dgate x2 x3 (k0_pay1 x0 x1) := by
  unfold out0_4
  rw [View.canon_unit_zero (View.eq_zero_of_forall (by decide)), View.ld_unit_lit _ _ (by decide), View.ld_unit_lit _ _ (by decide),
    View.ld_unit_lit _ _ (by decide), View.ld_unit_lit _ _ (by decide)]
  exact funext (pay3_apply x0 x1 x2 x3)

theorem out5_eq (x0 : Vec Ideal S1024x1024 .f32) (x1 : Vec Ideal S1408x1024 .bf16) (x2 x3 : Vec Ideal S1024x1408 .f32) :
    out0_5 x0 x1 x2 x3 = dup x2 (k0_pay1 x0 x1) := by
  unfold out0_5
  rw [View.canon_unit_zero (View.eq_zero_of_forall (by decide)), View.ld_unit_lit _ _ (by decide), View.ld_unit_lit _ _ (by decide),
    View.ld_unit_lit _ _ (by decide)]
  exact funext (pay4_apply x0 x1 x2)

/-! ## Where each window's block lies -/

theorem where0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem where1 : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)
theorem where2 : ∀ t : Fin cfg0.N, win0_2.index t (0 : Fin 2) = t.val % 8 ∧ win0_2.index t (1 : Fin 2) = t.val / 8 :=
  (by decide +kernel : ∀ t : Fin grid0.N, win0_2.index t (0 : Fin 2) = t.val % 8 ∧ win0_2.index t (1 : Fin 2) = t.val / 8)
theorem where3 : ∀ t : Fin cfg0.N, win0_3.index t (0 : Fin 2) = t.val % 8 ∧ win0_3.index t (1 : Fin 2) = t.val / 8 :=
  (by decide +kernel : ∀ t : Fin grid0.N, win0_3.index t (0 : Fin 2) = t.val % 8 ∧ win0_3.index t (1 : Fin 2) = t.val / 8)
theorem where4 : ∀ t : Fin cfg0.N, win0_4.index t (0 : Fin 2) = t.val % 8 ∧ win0_4.index t (1 : Fin 2) = t.val / 8 :=
  (by decide +kernel : ∀ t : Fin grid0.N, win0_4.index t (0 : Fin 2) = t.val % 8 ∧ win0_4.index t (1 : Fin 2) = t.val / 8)
theorem where5 : ∀ t : Fin cfg0.N, win0_5.index t (0 : Fin 2) = t.val % 8 ∧ win0_5.index t (1 : Fin 2) = t.val / 8 :=
  (by decide +kernel : ∀ t : Fin grid0.N, win0_5.index t (0 : Fin 2) = t.val % 8 ∧ win0_5.index t (1 : Fin 2) = t.val / 8)

/-- A point's block's row and column in the whole array. -/
def row (t : Fin cfg0.N) (a : Fin 1024) : Fin 8192 := ⟨t.val % 8 * 1024 + a.val, by have := a.isLt; omega⟩
def col (t : Fin cfg0.N) (b : Fin 1408) : Fin 2816 :=
  ⟨t.val / 8 * 1408 + b.val, by have := b.isLt; have : t.val < 16 := lt_of_lt_of_eq t.isLt N_0; omega⟩

theorem emb0 (t : Fin cfg0.N) (a k : Fin 1024) : ((cfg0.win 0).blk t).view.emb (ix2 a k) = ix2 (row t a) k := by
  obtain ⟨e0, e1⟩ := where0 t
  refine funext (Fin.forall_fin_two.mpr ⟨Fin.ext ?_, Fin.ext ?_⟩)
  · show win0_0.index t (0 : Fin 2) * 1024 + 1 * a.val = t.val % 8 * 1024 + a.val; rw [e0, Nat.one_mul]
  · show win0_0.index t (1 : Fin 2) * 1024 + 1 * k.val = k.val; rw [e1, Nat.one_mul, Nat.zero_mul, Nat.zero_add]
theorem emb1 (t : Fin cfg0.N) (b : Fin 1408) (k : Fin 1024) : ((cfg0.win 1).blk t).view.emb (ix2 b k) = ix2 (col t b) k := by
  obtain ⟨e0, e1⟩ := where1 t
  refine funext (Fin.forall_fin_two.mpr ⟨Fin.ext ?_, Fin.ext ?_⟩)
  · show win0_1.index t (0 : Fin 2) * 1408 + 1 * b.val = t.val / 8 * 1408 + b.val; rw [e0, Nat.one_mul]
  · show win0_1.index t (1 : Fin 2) * 1024 + 1 * k.val = k.val; rw [e1, Nat.one_mul, Nat.zero_mul, Nat.zero_add]
theorem emb2 (t : Fin cfg0.N) (a : Fin 1024) (b : Fin 1408) : ((cfg0.win 2).blk t).view.emb (ix2 a b) = ix2 (row t a) (col t b) := by
  obtain ⟨e0, e1⟩ := where2 t
  refine funext (Fin.forall_fin_two.mpr ⟨Fin.ext ?_, Fin.ext ?_⟩)
  · show win0_2.index t (0 : Fin 2) * 1024 + 1 * a.val = t.val % 8 * 1024 + a.val; rw [e0, Nat.one_mul]
  · show win0_2.index t (1 : Fin 2) * 1408 + 1 * b.val = t.val / 8 * 1408 + b.val; rw [e1, Nat.one_mul]
theorem emb3 (t : Fin cfg0.N) (a : Fin 1024) (b : Fin 1408) : ((cfg0.win 3).blk t).view.emb (ix2 a b) = ix2 (row t a) (col t b) := by
  obtain ⟨e0, e1⟩ := where3 t
  refine funext (Fin.forall_fin_two.mpr ⟨Fin.ext ?_, Fin.ext ?_⟩)
  · show win0_3.index t (0 : Fin 2) * 1024 + 1 * a.val = t.val % 8 * 1024 + a.val; rw [e0, Nat.one_mul]
  · show win0_3.index t (1 : Fin 2) * 1408 + 1 * b.val = t.val / 8 * 1408 + b.val; rw [e1, Nat.one_mul]
theorem emb4 (t : Fin cfg0.N) (a : Fin 1024) (b : Fin 1408) : ((cfg0.win 4).blk t).view.emb (ix2 a b) = ix2 (row t a) (col t b) := by
  obtain ⟨e0, e1⟩ := where4 t
  refine funext (Fin.forall_fin_two.mpr ⟨Fin.ext ?_, Fin.ext ?_⟩)
  · show win0_4.index t (0 : Fin 2) * 1024 + 1 * a.val = t.val % 8 * 1024 + a.val; rw [e0, Nat.one_mul]
  · show win0_4.index t (1 : Fin 2) * 1408 + 1 * b.val = t.val / 8 * 1408 + b.val; rw [e1, Nat.one_mul]
theorem emb5 (t : Fin cfg0.N) (a : Fin 1024) (b : Fin 1408) : ((cfg0.win 5).blk t).view.emb (ix2 a b) = ix2 (row t a) (col t b) := by
  obtain ⟨e0, e1⟩ := where5 t
  refine funext (Fin.forall_fin_two.mpr ⟨Fin.ext ?_, Fin.ext ?_⟩)
  · show win0_5.index t (0 : Fin 2) * 1024 + 1 * a.val = t.val % 8 * 1024 + a.val; rw [e0, Nat.one_mul]
  · show win0_5.index t (1 : Fin 2) * 1408 + 1 * b.val = t.val / 8 * 1408 + b.val; rw [e1, Nat.one_mul]

/-- Every element of the whole array is one of a point's block. -/
theorem reach (i : S8192x2816.Idx) : ∃ (t : Fin cfg0.N) (a : Fin 1024) (b : Fin 1408), ix2 (row t a) (col t b) = i := by
  have h0 : (i 0).val < 8192 := (i 0).isLt
  have h1 : (i 1).val < 2816 := (i 1).isLt
  obtain ⟨s, hs, hr, hc⟩ : ∃ s, s < 16 ∧ s % 8 = (i 0).val / 1024 ∧ s / 8 = (i 1).val / 1408 :=
    ⟨(i 1).val / 1408 * 8 + (i 0).val / 1024, by omega, by omega, by omega⟩
  refine ⟨⟨s, lt_of_lt_of_eq hs N_0.symm⟩, ⟨(i 0).val % 1024, Nat.mod_lt _ (by decide)⟩, ⟨(i 1).val % 1408, Nat.mod_lt _ (by decide)⟩, ?_⟩
  refine funext (Fin.forall_fin_two.mpr ⟨Fin.ext ?_, Fin.ext ?_⟩)
  · show s % 8 * 1024 + (i 0).val % 1024 = (i 0).val
    omega
  · show s / 8 * 1408 + (i 1).val % 1408 = (i 1).val
    omega

theorem flush4 : ∀ t : Fin cfg0.N, (cfg0.win 4).flush t = true :=
  (by decide +kernel : ∀ t : Fin grid0.N, win0_4.flush t = true)
theorem flush5 : ∀ t : Fin cfg0.N, (cfg0.win 5).flush t = true :=
  (by decide +kernel : ∀ t : Fin grid0.N, win0_5.flush t = true)

theorem covered4 (i : S8192x2816.Idx) : ∃ t : Fin cfg0.N, (cfg0.win 4).flush t = true ∧ i ∈ ((cfg0.win 4).blk t).view.set := by
  obtain ⟨t, a, b, rfl⟩ := reach i
  exact ⟨t, flush4 t, by rw [← emb4]; exact ((cfg0.win 4).blk t).view.emb_mem_set _⟩
theorem covered5 (i : S8192x2816.Idx) : ∃ t : Fin cfg0.N, (cfg0.win 5).flush t = true ∧ i ∈ ((cfg0.win 5).blk t).view.set := by
  obtain ⟨t, a, b, rfl⟩ := reach i
  exact ⟨t, flush5 t, by rw [← emb5]; exact ((cfg0.win 5).blk t).view.emb_mem_set _⟩

/-! ## The whole arrays -/

variable (m : (ℓ : Loc nD τ sig) → Buf (Elt Ideal) ℓ) (c : Dev nD)

/-- The launch finds the weight as launched: its narrower format holds the same reals. -/
theorem V_main_v0 : V m c main_v0 = (m ((c : Thread nD τ).loc main_arg2) : Mat 2816 1024) := by
  unfold V
  simp only [hostOps0]
  after_results_simp
  rfl

/-- The gradient of the activation. -/
abbrev dact : Mat 8192 2816 := prodT (m ((c : Thread nD τ).loc main_arg3)) (m ((c : Thread nD τ).loc main_arg2))

/-- The gradients the launch leaves. -/
abbrev resGate : Mat 8192 2816 := dgate (m ((c : Thread nD τ).loc main_arg0)) (m ((c : Thread nD τ).loc main_arg1)) (dact m c)
abbrev resUp : Mat 8192 2816 := dup (m ((c : Thread nD τ).loc main_arg0)) (dact m c)

theorem iblk0 (t : Fin cfg0.N) (a k : Fin 1024) :
    iblk m c 0 t (ix2 a k) = (m ((c : Thread nD τ).loc main_arg3) : Mat 8192 1024) (ix2 (row t a) k) :=
  (congrFun (V_main_arg3 m c) _).trans (congrArg (m ((c : Thread nD τ).loc main_arg3) : Mat 8192 1024) (emb0 t a k))
theorem iblk1 (t : Fin cfg0.N) (b : Fin 1408) (k : Fin 1024) :
    iblk m c 1 t (ix2 b k) = (m ((c : Thread nD τ).loc main_arg2) : Mat 2816 1024) (ix2 (col t b) k) :=
  (congrFun (V_main_v0 m c) _).trans (congrArg (m ((c : Thread nD τ).loc main_arg2) : Mat 2816 1024) (emb1 t b k))
theorem iblk2 (t : Fin cfg0.N) (a : Fin 1024) (b : Fin 1408) :
    iblk m c 2 t (ix2 a b) = (m ((c : Thread nD τ).loc main_arg0) : Mat 8192 2816) (ix2 (row t a) (col t b)) :=
  (congrFun (V_main_arg0 m c) _).trans (congrArg (m ((c : Thread nD τ).loc main_arg0) : Mat 8192 2816) (emb2 t a b))
theorem iblk3 (t : Fin cfg0.N) (a : Fin 1024) (b : Fin 1408) :
    iblk m c 3 t (ix2 a b) = (m ((c : Thread nD τ).loc main_arg1) : Mat 8192 2816) (ix2 (row t a) (col t b)) :=
  (congrFun (V_main_arg1 m c) _).trans (congrArg (m ((c : Thread nD τ).loc main_arg1) : Mat 8192 2816) (emb3 t a b))

/-- The block's product is the whole arrays' at the block's elements. -/
theorem dact_block (t : Fin cfg0.N) (a : Fin 1024) (b : Fin 1408) :
    k0_pay1 (iblk m c 0 t) (iblk m c 1 t) (ix2 a b) = dact m c (ix2 (row t a) (col t b)) := by
  refine (pay1_apply (iblk m c 0 t) (iblk m c 1 t) a b).trans ?_
  unfold dact prodT
  exact Finset.sum_congr rfl fun k _ => congrArg₂ (· * ·) (iblk0 m c t a k) (iblk1 m c t b k)

theorem final4 : (dats m 0 c).arrAt 4 cfg0.N = resGate m c := by
  refine (dats m 0 c).arrAt_eq_of_cover 4 (resGate m c) (fun t _ => ?_) covered4
  unfold Pipeline.Dat.flushed
  rw [after0_4, out4_eq]
  funext j
  obtain ⟨a, b, rfl⟩ : ∃ a b, j = ix2 a b := ⟨_, _, eq_ix2 j⟩
  show dgate (iblk m c 2 t) (iblk m c 3 t) (k0_pay1 (iblk m c 0 t) (iblk m c 1 t)) (ix2 a b) = resGate m c (((cfg0.win 4).blk t).view.emb (ix2 a b))
  rw [emb4]
  unfold resGate dgate
  rw [dact_block, iblk2, iblk3]

theorem final5 : (dats m 0 c).arrAt 5 cfg0.N = resUp m c := by
  refine (dats m 0 c).arrAt_eq_of_cover 5 (resUp m c) (fun t _ => ?_) covered5
  unfold Pipeline.Dat.flushed
  rw [after0_5, out5_eq]
  funext j
  obtain ⟨a, b, rfl⟩ : ∃ a b, j = ix2 a b := ⟨_, _, eq_ix2 j⟩
  show dup (iblk m c 2 t) (k0_pay1 (iblk m c 0 t) (iblk m c 1 t)) (ix2 a b) = resUp m c (((cfg0.win 5).blk t).view.emb (ix2 a b))
  rw [emb5]
  unfold resUp dup
  rw [dact_block, iblk2]

end Cert.Kernel2Ideal.Gate
-- ==== Proof.Gate.Fore.lean ====
/- The launch of the channel mixer's forward leaves the two products and the activation, whole. -/
module

public import proofs.«01_k».proof.Proof.Gen.Kernel3Ideal.Value
public import Idealize.ShloMosaic.Lib.Pipeline.ValueKit.Basic
public import proofs.«01_k».proof.Proof.Gate.Base

@[expose] public section

set_option maxRecDepth 8192

noncomputable section

namespace Cert.Kernel3Ideal.Gate

open Cert.Kernel3Ideal Cert.Kernel3Ideal.Gen Cert.Gate
open Idealize.ShloMosaic Idealize.ShloMosaic.TcCoe Idealize.ShloMosaic.ValueIdx Idealize.SL.Sem

/-! ## One block -/

theorem pay1_apply (x0 : Vec Ideal S1024x1024 .bf16) (x1 : Vec Ideal S1024x1408 .bf16) (a : Fin 1024) (b : Fin 1408) :
    k0_pay1 x0 x1 (ix2 a b) = ∑ k : Fin 1024, x0 (ix2 a k) * x1 (ix2 k b) := by
  show FloatOps.matmul (DotDims.plain 1024 1024 1408) none (shapeCast S1024x1024 x0 shapeCasts_S1024x1024_S1024x1024 : FVec Ideal S1024x1024 .bf16)
    (shapeCast S1024x1408 x1 shapeCasts_S1024x1408_S1024x1408 : FVec Ideal S1024x1408 .bf16) (constant S1024x1408 .f32 0x00000000#32) (ix2 a b) = _
  rw [shapeCast_self, shapeCast_self]
  exact tile_prod x0 x1 a b

theorem pay2_apply (x0 : Vec Ideal S1024x1024 .bf16) (x1 : Vec Ideal S1024x1408 .bf16) (a : Fin 1024) (b : Fin 1408) :
    k0_pay2 x0 x1 (ix2 a b) = ∑ k : Fin 1024, x0 (ix2 a k) * x1 (ix2 k b) := by
  show FloatOps.matmul (DotDims.plain 1024 1024 1408) none (shapeCast S1024x1024 x0 shapeCasts_S1024x1024_S1024x1024 : FVec Ideal S1024x1024 .bf16)
    (shapeCast S1024x1408 x1 shapeCasts_S1024x1408_S1024x1408 : FVec Ideal S1024x1408 .bf16) (constant S1024x1408 .f32 0x00000000#32) (ix2 a b) = _
  rw [shapeCast_self, shapeCast_self]
  exact tile_prod x0 x1 a b

theorem pay3_apply (x0 : Vec Ideal S1024x1024 .bf16) (x1 x2 : Vec Ideal S1024x1408 .bf16) (j : S1024x1408.Idx) :
    k0_pay3 x0 x1 x0 x2 j = act (k0_pay1 x0 x1) (k0_pay2 x0 x2) j :=
  congrArg (fun s : EReal => k0_pay1 x0 x1 j * s * k0_pay2 x0 x2 j) (sigmoid_launch (k0_pay1 x0 x1 j))

theorem out3_eq (x0 : Vec Ideal S1024x1024 .bf16) (x1 x2 : Vec Ideal S1024x1408 .bf16) : out0_3 x0 x1 x2 = k0_pay1 x0 x1 := by
  unfold out0_3
  rw [View.canon_unit_zero (View.eq_zero_of_forall (by decide)), View.ld_unit_lit _ _ (by decide), View.ld_unit_lit _ _ (by decide)]

theorem out4_eq (x0 : Vec Ideal S1024x1024 .bf16) (x1 x2 : Vec Ideal S1024x1408 .bf16) : out0_4 x0 x1 x2 = k0_pay2 x0 x2 := by
  unfold out0_4
  rw [View.canon_unit_zero (View.eq_zero_of_forall (by decide)), View.ld_unit_lit _ _ (by decide), View.ld_unit_lit _ _ (by decide)]

theorem out5_eq (x0 : Vec Ideal S1024x1024 .bf16) (x1 x2 : Vec Ideal S1024x1408 .bf16) : out0_5 x0 x1 x2 = act (k0_pay1 x0 x1) (k0_pay2 x0 x2) := by
  unfold out0_5
  rw [View.canon_unit_zero (View.eq_zero_of_forall (by decide)), View.ld_unit_lit _ _ (by decide), View.ld_unit_lit _ _ (by decide), View.ld_unit_lit _ _ (by decide)]
  exact funext (pay3_apply x0 x1 x2)

/-! ## Where each window's block lies -/

theorem where0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem where1 : ∀ t : Fin cfg0.N, win0_1.index t (0 : Fin 2) = 0 ∧ win0_1.index t (1 : Fin 2) = t.val / 8 :=
  (by decide +kernel : ∀ t : Fin grid0.N, win0_1.index t (0 : Fin 2) = 0 ∧ win0_1.index t (1 : Fin 2) = t.val / 8)
theorem where2 : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)
theorem where3 : ∀ t : Fin cfg0.N, win0_3.index t (0 : Fin 2) = t.val % 8 ∧ win0_3.index t (1 : Fin 2) = t.val / 8 :=
  (by decide +kernel : ∀ t : Fin grid0.N, win0_3.index t (0 : Fin 2) = t.val % 8 ∧ win0_3.index t (1 : Fin 2) = t.val / 8)
theorem where4 : ∀ t : Fin cfg0.N, win0_4.index t (0 : Fin 2) = t.val % 8 ∧ win0_4.index t (1 : Fin 2) = t.val / 8 :=
  (by decide +kernel : ∀ t : Fin grid0.N, win0_4.index t (0 : Fin 2) = t.val % 8 ∧ win0_4.index t (1 : Fin 2) = t.val / 8)
theorem where5 : ∀ t : Fin cfg0.N, win0_5.index t (0 : Fin 2) = t.val % 8 ∧ win0_5.index t (1 : Fin 2) = t.val / 8 :=
  (by decide +kernel : ∀ t : Fin grid0.N, win0_5.index t (0 : Fin 2) = t.val % 8 ∧ win0_5.index t (1 : Fin 2) = t.val / 8)

/-- A point's block's row and column in the whole array. -/
def row (t : Fin cfg0.N) (a : Fin 1024) : Fin 8192 := ⟨t.val % 8 * 1024 + a.val, by have := a.isLt; omega⟩
def col (t : Fin cfg0.N) (b : Fin 1408) : Fin 2816 :=
  ⟨t.val / 8 * 1408 + b.val, by have := b.isLt; have : t.val < 16 := lt_of_lt_of_eq t.isLt N_0; omega⟩

theorem emb0 (t : Fin cfg0.N) (a k : Fin 1024) : ((cfg0.win 0).blk t).view.emb (ix2 a k) = ix2 (row t a) k := by
  obtain ⟨e0, e1⟩ := where0 t
  refine funext (Fin.forall_fin_two.mpr ⟨Fin.ext ?_, Fin.ext ?_⟩)
  · show win0_0.index t (0 : Fin 2) * 1024 + 1 * a.val = t.val % 8 * 1024 + a.val; rw [e0, Nat.one_mul]
  · show win0_0.index t (1 : Fin 2) * 1024 + 1 * k.val = k.val; rw [e1, Nat.one_mul, Nat.zero_mul, Nat.zero_add]
theorem emb1 (t : Fin cfg0.N) (k : Fin 1024) (b : Fin 1408) : ((cfg0.win 1).blk t).view.emb (ix2 k b) = ix2 k (col t b) := by
  obtain ⟨e0, e1⟩ := where1 t
  refine funext (Fin.forall_fin_two.mpr ⟨Fin.ext ?_, Fin.ext ?_⟩)
  · show win0_1.index t (0 : Fin 2) * 1024 + 1 * k.val = k.val; rw [e0, Nat.one_mul, Nat.zero_mul, Nat.zero_add]
  · show win0_1.index t (1 : Fin 2) * 1408 + 1 * b.val = t.val / 8 * 1408 + b.val; rw [e1, Nat.one_mul]
theorem emb2 (t : Fin cfg0.N) (k : Fin 1024) (b : Fin 1408) : ((cfg0.win 2).blk t).view.emb (ix2 k b) = ix2 k (col t b) := by
  obtain ⟨e0, e1⟩ := where2 t
  refine funext (Fin.forall_fin_two.mpr ⟨Fin.ext ?_, Fin.ext ?_⟩)
  · show win0_2.index t (0 : Fin 2) * 1024 + 1 * k.val = k.val; rw [e0, Nat.one_mul, Nat.zero_mul, Nat.zero_add]
  · show win0_2.index t (1 : Fin 2) * 1408 + 1 * b.val = t.val / 8 * 1408 + b.val; rw [e1, Nat.one_mul]
theorem emb3 (t : Fin cfg0.N) (a : Fin 1024) (b : Fin 1408) : ((cfg0.win 3).blk t).view.emb (ix2 a b) = ix2 (row t a) (col t b) := by
  obtain ⟨e0, e1⟩ := where3 t
  refine funext (Fin.forall_fin_two.mpr ⟨Fin.ext ?_, Fin.ext ?_⟩)
  · show win0_3.index t (0 : Fin 2) * 1024 + 1 * a.val = t.val % 8 * 1024 + a.val; rw [e0, Nat.one_mul]
  · show win0_3.index t (1 : Fin 2) * 1408 + 1 * b.val = t.val / 8 * 1408 + b.val; rw [e1, Nat.one_mul]
theorem emb4 (t : Fin cfg0.N) (a : Fin 1024) (b : Fin 1408) : ((cfg0.win 4).blk t).view.emb (ix2 a b) = ix2 (row t a) (col t b) := by
  obtain ⟨e0, e1⟩ := where4 t
  refine funext (Fin.forall_fin_two.mpr ⟨Fin.ext ?_, Fin.ext ?_⟩)
  · show win0_4.index t (0 : Fin 2) * 1024 + 1 * a.val = t.val % 8 * 1024 + a.val; rw [e0, Nat.one_mul]
  · show win0_4.index t (1 : Fin 2) * 1408 + 1 * b.val = t.val / 8 * 1408 + b.val; rw [e1, Nat.one_mul]
theorem emb5 (t : Fin cfg0.N) (a : Fin 1024) (b : Fin 1408) : ((cfg0.win 5).blk t).view.emb (ix2 a b) = ix2 (row t a) (col t b) := by
  obtain ⟨e0, e1⟩ := where5 t
  refine funext (Fin.forall_fin_two.mpr ⟨Fin.ext ?_, Fin.ext ?_⟩)
  · show win0_5.index t (0 : Fin 2) * 1024 + 1 * a.val = t.val % 8 * 1024 + a.val; rw [e0, Nat.one_mul]
  · show win0_5.index t (1 : Fin 2) * 1408 + 1 * b.val = t.val / 8 * 1408 + b.val; rw [e1, Nat.one_mul]

/-- Every element of the whole array is one of a point's block. -/
theorem reach (i : S8192x2816.Idx) : ∃ (t : Fin cfg0.N) (a : Fin 1024) (b : Fin 1408), ix2 (row t a) (col t b) = i := by
  have h0 : (i 0).val < 8192 := (i 0).isLt
  have h1 : (i 1).val < 2816 := (i 1).isLt
  obtain ⟨s, hs, hr, hc⟩ : ∃ s, s < 16 ∧ s % 8 = (i 0).val / 1024 ∧ s / 8 = (i 1).val / 1408 :=
    ⟨(i 1).val / 1408 * 8 + (i 0).val / 1024, by omega, by omega, by omega⟩
  refine ⟨⟨s, lt_of_lt_of_eq hs N_0.symm⟩, ⟨(i 0).val % 1024, Nat.mod_lt _ (by decide)⟩, ⟨(i 1).val % 1408, Nat.mod_lt _ (by decide)⟩, ?_⟩
  refine funext (Fin.forall_fin_two.mpr ⟨Fin.ext ?_, Fin.ext ?_⟩)
  · show s % 8 * 1024 + (i 0).val % 1024 = (i 0).val
    omega
  · show s / 8 * 1408 + (i 1).val % 1408 = (i 1).val
    omega

theorem flush3 : ∀ t : Fin cfg0.N, (cfg0.win 3).flush t = true :=
  (by decide +kernel : ∀ t : Fin grid0.N, win0_3.flush t = true)
theorem flush4 : ∀ t : Fin cfg0.N, (cfg0.win 4).flush t = true :=
  (by decide +kernel : ∀ t : Fin grid0.N, win0_4.flush t = true)
theorem flush5 : ∀ t : Fin cfg0.N, (cfg0.win 5).flush t = true :=
  (by decide +kernel : ∀ t : Fin grid0.N, win0_5.flush t = true)

theorem covered3 (i : S8192x2816.Idx) : ∃ t : Fin cfg0.N, (cfg0.win 3).flush t = true ∧ i ∈ ((cfg0.win 3).blk t).view.set := by
  obtain ⟨t, a, b, rfl⟩ := reach i
  exact ⟨t, flush3 t, by rw [← emb3]; exact ((cfg0.win 3).blk t).view.emb_mem_set _⟩
theorem covered4 (i : S8192x2816.Idx) : ∃ t : Fin cfg0.N, (cfg0.win 4).flush t = true ∧ i ∈ ((cfg0.win 4).blk t).view.set := by
  obtain ⟨t, a, b, rfl⟩ := reach i
  exact ⟨t, flush4 t, by rw [← emb4]; exact ((cfg0.win 4).blk t).view.emb_mem_set _⟩
theorem covered5 (i : S8192x2816.Idx) : ∃ t : Fin cfg0.N, (cfg0.win 5).flush t = true ∧ i ∈ ((cfg0.win 5).blk t).view.set := by
  obtain ⟨t, a, b, rfl⟩ := reach i
  exact ⟨t, flush5 t, by rw [← emb5]; exact ((cfg0.win 5).blk t).view.emb_mem_set _⟩

/-! ## The whole arrays -/

variable (m : (ℓ : Loc nD τ sig) → Buf (Elt Ideal) ℓ) (c : Dev nD)

/-- The launch finds the arguments as launched: their narrower formats hold the same reals. -/
theorem V_main_v0 : V m c main_v0 = (m ((c : Thread nD τ).loc main_arg0) : Mat 8192 1024) := by
  unfold V
  simp only [hostOps0]
  after_results_simp
  rfl
theorem V_main_v1 : V m c main_v1 = (m ((c : Thread nD τ).loc main_arg1) : Mat 1024 2816) := by
  unfold V
  simp only [hostOps0]
  after_results_simp
  rfl
theorem V_main_v2 : V m c main_v2 = (m ((c : Thread nD τ).loc main_arg2) : Mat 1024 2816) := by
  unfold V
  simp only [hostOps0]
  after_results_simp
  rfl

/-- The arrays the launch leaves. -/
abbrev resGate : Mat 8192 2816 := prod (m ((c : Thread nD τ).loc main_arg0) : Mat 8192 1024) (m ((c : Thread nD τ).loc main_arg1) : Mat 1024 2816)
abbrev resUp : Mat 8192 2816 := prod (m ((c : Thread nD τ).loc main_arg0) : Mat 8192 1024) (m ((c : Thread nD τ).loc main_arg2) : Mat 1024 2816)
abbrev resAct : Mat 8192 2816 := act (resGate m c) (resUp m c)

theorem iblk0 (t : Fin cfg0.N) (a k : Fin 1024) :
    iblk m c 0 t (ix2 a k) = (m ((c : Thread nD τ).loc main_arg0) : Mat 8192 1024) (ix2 (row t a) k) :=
  (congrFun (V_main_v0 m c) _).trans (congrArg (m ((c : Thread nD τ).loc main_arg0) : Mat 8192 1024) (emb0 t a k))
theorem iblk1 (t : Fin cfg0.N) (k : Fin 1024) (b : Fin 1408) :
    iblk m c 1 t (ix2 k b) = (m ((c : Thread nD τ).loc main_arg1) : Mat 1024 2816) (ix2 k (col t b)) :=
  (congrFun (V_main_v1 m c) _).trans (congrArg (m ((c : Thread nD τ).loc main_arg1) : Mat 1024 2816) (emb1 t k b))
theorem iblk2 (t : Fin cfg0.N) (k : Fin 1024) (b : Fin 1408) :
    iblk m c 2 t (ix2 k b) = (m ((c : Thread nD τ).loc main_arg2) : Mat 1024 2816) (ix2 k (col t b)) :=
  (congrFun (V_main_v2 m c) _).trans (congrArg (m ((c : Thread nD τ).loc main_arg2) : Mat 1024 2816) (emb2 t k b))

/-! A block's products are the whole arrays' at the block's elements. -/

theorem gate_block (t : Fin cfg0.N) (a : Fin 1024) (b : Fin 1408) :
    k0_pay1 (iblk m c 0 t) (iblk m c 1 t) (ix2 a b) = resGate m c (ix2 (row t a) (col t b)) := by
  refine (pay1_apply (iblk m c 0 t) (iblk m c 1 t) a b).trans ?_
  unfold resGate prod
  exact Finset.sum_congr rfl fun k _ => congrArg₂ (· * ·) (iblk0 m c t a k) (iblk1 m c t k b)

theorem up_block (t : Fin cfg0.N) (a : Fin 1024) (b : Fin 1408) :
    k0_pay2 (iblk m c 0 t) (iblk m c 2 t) (ix2 a b) = resUp m c (ix2 (row t a) (col t b)) := by
  refine (pay2_apply (iblk m c 0 t) (iblk m c 2 t) a b).trans ?_
  unfold resUp prod
  exact Finset.sum_congr rfl fun k _ => congrArg₂ (· * ·) (iblk0 m c t a k) (iblk2 m c t k b)

theorem final3 : (dats m 0 c).arrAt 3 cfg0.N = resGate m c := by
  refine (dats m 0 c).arrAt_eq_of_cover 3 (resGate m c) (fun t _ => ?_) covered3
  unfold Pipeline.Dat.flushed
  rw [after0_3, out3_eq]
  funext j
  obtain ⟨a, b, rfl⟩ : ∃ a b, j = ix2 a b := ⟨_, _, eq_ix2 j⟩
  show k0_pay1 (iblk m c 0 t) (iblk m c 1 t) (ix2 a b) = resGate m c (((cfg0.win 3).blk t).view.emb (ix2 a b))
  rw [emb3]
  exact gate_block m c t a b

theorem final4 : (dats m 0 c).arrAt 4 cfg0.N = resUp m c := by
  refine (dats m 0 c).arrAt_eq_of_cover 4 (resUp m c) (fun t _ => ?_) covered4
  unfold Pipeline.Dat.flushed
  rw [after0_4, out4_eq]
  funext j
  obtain ⟨a, b, rfl⟩ : ∃ a b, j = ix2 a b := ⟨_, _, eq_ix2 j⟩
  show k0_pay2 (iblk m c 0 t) (iblk m c 2 t) (ix2 a b) = resUp m c (((cfg0.win 4).blk t).view.emb (ix2 a b))
  rw [emb4]
  exact up_block m c t a b

theorem final5 : (dats m 0 c).arrAt 5 cfg0.N = resAct m c := by
  refine (dats m 0 c).arrAt_eq_of_cover 5 (resAct m c) (fun t _ => ?_) covered5
  unfold Pipeline.Dat.flushed
  rw [after0_5, out5_eq]
  funext j
  obtain ⟨a, b, rfl⟩ : ∃ a b, j = ix2 a b := ⟨_, _, eq_ix2 j⟩
  show act (k0_pay1 (iblk m c 0 t) (iblk m c 1 t)) (k0_pay2 (iblk m c 0 t) (iblk m c 2 t)) (ix2 a b) = resAct m c (((cfg0.win 5).blk t).view.emb (ix2 a b))
  rw [emb5]
  unfold resAct act
  rw [gate_block, up_block]

end Cert.Kernel3Ideal.Gate
-- ==== Proof.Gate.Refs.lean ====
/- The references' terms are the same arrays as the launches'. -/
module

public import proofs.«01_k».proof.Proof.Gen.Reference2Ideal.Run
public import proofs.«01_k».proof.Proof.Gen.Reference3Ideal.Run
public import proofs.«01_k».proof.Proof.Gate.Base

@[expose] public section

noncomputable section

namespace Cert.Reference2Ideal.Gate

open Cert.Reference2Ideal Cert.Reference2Ideal.Gen Cert.Gate
open Idealize.ShloMosaic Idealize.ShloMosaic.TcCoe Idealize.ShloMosaic.ValueIdx Idealize.SL.Sem

variable (x0 x1 : FVec Ideal S8192x2816 .f32) (x2 : FVec Ideal S2816x1024 .f32) (x3 : FVec Ideal S8192x1024 .f32)

/-- The reference's sigmoid of the gate. -/
abbrev sig : FVec Ideal S8192x2816 .f32 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf x0)))

theorem sig_apply (i : S8192x2816.Idx) : sig x0 i = Ideal.logistic (x0 i) := sigmoid_host (x0 i)

/-- The reference's gradient of the activation. -/
abbrev dactH : FVec Ideal S8192x2816 .f32 := Host.dotGeneral dot_S8192x1024_S2816x1024_S8192x2816_1_1_0_0_n_n none x3 x2

theorem dactH_apply (i : S8192x2816.Idx) : dactH x2 x3 i = prodT x3 x2 i := host_prodT x3 x2 i

/-- The reference's gradient of the gate, of reals. -/
theorem gate_eq (h0 : ∀ i, x0 i = (EReal.toReal (x0 i) : EReal)) (h1 : ∀ i, x1 i = (EReal.toReal (x1 i) : EReal))
    (h2 : ∀ i, x2 i = (EReal.toReal (x2 i) : EReal)) (h3 : ∀ i, x3 i = (EReal.toReal (x3 i) : EReal)) :
    truncf .bf16 (addf (mulf (mulf (dactH x2 x3) x1) (sig x0))
      (mulf (mulf x0 (mulf (dactH x2 x3) x1)) (mulf (sig x0)
        (subf (broadcastInDim S8192x2816 ![] bcast_S_S8192x2816 (constant S_ .f32 0x3F800000#32)) (sig x0))))) bitsLt_bf16_f32
      = dgate (M := 8192) (N := 2816) x0 x1 (prodT x3 x2) := by
  funext i
  show dactH x2 x3 i * x1 i * sig x0 i + x0 i * (dactH x2 x3 i * x1 i) * (sig x0 i * (Ideal.ofBits .f32 0x3F800000#32 - sig x0 i)) = _
  rw [lit_one, sig_apply, dactH_apply]
  obtain ⟨e, he⟩ := prodT_real (M := 8192) (N := 2816) h3 h2 i
  exact dgate_host (M := 8192) (N := 2816) x0 x1 (prodT x3 x2) i (h0 i) (h1 i) he

/-- The reference's other gradient. -/
theorem up_eq : truncf .bf16 (mulf (mulf x0 (sig x0)) (dactH x2 x3)) bitsLt_bf16_f32 = dup (M := 8192) (N := 2816) x0 (prodT x3 x2) := by
  funext i
  show x0 i * sig x0 i * dactH x2 x3 i = _
  rw [sig_apply, dactH_apply]
  exact dup_host (M := 8192) (N := 2816) x0 (prodT x3 x2) i

end Cert.Reference2Ideal.Gate

namespace Cert.Reference3Ideal.Gate

open Cert.Reference3Ideal Cert.Reference3Ideal.Gen Cert.Gate
open Idealize.ShloMosaic Idealize.ShloMosaic.TcCoe Idealize.ShloMosaic.ValueIdx Idealize.SL.Sem

variable (x : FVec Ideal S8192x1024 .f32) (w w' : FVec Ideal S1024x2816 .f32)

theorem prod_eq : Host.dotGeneral dot_S8192x1024_S1024x2816_S8192x2816_1_0_0_1_n_n none x w = prod (M := 8192) (K := 1024) (N := 2816) x w :=
  funext fun i => host_prod x w i

/-- The reference's activation. -/
theorem act_eq (p q : FVec Ideal S8192x2816 .f32) :
    truncf .bf16 (mulf (mulf p (Host.divf (broadcastInDim S8192x2816 ![] bcast_S_S8192x2816 (constant S_ .f32 0x3F800000#32))
      (addf (broadcastInDim S8192x2816 ![] bcast_S_S8192x2816 (constant S_ .f32 0x3F800000#32)) (Host.exp (Host.negf p))))) q) bitsLt_bf16_f32
      = act (M := 8192) (N := 2816) p q :=
  funext fun i => congrArg (fun s : EReal => p i * s * q i) (sigmoid_host (p i))

end Cert.Reference3Ideal.Gate
-- ==== Proof.Gate.Finite.lean ====
/- Finite arguments of the channel mixer's backward are arrays of reals. -/
module

public import proofs.«01_k».proof.Defs
public import proofs.«01_k».proof.Proof.Gate.Base

@[expose] public section

noncomputable section

namespace Cert.Gate

open Idealize.ShloMosaic

/-- What the predicate's operations ask of their shapes. -/
theorem pre_facts2 : Cert.Pre_finite2.Facts := ⟨by decide, by decide, by decide⟩

section
variable [Cert.Pre_finite2.Facts]
variable (x0 x1 : FVec Ideal Cert.Pre_finite2.S8192x2816 .f32) (x2 : FVec Ideal Cert.Pre_finite2.S2816x1024 .f32)
  (x3 : FVec Ideal Cert.Pre_finite2.S8192x1024 .f32)

/-- Arguments the predicate holds of are reals. -/
theorem real_of_pre2
    (h : (Cert.Pre_finite2.fn (F := Ideal) x0 x1 x2 x3).1 = (fun _ => 1#1)
      ∧ (Cert.Pre_finite2.fn (F := Ideal) x0 x1 x2 x3).2.1 = (fun _ => 1#1)
      ∧ (Cert.Pre_finite2.fn (F := Ideal) x0 x1 x2 x3).2.2.1 = (fun _ => 1#1)
      ∧ (Cert.Pre_finite2.fn (F := Ideal) x0 x1 x2 x3).2.2.2 = (fun _ => 1#1)) :
    (∀ i, x0 i = (EReal.toReal (x0 i) : EReal)) ∧ (∀ i, x1 i = (EReal.toReal (x1 i) : EReal))
      ∧ (∀ i, x2 i = (EReal.toReal (x2 i) : EReal)) ∧ (∀ i, x3 i = (EReal.toReal (x3 i) : EReal)) :=
  ⟨fun i => Cert.KernelIdeal.Dil.real_of_lt _ (congrFun h.1 i), fun i => Cert.KernelIdeal.Dil.real_of_lt _ (congrFun h.2.1 i),
    fun i => Cert.KernelIdeal.Dil.real_of_lt _ (congrFun h.2.2.1 i), fun i => Cert.KernelIdeal.Dil.real_of_lt _ (congrFun h.2.2.2 i)⟩
end

end Cert.Gate
-- ==== Proof.Gate.Results.lean ====
/- The two launches of the channel mixer and their references end with the same arrays. -/
module

public import proofs.«01_k».proof.Defs
public import proofs.«01_k».proof.Proof.Gen.Kernel2.Frame
public import proofs.«01_k».proof.Proof.Gen.Kernel3.Frame
public import proofs.«01_k».proof.Proof.Gate.Back
public import proofs.«01_k».proof.Proof.Gate.Fore
public import proofs.«01_k».proof.Proof.Gate.Refs
public import proofs.«01_k».proof.Proof.Gate.Finite
public import Idealize.ShloMosaic.Adequacy
public import Idealize.ShloMosaic.Init

@[expose] public section

noncomputable section

namespace Cert.Gate

open Idealize.ShloMosaic Idealize.ShloMosaic.TcCoe Idealize.SL.Sem

/-! ## Each runs, ends quiet, and leaves its arguments -/

theorem frame_p2 : Cert.quiescent_Kernel2 (hKernel2 := Cert.Kernel2.Gen.facts) := fun m g _ => Cert.Kernel2.Gen.frame m g
theorem frame_pi2 : Cert.quiescent_Kernel2Ideal (hKernel2Ideal := Cert.Kernel2Ideal.Gen.facts) := fun m g _ => Cert.Kernel2Ideal.Gen.frame m g
theorem frame_pi2_finite : Cert.quiescent_Kernel2Ideal_pre_finite2 (hKernel2Ideal := Cert.Kernel2Ideal.Gen.facts) (hPre_finite2 := pre_facts2) :=
  fun m g _ => Cert.Kernel2Ideal.Gen.frame m g
theorem frame_ri2 : Cert.quiescent_Reference2Ideal (hReference2Ideal := Cert.Reference2Ideal.Gen.facts) :=
  fun m g _ => (θ_run Cert.Reference2Ideal.defs _ _).mono
    (fun r h => ⟨fun c => (h c).2.2, sem_eq_zero_of_no_sems (by decide) r.2⟩) (Cert.Reference2Ideal.Value.run m g)
theorem frame_ri2_finite : Cert.quiescent_Reference2Ideal_pre_finite2 (hReference2Ideal := Cert.Reference2Ideal.Gen.facts)
    (hPre_finite2 := pre_facts2) := fun m g _ => frame_ri2 m g trivial

theorem frame_p3 : Cert.quiescent_Kernel3 (hKernel3 := Cert.Kernel3.Gen.facts) := fun m g _ => Cert.Kernel3.Gen.frame m g
theorem frame_pi3 : Cert.quiescent_Kernel3Ideal (hKernel3Ideal := Cert.Kernel3Ideal.Gen.facts) := fun m g _ => Cert.Kernel3Ideal.Gen.frame m g
theorem frame_ri3 : Cert.quiescent_Reference3Ideal (hReference3Ideal := Cert.Reference3Ideal.Gen.facts) :=
  fun m g _ => (θ_run Cert.Reference3Ideal.defs _ _).mono
    (fun r h => ⟨fun c => (h c).2.2.2, sem_eq_zero_of_no_sems (by decide) r.2⟩) (Cert.Reference3Ideal.Value.run m g)

/-! ## The results -/

/-- Of finite arguments the backward's launch and its reference leave the same two gradients. -/
theorem equal2 : Cert.algebraic_Kernel2Ideal_Reference2Ideal_pre_finite2 (hKernel2Ideal := Cert.Kernel2Ideal.Gen.facts)
    (hReference2Ideal := Cert.Reference2Ideal.Gen.facts) (hPre_finite2 := pre_facts2) := by
  intro m g m' g' hpre hag
  refine ⟨fun c => Cert.Kernel2Ideal.Gate.resGate m c, fun c => Cert.Kernel2Ideal.Gate.resUp m c, ?_, ?_⟩
  · exact (θ_run Cert.Kernel2Ideal.defs _ _).mono
      (fun r h c => ⟨(h c).1.trans (Cert.Kernel2Ideal.Gate.final4 m c), (h c).2.1.trans (Cert.Kernel2Ideal.Gate.final5 m c), (h c).2.2⟩)
      (Cert.Kernel2Ideal.Value.run_blocks m g)
  · refine (θ_run Cert.Reference2Ideal.defs _ _).mono (fun r h c => ?_) (Cert.Reference2Ideal.Value.run m' g')
    obtain ⟨a0, a1, a2, a3⟩ := hag c
    obtain ⟨r0, r1, rest⟩ := h c
    obtain ⟨h0, h1, h2, h3⟩ := @real_of_pre2 pre_facts2 _ _ _ _ (hpre c)
    refine ⟨r0.trans ?_, r1.trans ?_, rest⟩
    · rw [a0, a1, a2, a3]
      exact Cert.Reference2Ideal.Gate.gate_eq _ _ _ _ h0 h1 h2 h3
    · rw [a0, a2, a3]
      exact Cert.Reference2Ideal.Gate.up_eq _ _ _

/-- The forward's launch and its reference leave the same two products and activation, of any arguments. -/
theorem equal3 : Cert.algebraic_Kernel3Ideal_Reference3Ideal (hKernel3Ideal := Cert.Kernel3Ideal.Gen.facts)
    (hReference3Ideal := Cert.Reference3Ideal.Gen.facts) := by
  intro m g m' g' _ hag
  refine ⟨fun c => Cert.Kernel3Ideal.Gate.resGate m c, fun c => Cert.Kernel3Ideal.Gate.resUp m c, fun c => Cert.Kernel3Ideal.Gate.resAct m c, ?_, ?_⟩
  · exact (θ_run Cert.Kernel3Ideal.defs _ _).mono
      (fun r h c => ⟨(h c).1.trans (Cert.Kernel3Ideal.Gate.final3 m c), (h c).2.1.trans (Cert.Kernel3Ideal.Gate.final4 m c),
        (h c).2.2.1.trans (Cert.Kernel3Ideal.Gate.final5 m c), (h c).2.2.2⟩)
      (Cert.Kernel3Ideal.Value.run_blocks m g)
  · refine (θ_run Cert.Reference3Ideal.defs _ _).mono (fun r h c => ?_) (Cert.Reference3Ideal.Value.run m' g')
    obtain ⟨a0, a1, a2⟩ := hag c
    obtain ⟨r0, r1, r2, rest⟩ := h c
    refine ⟨r0.trans ?_, r1.trans ?_, r2.trans ?_, rest⟩
    · rw [a0, a1]
      exact Cert.Reference3Ideal.Gate.prod_eq _ _
    · rw [a0, a2]
      exact Cert.Reference3Ideal.Gate.prod_eq _ _
    · rw [a0, a1, a2, Cert.Reference3Ideal.Gate.prod_eq, Cert.Reference3Ideal.Gate.prod_eq]
      exact Cert.Reference3Ideal.Gate.act_eq _ _

end Cert.Gate
-- ==== Proof.Tiles.Sum.lean ====
/- A product whose contraction a launch splits over its points: the sum it has added up after each. -/
module

public import Idealize.ShloMosaic.Lib.ValueLayout
public import proofs.«01_k».proof.Proof.Gate.Base

@[expose] public section

noncomputable section

namespace Cert.Tiles

open Cert.Gate Finset
open Idealize.ShloMosaic Idealize.ShloMosaic.ValueIdx

/-! ## Elements by number -/

/-- A matrix's element by its numbers, zero outside the matrix. -/
def el {M N : ℕ} (x : Mat M N) (i j : ℕ) : EReal := if h : i < M ∧ j < N then x (ix2 ⟨i, h.1⟩ ⟨j, h.2⟩) else 0

theorem el_ix2 {M N : ℕ} (x : Mat M N) (i : Fin M) (j : Fin N) : el x i.val j.val = x (ix2 i j) := by
  unfold el
  rw [dif_pos ⟨i.isLt, j.isLt⟩]

/-- The element by the numbers of an index. -/
theorem el_of {M N : ℕ} (x : Mat M N) (y : (⟨2, ![M, N]⟩ : Shape).Idx) {i j : ℕ} (hi : (y 0).val = i) (hj : (y 1).val = j) : x y = el x i j := by
  subst hi hj
  obtain ⟨a, b, rfl⟩ : ∃ a b, y = ix2 a b := ⟨_, _, eq_ix2 y⟩
  exact (el_ix2 x a b).symm

/-- The product of a transposed matrix and another. -/
def prodL {M K N : ℕ} (x : Mat K M) (w : Mat K N) : Mat M N := fun i => ∑ k : Fin K, x (ix2 k (i 0)) * w (ix2 k (i 1))

/-- A matrix and the product of two. -/
def onto {M K N : ℕ} (r : Mat M N) (x : Mat M K) (w : Mat K N) : Mat M N := fun i => r i + prod x w i

theorem prod_el {M K N : ℕ} (x : Mat M K) (w : Mat K N) (a : Fin M) (b : Fin N) :
    prod x w (ix2 a b) = ∑ k ∈ range K, el x a k * el w k b := by
  rw [Finset.sum_range]
  exact Finset.sum_congr rfl fun k _ => (congrArg₂ (· * ·) (el_ix2 x a k) (el_ix2 w k b)).symm
theorem prodT_el {M K N : ℕ} (x : Mat M K) (w : Mat N K) (a : Fin M) (b : Fin N) :
    prodT x w (ix2 a b) = ∑ k ∈ range K, el x a k * el w b k := by
  rw [Finset.sum_range]
  exact Finset.sum_congr rfl fun k _ => (congrArg₂ (· * ·) (el_ix2 x a k) (el_ix2 w b k)).symm
theorem prodL_el {M K N : ℕ} (x : Mat K M) (w : Mat K N) (a : Fin M) (b : Fin N) :
    prodL x w (ix2 a b) = ∑ k ∈ range K, el x k a * el w k b := by
  rw [Finset.sum_range]
  exact Finset.sum_congr rfl fun k _ => (congrArg₂ (· * ·) (el_ix2 x k a) (el_ix2 w k b)).symm

/-- The reference's product with a transposed matrix, written the other way round and transposed. -/
theorem host_prodL {M K N : ℕ} (w : DotDims.WF ⟨2, ![K, N]⟩ ⟨2, ![K, M]⟩ ⟨2, ![N, M]⟩ [0] [0] [1] [1] [] [])
    (x : FVec Ideal ⟨2, ![K, M]⟩ .f32) (y : FVec Ideal ⟨2, ![K, N]⟩ .f32) (h : (⟨2, ![N, M]⟩ : Shape).Transposes [1, 0] ⟨2, ![M, N]⟩)
    (i : (⟨2, ![M, N]⟩ : Shape).Idx) :
    transpose ⟨2, ![M, N]⟩ [1, 0] (Host.dotGeneral (⟨[0], [0], [1], [1], [], [], w⟩ : DotDims _ _ _) none y x) h i = prodL x y i := by
  obtain ⟨a, b, rfl⟩ : ∃ a b, i = ix2 a b := ⟨_, _, eq_ix2 i⟩
  rw [transpose_ix2_apply]
  generalize hd : (⟨[0], [0], [1], [1], [], [], w⟩ : DotDims ⟨2, ![K, N]⟩ ⟨2, ![K, M]⟩ ⟨2, ![N, M]⟩) = d
  have hr : d.contr.rank = 1 := by subst hd; rfl
  have hs : d.contr.size ⟨0, by rw [hr]; exact Nat.one_pos⟩ = K := by subst hd; rfl
  show FloatOps.dotGeneral _ none _ y x (ix2 b a) = _
  rw [Ideal.dotGeneral_apply, ← Equiv.sum_comp (contrEquiv1 d K hr hs).symm]
  refine Finset.sum_congr rfl fun k _ => ?_
  have hk := contrEquiv1_symm_val d K hr hs k
  have el : d.lhsIdx (ix2 b a) ((contrEquiv1 d K hr hs).symm k) = ix2 k b := by
    subst hd
    funext ax; apply Fin.ext
    match ax with
    | ⟨0, _⟩ => exact hk
    | ⟨1, _⟩ => rfl
  have er : d.rhsIdx (ix2 b a) ((contrEquiv1 d K hr hs).symm k) = ix2 k a := by
    subst hd
    funext ax; apply Fin.ext
    match ax with
    | ⟨0, _⟩ => exact hk
    | ⟨1, _⟩ => rfl
  rw [el, er]
  exact mul_comm _ _

/-- A launch's product of a transposed block and another. -/
theorem tile_prodL {M K N : ℕ} (x : FVec Ideal ⟨2, ![K, M]⟩ .bf16) (w : FVec Ideal ⟨2, ![K, N]⟩ .bf16)
    (h : (⟨2, ![K, M]⟩ : Shape).Transposes [1, 0] ⟨2, ![M, K]⟩) (a : Fin M) (b : Fin N) :
    FloatOps.matmul (DotDims.plain M K N) none (transpose ⟨2, ![M, K]⟩ [1, 0] x h : FVec Ideal ⟨2, ![M, K]⟩ .bf16) w
        (constant ⟨2, ![M, N]⟩ .f32 0x00000000#32) (ix2 a b)
      = ∑ k : Fin K, x (ix2 k a) * w (ix2 k b) := by
  rw [tile_prod]
  exact Finset.sum_congr rfl fun k _ => congrArg (· * w (ix2 k b)) (transpose_ix2_apply x h a k)

/-! ## The sum after each point -/

/-- Points come in runs of `q`, each point adding the next `T` terms of its run's sum: the first of a run writes its terms and a
rest `r`, each later one adds its terms to what the point before left. After each point stand the terms so far. -/
theorem run_sum {n₀ q T : ℕ} (hq : 0 < q) {S : Type} (o : ∀ n, n < n₀ → S → EReal) (f : ℕ → S → ℕ → EReal) (r : ℕ → S → EReal)
    (start : ∀ n h, n % q = 0 → ∀ y, o n h y = (∑ k ∈ range T, f (n / q) y k) + r (n / q) y)
    (step : ∀ n h, ¬n % q = 0 → ∀ y, o n h y = o (n - 1) (Nat.lt_of_le_of_lt (Nat.sub_le _ _) h) y + ∑ k ∈ range T, f (n / q) y (n % q * T + k)) :
    ∀ n h y, o n h y = (∑ k ∈ range ((n % q + 1) * T), f (n / q) y k) + r (n / q) y := by
  intro n
  induction n with
  | zero =>
    intro h y
    rw [start 0 h (Nat.zero_mod q) y, Nat.zero_mod, Nat.zero_add, Nat.one_mul]
  | succ n ih =>
    intro h y
    by_cases h0 : (n + 1) % q = 0
    · rw [start _ h h0 y, h0, Nat.zero_add, Nat.one_mul]
    · have hd : n / q = (n + 1) / q := by
        rw [Nat.succ_div, if_neg fun hd => h0 (Nat.mod_eq_zero_of_dvd hd), Nat.add_zero]
      have hm : n % q + 1 = (n + 1) % q := by
        have e1 := Nat.div_add_mod n q
        have e2 := Nat.div_add_mod (n + 1) q
        rw [← hd] at e2
        omega
      rw [step _ h h0 y]
      show o n _ y + _ = _
      rw [ih, hd, hm, add_right_comm, Nat.add_mul, Nat.one_mul, Finset.sum_range_add]

end Cert.Tiles
-- ==== Proof.Tiles.GateDw.lean ====
/- The launch of a weight's gradient, tokens added up by eights of points, leaves the product whole. -/
module

public import proofs.«01_k».proof.Proof.Gen.Kernel4Ideal.Value
public import Idealize.ShloMosaic.Lib.Pipeline.ValueKit.Basic
public import proofs.«01_k».proof.Proof.Tiles.Sum

@[expose] public section

set_option maxRecDepth 8192

noncomputable section

namespace Cert.Kernel4Ideal.Tiles

open Cert.Kernel4Ideal Cert.Kernel4Ideal.Gen Cert.Gate Cert.Tiles Finset
open Idealize.ShloMosaic Idealize.ShloMosaic.TcCoe Idealize.ShloMosaic.ValueIdx Idealize.SL.Sem

theorem hz : (![0, 0] : Fin 2 → ℕ) = fun _ => 0 := View.eq_zero_of_forall (by decide)

/-! ## One point -/

theorem pay1_apply (x0 : Vec Ideal S1024x1024 .bf16) (x1 : Vec Ideal S1024x1408 .bf16) (a : Fin 1024) (b : Fin 1408) :
    k0_pay1 x0 x1 (ix2 a b) = ∑ k : Fin 1024, x0 (ix2 k a) * x1 (ix2 k b) := by
  show FloatOps.matmul (DotDims.plain 1024 1024 1408) none
    (transpose S1024x1024 [1, 0] (shapeCast S1024x1024 x0 shapeCasts_S1024x1024_S1024x1024) transposes_S1024x1024_p1_0_S1024x1024 : FVec Ideal S1024x1024 .bf16)
    (shapeCast S1024x1408 x1 shapeCasts_S1024x1408_S1024x1408 : FVec Ideal S1024x1408 .bf16) (constant S1024x1408 .f32 0x00000000#32) (ix2 a b) = _
  rw [shapeCast_self, shapeCast_self]
  exact tile_prodL x0 x1 transposes_S1024x1024_p1_0_S1024x1024 a b

section
variable (c : Dev nD) (i : grid0.Coords) (a3 : Memref sig .tc .vmem S1024x1024 .bf16) (h3 : a3.IsWhole) (a4 : Memref sig .tc .vmem S1024x1408 .bf16)
  (h4 : a4.IsWhole) (a5 : Memref sig .tc .vmem S1024x1408 .bf16) (h5 : a5.IsWhole) (a6 : Memref sig .tc .vmem S1024x1408 .f32) (h6 : a6.IsWhole)
  (x0 : Vec Ideal S1024x1024 .bf16) (x1 : Vec Ideal S1024x1408 .bf16) (s : Vec Ideal S1024x1408 .f32)

/-- A run's first point leaves its product. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1024x1024) hz, View.ld_unit_zero (S := S1024x1408) hz,
    shapeCast_self]

/-- A later one adds its product. -/
theorem later (hc0 : ¬cond0_0 i) (hc1 : cond0_1 i) (hc2 : ¬cond0_2 i) :
    sout0_B_0 c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero hz]
  unfold k0_pay3
  simp only [View.readAt_eq_ld, h3.read_unread, h4.read_unread, h6.read_unread, View.ld_unit_zero (S := S1024x1024) hz,
    View.ld_unit_zero (S := S1024x1408) hz, shapeCast_self]

/-- The last one adds its product too. -/
theorem last (hc0 : ¬cond0_0 i) (hc1 : cond0_1 i) (hc2 : cond0_2 i) :
    sout0_C_0 c i a3 h3 a4 h4 a5 h5 a6 h6 hc0 hc1 hc2 x0 x1 s = addf s (k0_pay1 x0 x1) := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero hz]
  unfold k0_pay3
  simp only [View.readAt_eq_ld, h3.read_unread, h4.read_unread, h6.read_unread, View.ld_unit_zero (S := S1024x1024) hz,
    View.ld_unit_zero (S := S1024x1408) hz, shapeCast_self]

/-- … and writes what it leaves. -/
theorem written (hc0 : ¬cond0_0 i) (hc1 : cond0_1 i) (hc2 : cond0_2 i) :
    out0_C_2 c i a3 h3 a4 h4 a5 h5 a6 h6 hc0 hc1 hc2 x0 x1 s = (addf s (k0_pay1 x0 x1) : FVec Ideal S1024x1408 .f32) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz, View.readCov_unit_zero (S := S1024x1408) _ hz]
  unfold k0_pay4 k0_pay3
  simp only [View.readAt_eq_ld, h3.read_unread, h4.read_unread, h6.read_unread, View.ld_unit_zero (S := S1024x1024) hz,
    View.ld_unit_zero (S := S1024x1408) hz, shapeCast_self]
  rfl
end

/-! ## Where each window's block lies -/

theorem where0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem where1 : ∀ t : Fin cfg0.N, win0_1.index t (0 : Fin 2) = t.val % 8 ∧ win0_1.index t (1 : Fin 2) = t.val / 8 :=
  (by decide +kernel : ∀ t : Fin grid0.N, win0_1.index t (0 : Fin 2) = t.val % 8 ∧ win0_1.index t (1 : Fin 2) = t.val / 8)
theorem where2 : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)

/-- A point's block's column in the result. -/
def col (t : Fin cfg0.N) (b : Fin 1408) : Fin 2816 :=
  ⟨t.val / 8 * 1408 + b.val, by have := b.isLt; have : t.val < 16 := lt_of_lt_of_eq t.isLt N_0; omega⟩

theorem emb2 (t : Fin cfg0.N) (a : Fin 1024) (b : Fin 1408) : ((cfg0.win 2).blk t).view.emb (ix2 a b) = ix2 a (col t b) := by
  obtain ⟨e0, e1⟩ := where2 t
  refine funext (Fin.forall_fin_two.mpr ⟨Fin.ext ?_, Fin.ext ?_⟩)
  · show win0_2.index t (0 : Fin 2) * 1024 + 1 * a.val = a.val; rw [e0, Nat.one_mul, Nat.zero_mul, Nat.zero_add]
  · show win0_2.index t (1 : Fin 2) * 1408 + 1 * b.val = t.val / 8 * 1408 + b.val; rw [e1, Nat.one_mul]

/-- Every element of the result is one of the block of a run's last point. -/
theorem covered (i : S1024x2816.Idx) : ∃ t : Fin cfg0.N, (cfg0.win 2).flush t = true ∧ i ∈ ((cfg0.win 2).blk t).view.set := by
  have h0 : (i 0).val < 1024 := (i 0).isLt
  have h1 : (i 1).val < 2816 := (i 1).isLt
  obtain ⟨s, hs, hr, hc⟩ : ∃ s, s < 16 ∧ s % 8 = 7 ∧ s / 8 = (i 1).val / 1408 := ⟨(i 1).val / 1408 * 8 + 7, by omega, by omega, by omega⟩
  have e : ix2 (⟨(i 0).val, h0⟩ : Fin 1024) (col ⟨s, lt_of_lt_of_eq hs N_0.symm⟩ ⟨(i 1).val % 1408, Nat.mod_lt _ (by decide)⟩) = i := by
    refine funext (Fin.forall_fin_two.mpr ⟨Fin.ext rfl, Fin.ext ?_⟩)
    show s / 8 * 1408 + (i 1).val % 1408 = (i 1).val
    omega
  refine ⟨⟨s, lt_of_lt_of_eq hs N_0.symm⟩, (flush0_2 _).mpr hr, ?_⟩
  rw [← e, ← emb2]
  exact ((cfg0.win 2).blk _).view.emb_mem_set _

/-! ## The whole array -/

variable (m : (ℓ : Loc nD τ sig) → Buf (Elt Ideal) ℓ) (c : Dev nD)

/-- The launch finds its operands as launched: the narrower format holds the same reals. -/
theorem V_main_v0 : V m c main_v0 = (m ((c : Thread nD τ).loc main_arg0) : Mat 8192 1024) := by
  unfold V
  simp only [hostOps0]
  after_results_simp
  rfl
theorem V_main_v1 : V m c main_v1 = (m ((c : Thread nD τ).loc main_arg1) : Mat 8192 2816) := by
  unfold V
  simp only [hostOps0]
  after_results_simp
  rfl

/-- The gradient the launch leaves. -/
def res : Mat 1024 2816 := prodL (m ((c : Thread nD τ).loc main_arg0) : Mat 8192 1024) (m ((c : Thread nD τ).loc main_arg1) : Mat 8192 2816)

theorem iblk0 (t : Fin cfg0.N) (k a : Fin 1024) :
    iblk m c 0 t (ix2 k a) = el (m ((c : Thread nD τ).loc main_arg0) : Mat 8192 1024) (t.val % 8 * 1024 + k.val) a.val := by
  obtain ⟨e0, e1⟩ := where0 t
  refine (congrFun (V_main_v0 m c) _).trans (el_of _ _ ?_ ?_)
  · show win0_0.index t (0 : Fin 2) * 1024 + 1 * k.val = _; rw [e0, Nat.one_mul]
  · show win0_0.index t (1 : Fin 2) * 1024 + 1 * a.val = _; rw [e1, Nat.one_mul, Nat.zero_mul, Nat.zero_add]
theorem iblk1 (t : Fin cfg0.N) (k : Fin 1024) (b : Fin 1408) :
    iblk m c 1 t (ix2 k b) = el (m ((c : Thread nD τ).loc main_arg1) : Mat 8192 2816) (t.val % 8 * 1024 + k.val) (t.val / 8 * 1408 + b.val) := by
  obtain ⟨e0, e1⟩ := where1 t
  refine (congrFun (V_main_v1 m c) _).trans (el_of _ _ ?_ ?_)
  · show win0_1.index t (0 : Fin 2) * 1024 + 1 * k.val = _; rw [e0, Nat.one_mul]
  · show win0_1.index t (1 : Fin 2) * 1408 + 1 * b.val = _; rw [e1, Nat.one_mul]

/-- The terms of a run's sum, at an element of its block. -/
def term (p : ℕ) (y : S1024x1408.Idx) (k : ℕ) : EReal :=
  el (m ((c : Thread nD τ).loc main_arg0) : Mat 8192 1024) k (y 0).val
    * el (m ((c : Thread nD τ).loc main_arg1) : Mat 8192 2816) k (p * 1408 + (y 1).val)

/-- A point's product is its terms. -/
theorem point (t : Fin cfg0.N) (y : S1024x1408.Idx) :
    k0_pay1 (iblk m c 0 t) (iblk m c 1 t) y = ∑ k ∈ range 1024, term m c (t.val / 8) y (t.val % 8 * 1024 + k) := by
  obtain ⟨a, b, rfl⟩ : ∃ a b, y = ix2 a b := ⟨_, _, eq_ix2 y⟩
  rw [Finset.sum_range]
  exact (pay1_apply (iblk m c 0 t) (iblk m c 1 t) a b).trans
    (Finset.sum_congr rfl fun k _ => congrArg₂ (· * ·) (iblk0 m c t k a) (iblk1 m c t k b))

/-- After each point stand the terms so far. -/
theorem after (n : ℕ) (h : n < cfg0.N) (y : S1024x1408.Idx) :
    (outsAt0 m c n h).2 y = (∑ k ∈ range ((n % 8 + 1) * 1024), term m c (n / 8) y k) + 0 := by
  refine run_sum (q := 8) (by decide) (fun n h => (outsAt0 m c n h).2) (term m c) (fun _ _ => 0) (fun n h h0 y => ?_) (fun n h h0 y => ?_) n h y
  · rw [outsAt0_A m c ⟨n, h⟩ h0 (by dsimp only; omega) (by dsimp only; omega)]
    dsimp only
    rw [first, point, add_zero]
    dsimp only
    rw [h0]
    simp only [Nat.zero_mul, Nat.zero_add]
  · by_cases h7 : n % 8 = 7
    · rw [outsAt0_C m c ⟨n, h⟩ h0 (by dsimp only; omega) h7]
      dsimp only
      rw [last]
      exact congrArg (_ + ·) (point m c ⟨n, h⟩ y)
    · rw [outsAt0_B m c ⟨n, h⟩ h0 (by dsimp only; omega) h7]
      dsimp only
      rw [later]
      exact congrArg (_ + ·) (point m c ⟨n, h⟩ y)

/-- What a run's last point writes is what it leaves. -/
theorem out_eq (t : Fin cfg0.N) (h7 : t.val % 8 = 7) (y : S1024x1408.Idx) : (outsAt0 m c t.val t.isLt).1 y = (outsAt0 m c t.val t.isLt).2 y := by
  rw [outsAt0_C m c t (by omega) (by omega) h7]
  dsimp only
  rw [written, last]

/-- A run's last point writes the gradient's elements. -/
theorem block (t : Fin cfg0.N) (h7 : t.val % 8 = 7) (a : Fin 1024) (b : Fin 1408) :
    (outsAt0 m c t.val t.isLt).1 (ix2 a b) = res m c (ix2 a (col t b)) := by
  rw [out_eq m c t h7, after, h7, add_zero]
  unfold res
  rw [prodL_el]
  exact Finset.sum_congr (congrArg range (by norm_num)) fun k _ => rfl

/-- A block's elements are an array's, read through the window. -/
theorem through (t : Fin cfg0.N) (o : Vec Ideal S1024x1408 .bf16) (g : Vec Ideal S1024x2816 .bf16)
    (h : ∀ (a : Fin 1024) (b : Fin 1408), o (ix2 a b) = g (ix2 a (col t b))) :
    (cfg0.win 2).cut (grid0.coords t) o = ((cfg0.win 2).blk t).view.read (Elt Ideal) g := by
  funext j
  obtain ⟨a, b, rfl⟩ : ∃ a b, j = ix2 a b := ⟨_, _, eq_ix2 j⟩
  show o (ix2 a b) = g (((cfg0.win 2).blk t).view.emb (ix2 a b))
  rw [emb2]
  exact h a b

theorem final : (dats m 0 c).arrAt 2 cfg0.N = res m c :=
  (dats m 0 c).arrAt_eq_of_cover 2 (res m c)
    (fun t hf => (Value.flushed2 m c t).trans (through t _ (res m c) (block m c t ((flush0_2 t).mp hf)))) covered

end Cert.Kernel4Ideal.Tiles
-- ==== Proof.Tiles.GateDx.lean ====
/- The launch of an input's gradient, the contraction added up in place by pairs of points, leaves the product whole. -/
module

public import proofs.«01_k».proof.Proof.Gen.Kernel5Ideal.Value
public import Idealize.ShloMosaic.Lib.Pipeline.ValueKit.Basic
public import proofs.«01_k».proof.Proof.Tiles.Sum

@[expose] public section

set_option maxRecDepth 8192

noncomputable section

namespace Cert.Kernel5Ideal.Tiles

open Cert.Kernel5Ideal Cert.Kernel5Ideal.Gen Cert.Gate Cert.Tiles Finset
open Idealize.ShloMosaic Idealize.ShloMosaic.TcCoe Idealize.ShloMosaic.ValueIdx Idealize.SL.Sem

theorem hz : (![0, 0] : Fin 2 → ℕ) = fun _ => 0 := View.eq_zero_of_forall (by decide)

/-! ## One point -/

theorem pay1_apply (x0 x1 : Vec Ideal S1024x1408 .bf16) (a b : Fin 1024) :
    k0_pay1 x0 x1 (ix2 a b) = ∑ k : Fin 1408, x0 (ix2 a k) * x1 (ix2 b k) := by
  show FloatOps.matmul (DotDims.transposedRhs 1024 1408 1024) none
    (shapeCast S1024x1408 x0 shapeCasts_S1024x1408_S1024x1408 : FVec Ideal S1024x1408 .bf16)
    (shapeCast S1024x1408 x1 shapeCasts_S1024x1408_S1024x1408 : FVec Ideal S1024x1408 .bf16) (constant S1024x1024 .f32 0x00000000#32) (ix2 a b) = _
  rw [shapeCast_self, shapeCast_self]
  exact tile_prodT x0 x1 a b

section
variable (c : Dev nD) (i : grid0.Coords) (a3 : Memref sig .tc .vmem S1024x1408 .bf16) (h3 : a3.IsWhole) (a4 : Memref sig .tc .vmem S1024x1408 .bf16)
  (h4 : a4.IsWhole) (a5 : Memref sig .tc .vmem S1024x1024 .f32) (h5 : a5.IsWhole)
  (x0 x1 : Vec Ideal S1024x1408 .bf16) (s : Vec Ideal S1024x1024 .f32)

/-- A pair's first point leaves its product. -/
theorem first (hc0 : cond0_0 i) (hc1 : ¬cond0_1 i) : out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S1024x1408) hz]

/-- The second adds its product. -/
theorem later (hc0 : ¬cond0_0 i) (hc1 : cond0_1 i) : out0_B_2 c i a3 h3 a4 h4 a5 h5 hc0 hc1 x0 x1 s = addf s (k0_pay1 x0 x1) := by
  unfold out0_B_2
  rw [View.read_writes_eq_canon _ _ _ (cover0_B_2 c i a3 h3 a4 h4 a5 h5 hc0 hc1 x0 x1 s)]
  unfold kernelRun0_B
  dsimp only
  rw [View.canon_unit_zero hz]
  unfold k0_pay2
  simp only [View.readAt_eq_ld, h3.read_unread, h4.read_unread, h5.read_unread, View.ld_unit_zero (S := S1024x1408) hz,
    View.ld_unit_zero (S := S1024x1024) hz, shapeCast_self]
end

/-! ## Where each window's block lies -/

theorem where0 : ∀ t : Fin cfg0.N, win0_0.index t (0 : Fin 2) = t.val / 2 ∧ win0_0.index t (1 : Fin 2) = t.val % 2 :=
  (by decide +kernel : ∀ t : Fin grid0.N, win0_0.index t (0 : Fin 2) = t.val / 2 ∧ win0_0.index t (1 : Fin 2) = t.val % 2)
theorem where1 : ∀ t : Fin cfg0.N, win0_1.index t (0 : Fin 2) = 0 ∧ win0_1.index t (1 : Fin 2) = t.val % 2 :=
  (by decide +kernel : ∀ t : Fin grid0.N, win0_1.index t (0 : Fin 2) = 0 ∧ win0_1.index t (1 : Fin 2) = t.val % 2)
theorem where2 : ∀ t : Fin cfg0.N, win0_2.index t (0 : Fin 2) = t.val / 2 ∧ win0_2.index t (1 : Fin 2) = 0 :=
  (by decide +kernel : ∀ t : Fin grid0.N, win0_2.index t (0 : Fin 2) = t.val / 2 ∧ win0_2.index t (1 : Fin 2) = 0)

/-- A point's block's row in the result. -/
def row (t : Fin cfg0.N) (a : Fin 1024) : Fin 8192 :=
  ⟨t.val / 2 * 1024 + a.val, by have := a.isLt; have : t.val < 16 := lt_of_lt_of_eq t.isLt N_0; omega⟩

theorem emb2 (t : Fin cfg0.N) (a b : Fin 1024) : ((cfg0.win 2).blk t).view.emb (ix2 a b) = ix2 (row t a) b := by
  obtain ⟨e0, e1⟩ := where2 t
  refine funext (Fin.forall_fin_two.mpr ⟨Fin.ext ?_, Fin.ext ?_⟩)
  · show win0_2.index t (0 : Fin 2) * 1024 + 1 * a.val = t.val / 2 * 1024 + a.val; rw [e0, Nat.one_mul]
  · show win0_2.index t (1 : Fin 2) * 1024 + 1 * b.val = b.val; rw [e1, Nat.one_mul, Nat.zero_mul, Nat.zero_add]

/-- Every element of the result is one of the block of a pair's second point. -/
theorem covered (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  obtain ⟨s, hs, hr, hc⟩ : ∃ s, s < 16 ∧ s % 2 = 1 ∧ s / 2 = (i 0).val / 1024 := ⟨(i 0).val / 1024 * 2 + 1, by omega, by omega, by omega⟩
  have e : ix2 (row ⟨s, lt_of_lt_of_eq hs N_0.symm⟩ ⟨(i 0).val % 1024, Nat.mod_lt _ (by decide)⟩) (⟨(i 1).val, h1⟩ : Fin 1024) = i := by
    refine funext (Fin.forall_fin_two.mpr ⟨Fin.ext ?_, Fin.ext rfl⟩)
    show s / 2 * 1024 + (i 0).val % 1024 = (i 0).val
    omega
  refine ⟨⟨s, lt_of_lt_of_eq hs N_0.symm⟩, (flush0_2 _).mpr hr, ?_⟩
  rw [← e, ← emb2]
  exact ((cfg0.win 2).blk _).view.emb_mem_set _

/-! ## The whole array -/

variable (m : (ℓ : Loc nD τ sig) → Buf (Elt Ideal) ℓ) (c : Dev nD)

/-- The launch finds its operands as launched: the narrower format holds the same reals. -/
theorem V_main_v0 : V m c main_v0 = (m ((c : Thread nD τ).loc main_arg0) : Mat 8192 2816) := by
  unfold V
  simp only [hostOps0]
  after_results_simp
  rfl
theorem V_main_v1 : V m c main_v1 = (m ((c : Thread nD τ).loc main_arg1) : Mat 1024 2816) := by
  unfold V
  simp only [hostOps0]
  after_results_simp
  rfl

/-- The gradient the launch leaves. -/
def res : Mat 8192 1024 := prodT (m ((c : Thread nD τ).loc main_arg0) : Mat 8192 2816) (m ((c : Thread nD τ).loc main_arg1) : Mat 1024 2816)

theorem iblk0 (t : Fin cfg0.N) (a : Fin 1024) (k : Fin 1408) :
    iblk m c 0 t (ix2 a k) = el (m ((c : Thread nD τ).loc main_arg0) : Mat 8192 2816) (t.val / 2 * 1024 + a.val) (t.val % 2 * 1408 + k.val) := by
  obtain ⟨e0, e1⟩ := where0 t
  refine (congrFun (V_main_v0 m c) _).trans (el_of _ _ ?_ ?_)
  · show win0_0.index t (0 : Fin 2) * 1024 + 1 * a.val = _; rw [e0, Nat.one_mul]
  · show win0_0.index t (1 : Fin 2) * 1408 + 1 * k.val = _; rw [e1, Nat.one_mul]
theorem iblk1 (t : Fin cfg0.N) (b : Fin 1024) (k : Fin 1408) :
    iblk m c 1 t (ix2 b k) = el (m ((c : Thread nD τ).loc main_arg1) : Mat 1024 2816) b.val (t.val % 2 * 1408 + k.val) := by
  obtain ⟨e0, e1⟩ := where1 t
  refine (congrFun (V_main_v1 m c) _).trans (el_of _ _ ?_ ?_)
  · show win0_1.index t (0 : Fin 2) * 1024 + 1 * b.val = _; rw [e0, Nat.one_mul, Nat.zero_mul, Nat.zero_add]
  · show win0_1.index t (1 : Fin 2) * 1408 + 1 * k.val = _; rw [e1, Nat.one_mul]

/-- The terms of a pair's sum, at an element of its block. -/
def term (p : ℕ) (y : S1024x1024.Idx) (k : ℕ) : EReal :=
  el (m ((c : Thread nD τ).loc main_arg0) : Mat 8192 2816) (p * 1024 + (y 0).val) k
    * el (m ((c : Thread nD τ).loc main_arg1) : Mat 1024 2816) (y 1).val k

/-- A point's product is its terms. -/
theorem point (t : Fin cfg0.N) (y : S1024x1024.Idx) :
    k0_pay1 (iblk m c 0 t) (iblk m c 1 t) y = ∑ k ∈ range 1408, term m c (t.val / 2) y (t.val % 2 * 1408 + k) := by
  obtain ⟨a, b, rfl⟩ : ∃ a b, y = ix2 a b := ⟨_, _, eq_ix2 y⟩
  rw [Finset.sum_range]
  exact (pay1_apply (iblk m c 0 t) (iblk m c 1 t) a b).trans
    (Finset.sum_congr rfl fun k _ => congrArg₂ (· * ·) (iblk0 m c t a k) (iblk1 m c t b k))

/-- After each point stand the terms so far. -/
theorem after (n : ℕ) (h : n < cfg0.N) (y : S1024x1024.Idx) :
    outsAt0 m c n h y = (∑ k ∈ range ((n % 2 + 1) * 1408), term m c (n / 2) y k) + 0 := by
  refine run_sum (q := 2) (by decide) (fun n h => outsAt0 m c n h) (term m c) (fun _ _ => 0) (fun n h h0 y => ?_) (fun n h h0 y => ?_) n h y
  · rw [outsAt0_A m c ⟨n, h⟩ h0 (by dsimp only; omega), first, point, add_zero]
    dsimp only
    rw [h0]
    simp only [Nat.zero_mul, Nat.zero_add]
  · rw [outsAt0_B m c ⟨n, h⟩ h0 (by dsimp only; omega), later]
    exact congrArg (_ + ·) (point m c ⟨n, h⟩ y)

/-- A pair's second point leaves the gradient's elements. -/
theorem block (t : Fin cfg0.N) (h1 : t.val % 2 = 1) (a b : Fin 1024) : outsAt0 m c t.val t.isLt (ix2 a b) = res m c (ix2 (row t a) b) := by
  rw [after, h1, add_zero]
  unfold res
  rw [prodT_el]
  exact Finset.sum_congr (congrArg range (by norm_num)) fun k _ => rfl

/-- A block's elements are an array's, read through the window. -/
theorem through (t : Fin cfg0.N) (o : Vec Ideal S1024x1024 .f32) (g : Vec Ideal S8192x1024 .f32)
    (h : ∀ a b : Fin 1024, o (ix2 a b) = g (ix2 (row t a) b)) :
    (cfg0.win 2).cut (grid0.coords t) o = ((cfg0.win 2).blk t).view.read (Elt Ideal) g := by
  funext j
  obtain ⟨a, b, rfl⟩ : ∃ a b, j = ix2 a b := ⟨_, _, eq_ix2 j⟩
  show o (ix2 a b) = g (((cfg0.win 2).blk t).view.emb (ix2 a b))
  rw [emb2]
  exact h a b

theorem final : (dats m 0 c).arrAt 2 cfg0.N = res m c :=
  (dats m 0 c).arrAt_eq_of_cover 2 (res m c)
    (fun t hf => (Value.flushed2 m c t).trans (through t _ (res m c) (block m c t ((flush0_2 t).mp hf)))) covered

end Cert.Kernel5Ideal.Tiles
-- ==== Proof.Tiles.DownDw.lean ====
/- The launch of the second weight's gradient, which narrows an operand itself, leaves the product whole. -/
module

public import proofs.«01_k».proof.Proof.Gen.Kernel6Ideal.Value
public import Idealize.ShloMosaic.Lib.Pipeline.ValueKit.Basic
public import proofs.«01_k».proof.Proof.Tiles.Sum

@[expose] public section

set_option maxRecDepth 8192

noncomputable section

namespace Cert.Kernel6Ideal.Tiles

open Cert.Kernel6Ideal Cert.Kernel6Ideal.Gen Cert.Gate Cert.Tiles Finset
open Idealize.ShloMosaic Idealize.ShloMosaic.TcCoe Idealize.ShloMosaic.ValueIdx Idealize.SL.Sem

theorem hz : (![0, 0] : Fin 2 → ℕ) = fun _ => 0 := View.eq_zero_of_forall (by decide)

/-! ## One point -/

theorem pay1_apply (x0 : Vec Ideal S1024x1408 .bf16) (x1 : Vec Ideal S1024x1024 .f32) (a : Fin 1408) (b : Fin 1024) :
    k0_pay1 x0 x1 (ix2 a b) = ∑ k : Fin 1024, x0 (ix2 k a) * x1 (ix2 k b) := by
  show FloatOps.matmul (DotDims.plain 1408 1024 1024) none
    (transpose S1408x1024 [1, 0] (shapeCast S1024x1408 x0 shapeCasts_S1024x1408_S1024x1408) transposes_S1024x1408_p1_0_S1408x1024 : FVec Ideal S1408x1024 .bf16)
    (truncf .bf16 x1 bitsLt_bf16_f32) (constant S1408x1024 .f32 0x00000000#32) (ix2 a b) = _
  rw [shapeCast_self]
  exact tile_prodL x0 (truncf .bf16 x1 bitsLt_bf16_f32) transposes_S1024x1408_p1_0_S1408x1024 a b

section
variable (c : Dev nD) (i : grid0.Coords) (a3 : Memref sig .tc .vmem S1024x1408 .bf16) (h3 : a3.IsWhole) (a4 : Memref sig .tc .vmem S1024x1024 .f32)
  (h4 : a4.IsWhole) (a5 : Memref sig .tc .vmem S1408x1024 .bf16) (h5 : a5.IsWhole) (a6 : Memref sig .tc .vmem S1408x1024 .f32) (h6 : a6.IsWhole)
  (x0 : Vec Ideal S1024x1408 .bf16) (x1 : Vec Ideal S1024x1024 .f32) (s : Vec Ideal S1408x1024 .f32)

/-- A run's first point leaves its product. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1024x1024) hz, View.ld_unit_zero (S := S1024x1408) hz,
    View.ld_unit_zero (S := S1408x1024) hz, shapeCast_self]

/-- A later one adds its product. -/
theorem later (hc0 : ¬cond0_0 i) (hc1 : cond0_1 i) (hc2 : ¬cond0_2 i) :
    sout0_B_0 c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero hz]
  unfold k0_pay3
  simp only [View.readAt_eq_ld, h3.read_unread, h4.read_unread, h6.read_unread, View.ld_unit_zero (S := S1024x1024) hz,
    View.ld_unit_zero (S := S1024x1408) hz, View.ld_unit_zero (S := S1408x1024) hz, shapeCast_self]

/-- The last one adds its product too. -/
theorem last (hc0 : ¬cond0_0 i) (hc1 : cond0_1 i) (hc2 : cond0_2 i) :
    sout0_C_0 c i a3 h3 a4 h4 a5 h5 a6 h6 hc0 hc1 hc2 x0 x1 s = addf s (k0_pay1 x0 x1) := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero hz]
  unfold k0_pay3
  simp only [View.readAt_eq_ld, h3.read_unread, h4.read_unread, h6.read_unread, View.ld_unit_zero (S := S1024x1024) hz,
    View.ld_unit_zero (S := S1024x1408) hz, View.ld_unit_zero (S := S1408x1024) hz, shapeCast_self]

/-- … and writes what it leaves. -/
theorem written (hc0 : ¬cond0_0 i) (hc1 : cond0_1 i) (hc2 : cond0_2 i) :
    out0_C_2 c i a3 h3 a4 h4 a5 h5 a6 h6 hc0 hc1 hc2 x0 x1 s = (addf s (k0_pay1 x0 x1) : FVec Ideal S1408x1024 .f32) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz, View.readCov_unit_zero (S := S1408x1024) _ hz]
  unfold k0_pay4 k0_pay3
  simp only [View.readAt_eq_ld, h3.read_unread, h4.read_unread, h6.read_unread, View.ld_unit_zero (S := S1024x1024) hz,
    View.ld_unit_zero (S := S1024x1408) hz, View.ld_unit_zero (S := S1408x1024) hz, shapeCast_self]
  rfl
end

/-! ## Where each window's block lies -/

theorem where0 : ∀ t : Fin cfg0.N, win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8)
theorem where1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem where2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- A point's block's row in the result. -/
def row (t : Fin cfg0.N) (a : Fin 1408) : Fin 2816 :=
  ⟨t.val / 8 * 1408 + a.val, by have := a.isLt; have : t.val < 16 := lt_of_lt_of_eq t.isLt N_0; omega⟩

theorem emb2 (t : Fin cfg0.N) (a : Fin 1408) (b : Fin 1024) : ((cfg0.win 2).blk t).view.emb (ix2 a b) = ix2 (row t a) b := by
  obtain ⟨e0, e1⟩ := where2 t
  refine funext (Fin.forall_fin_two.mpr ⟨Fin.ext ?_, Fin.ext ?_⟩)
  · show win0_2.index t (0 : Fin 2) * 1408 + 1 * a.val = t.val / 8 * 1408 + a.val; rw [e0, Nat.one_mul]
  · show win0_2.index t (1 : Fin 2) * 1024 + 1 * b.val = b.val; rw [e1, Nat.one_mul, Nat.zero_mul, Nat.zero_add]

/-- Every element of the result is one of the block of a run's last point. -/
theorem covered (i : S2816x1024.Idx) : ∃ t : Fin cfg0.N, (cfg0.win 2).flush t = true ∧ i ∈ ((cfg0.win 2).blk t).view.set := by
  have h0 : (i 0).val < 2816 := (i 0).isLt
  have h1 : (i 1).val < 1024 := (i 1).isLt
  obtain ⟨s, hs, hr, hc⟩ : ∃ s, s < 16 ∧ s % 8 = 7 ∧ s / 8 = (i 0).val / 1408 := ⟨(i 0).val / 1408 * 8 + 7, by omega, by omega, by omega⟩
  have e : ix2 (row ⟨s, lt_of_lt_of_eq hs N_0.symm⟩ ⟨(i 0).val % 1408, Nat.mod_lt _ (by decide)⟩) (⟨(i 1).val, h1⟩ : Fin 1024) = i := by
    refine funext (Fin.forall_fin_two.mpr ⟨Fin.ext ?_, Fin.ext rfl⟩)
    show s / 8 * 1408 + (i 0).val % 1408 = (i 0).val
    omega
  refine ⟨⟨s, lt_of_lt_of_eq hs N_0.symm⟩, (flush0_2 _).mpr hr, ?_⟩
  rw [← e, ← emb2]
  exact ((cfg0.win 2).blk _).view.emb_mem_set _

/-! ## The whole array -/

variable (m : (ℓ : Loc nD τ sig) → Buf (Elt Ideal) ℓ) (c : Dev nD)

/-- The launch finds its first operand as launched: the narrower format holds the same reals. -/
theorem V_main_v0 : V m c main_v0 = (m ((c : Thread nD τ).loc main_arg0) : Mat 8192 2816) := by
  unfold V
  simp only [hostOps0]
  after_results_simp
  rfl

/-- The gradient the launch leaves. -/
def res : Mat 2816 1024 := prodL (m ((c : Thread nD τ).loc main_arg0) : Mat 8192 2816) (m ((c : Thread nD τ).loc main_arg1) : Mat 8192 1024)

theorem iblk0 (t : Fin cfg0.N) (k : Fin 1024) (a : Fin 1408) :
    iblk m c 0 t (ix2 k a) = el (m ((c : Thread nD τ).loc main_arg0) : Mat 8192 2816) (t.val % 8 * 1024 + k.val) (t.val / 8 * 1408 + a.val) := by
  obtain ⟨e0, e1⟩ := where0 t
  refine (congrFun (V_main_v0 m c) _).trans (el_of _ _ ?_ ?_)
  · show win0_0.index t (0 : Fin 2) * 1024 + 1 * k.val = _; rw [e0, Nat.one_mul]
  · show win0_0.index t (1 : Fin 2) * 1408 + 1 * a.val = _; rw [e1, Nat.one_mul]
theorem iblk1 (t : Fin cfg0.N) (k b : Fin 1024) :
    iblk m c 1 t (ix2 k b) = el (m ((c : Thread nD τ).loc main_arg1) : Mat 8192 1024) (t.val % 8 * 1024 + k.val) b.val := by
  obtain ⟨e0, e1⟩ := where1 t
  refine (congrFun (V_main_arg1 m c) _).trans (el_of _ _ ?_ ?_)
  · show win0_1.index t (0 : Fin 2) * 1024 + 1 * k.val = _; rw [e0, Nat.one_mul]
  · show win0_1.index t (1 : Fin 2) * 1024 + 1 * b.val = _; rw [e1, Nat.one_mul, Nat.zero_mul, Nat.zero_add]

/-- The terms of a run's sum, at an element of its block. -/
def term (p : ℕ) (y : S1408x1024.Idx) (k : ℕ) : EReal :=
  el (m ((c : Thread nD τ).loc main_arg0) : Mat 8192 2816) k (p * 1408 + (y 0).val)
    * el (m ((c : Thread nD τ).loc main_arg1) : Mat 8192 1024) k (y 1).val

/-- A point's product is its terms. -/
theorem point (t : Fin cfg0.N) (y : S1408x1024.Idx) :
    k0_pay1 (iblk m c 0 t) (iblk m c 1 t) y = ∑ k ∈ range 1024, term m c (t.val / 8) y (t.val % 8 * 1024 + k) := by
  obtain ⟨a, b, rfl⟩ : ∃ a b, y = ix2 a b := ⟨_, _, eq_ix2 y⟩
  rw [Finset.sum_range]
  exact (pay1_apply (iblk m c 0 t) (iblk m c 1 t) a b).trans
    (Finset.sum_congr rfl fun k _ => congrArg₂ (· * ·) (iblk0 m c t k a) (iblk1 m c t k b))

/-- After each point stand the terms so far. -/
theorem after (n : ℕ) (h : n < cfg0.N) (y : S1408x1024.Idx) :
    (outsAt0 m c n h).2 y = (∑ k ∈ range ((n % 8 + 1) * 1024), term m c (n / 8) y k) + 0 := by
  refine run_sum (q := 8) (by decide) (fun n h => (outsAt0 m c n h).2) (term m c) (fun _ _ => 0) (fun n h h0 y => ?_) (fun n h h0 y => ?_) n h y
  · rw [outsAt0_A m c ⟨n, h⟩ h0 (by dsimp only; omega) (by dsimp only; omega)]
    dsimp only
    rw [first, point, add_zero]
    dsimp only
    rw [h0]
    simp only [Nat.zero_mul, Nat.zero_add]
  · by_cases h7 : n % 8 = 7
    · rw [outsAt0_C m c ⟨n, h⟩ h0 (by dsimp only; omega) h7]
      dsimp only
      rw [last]
      exact congrArg (_ + ·) (point m c ⟨n, h⟩ y)
    · rw [outsAt0_B m c ⟨n, h⟩ h0 (by dsimp only; omega) h7]
      dsimp only
      rw [later]
      exact congrArg (_ + ·) (point m c ⟨n, h⟩ y)

/-- What a run's last point writes is what it leaves. -/
theorem out_eq (t : Fin cfg0.N) (h7 : t.val % 8 = 7) (y : S1408x1024.Idx) : (outsAt0 m c t.val t.isLt).1 y = (outsAt0 m c t.val t.isLt).2 y := by
  rw [outsAt0_C m c t (by omega) (by omega) h7]
  dsimp only
  rw [written, last]

/-- A run's last point writes the gradient's elements. -/
theorem block (t : Fin cfg0.N) (h7 : t.val % 8 = 7) (a : Fin 1408) (b : Fin 1024) :
    (outsAt0 m c t.val t.isLt).1 (ix2 a b) = res m c (ix2 (row t a) b) := by
  rw [out_eq m c t h7, after, h7, add_zero]
  unfold res
  rw [prodL_el]
  exact Finset.sum_congr (congrArg range (by norm_num)) fun k _ => rfl

/-- A block's elements are an array's, read through the window. -/
theorem through (t : Fin cfg0.N) (o : Vec Ideal S1408x1024 .bf16) (g : Vec Ideal S2816x1024 .bf16)
    (h : ∀ (a : Fin 1408) (b : Fin 1024), o (ix2 a b) = g (ix2 (row t a) b)) :
    (cfg0.win 2).cut (grid0.coords t) o = ((cfg0.win 2).blk t).view.read (Elt Ideal) g := by
  funext j
  obtain ⟨a, b, rfl⟩ : ∃ a b, j = ix2 a b := ⟨_, _, eq_ix2 j⟩
  show o (ix2 a b) = g (((cfg0.win 2).blk t).view.emb (ix2 a b))
  rw [emb2]
  exact h a b

theorem final : (dats m 0 c).arrAt 2 cfg0.N = res m c :=
  (dats m 0 c).arrAt_eq_of_cover 2 (res m c)
    (fun t hf => (Value.flushed2 m c t).trans (through t _ (res m c) (block m c t ((flush0_2 t).mp hf)))) covered

end Cert.Kernel6Ideal.Tiles
-- ==== Proof.Tiles.Down.lean ====
/- The launch of the channel mixer's second half, added up in place by pairs of points, leaves the product and the residual. -/
module

public import proofs.«01_k».proof.Proof.Gen.Kernel7Ideal.Value
public import Idealize.ShloMosaic.Lib.Pipeline.ValueKit.Basic
public import proofs.«01_k».proof.Proof.Tiles.Sum

@[expose] public section

set_option maxRecDepth 8192

noncomputable section

namespace Cert.Kernel7Ideal.Tiles

open Cert.Kernel7Ideal Cert.Kernel7Ideal.Gen Cert.Gate Cert.Tiles Finset
open Idealize.ShloMosaic Idealize.ShloMosaic.TcCoe Idealize.ShloMosaic.ValueIdx Idealize.SL.Sem

theorem hz : (![0, 0] : Fin 2 → ℕ) = fun _ => 0 := View.eq_zero_of_forall (by decide)

/-! ## One point -/

theorem pay1_apply (x0 : Vec Ideal S1024x1408 .bf16) (x1 : Vec Ideal S1408x1024 .bf16) (a b : Fin 1024) :
    k0_pay1 x0 x1 (ix2 a b) = ∑ k : Fin 1408, x0 (ix2 a k) * x1 (ix2 k b) := by
  show FloatOps.matmul (DotDims.plain 1024 1408 1024) none
    (shapeCast S1024x1408 x0 shapeCasts_S1024x1408_S1024x1408 : FVec Ideal S1024x1408 .bf16)
    (shapeCast S1408x1024 x1 shapeCasts_S1408x1024_S1408x1024 : FVec Ideal S1408x1024 .bf16) (constant S1024x1024 .f32 0x00000000#32) (ix2 a b) = _
  rw [shapeCast_self, shapeCast_self]
  exact tile_prod x0 x1 a b

section
variable (c : Dev nD) (i : grid0.Coords) (a3 : Memref sig .tc .vmem S1024x1408 .bf16) (h3 : a3.IsWhole) (a4 : Memref sig .tc .vmem S1408x1024 .bf16)
  (h4 : a4.IsWhole) (a5 : Memref sig .tc .vmem S1024x1024 .f32) (h5 : a5.IsWhole) (a6 : Memref sig .tc .vmem S1024x1024 .f32) (h6 : a6.IsWhole)
  (x0 : Vec Ideal S1024x1408 .bf16) (x1 : Vec Ideal S1408x1024 .bf16) (x2 s : Vec Ideal S1024x1024 .f32)

/-- A pair's first point leaves its product and the residual. -/
theorem first (hc0 : cond0_0 i) (hc1 : ¬cond0_1 i) :
    out0_A_3 c i a3 h3 a4 h4 a5 h5 a6 h6 hc0 hc1 x0 x1 x2 = addf (k0_pay1 x0 x1) x2 := by
  unfold out0_A_3
  rw [View.read_writes_eq_canon _ _ _ (cover0_A_3 c i a3 h3 a4 h4 a5 h5 a6 h6 hc0 hc1 x0 x1 x2)]
  unfold kernelRun0_A
  dsimp only
  rw [View.canon_unit_zero hz]
  unfold k0_pay2
  simp only [View.readAt_eq_ld, h3.read_unread, h4.read_unread, h5.read_unread, View.ld_unit_zero (S := S1024x1408) hz,
    View.ld_unit_zero (S := S1408x1024) hz, View.ld_unit_zero (S := S1024x1024) hz]

/-- The second adds its product. -/
theorem later (hc0 : ¬cond0_0 i) (hc1 : cond0_1 i) :
    out0_B_3 c i a3 h3 a4 h4 a5 h5 a6 h6 hc0 hc1 x0 x1 x2 s = addf s (k0_pay1 x0 x1) := by
  unfold out0_B_3
  rw [View.read_writes_eq_canon _ _ _ (cover0_B_3 c i a3 h3 a4 h4 a5 h5 a6 h6 hc0 hc1 x0 x1 x2 s)]
  unfold kernelRun0_B
  dsimp only
  rw [View.canon_unit_zero hz]
  unfold k0_pay3
  simp only [View.readAt_eq_ld, h3.read_unread, h4.read_unread, h6.read_unread, View.ld_unit_zero (S := S1024x1408) hz,
    View.ld_unit_zero (S := S1408x1024) hz, View.ld_unit_zero (S := S1024x1024) hz, shapeCast_self]
end

/-! ## Where each window's block lies -/

theorem where0 : ∀ t : Fin cfg0.N, win0_0.index t (0 : Fin 2) = t.val / 2 ∧ win0_0.index t (1 : Fin 2) = t.val % 2 :=
  (by decide +kernel : ∀ t : Fin grid0.N, win0_0.index t (0 : Fin 2) = t.val / 2 ∧ win0_0.index t (1 : Fin 2) = t.val % 2)
theorem where1 : ∀ t : Fin cfg0.N, win0_1.index t (0 : Fin 2) = t.val % 2 ∧ win0_1.index t (1 : Fin 2) = 0 :=
  (by decide +kernel : ∀ t : Fin grid0.N, win0_1.index t (0 : Fin 2) = t.val % 2 ∧ win0_1.index t (1 : Fin 2) = 0)
theorem where2 : ∀ t : Fin cfg0.N, win0_2.index t (0 : Fin 2) = t.val / 2 ∧ win0_2.index t (1 : Fin 2) = 0 :=
  (by decide +kernel : ∀ t : Fin grid0.N, win0_2.index t (0 : Fin 2) = t.val / 2 ∧ win0_2.index t (1 : Fin 2) = 0)
theorem where3 : ∀ t : Fin cfg0.N, win0_3.index t (0 : Fin 2) = t.val / 2 ∧ win0_3.index t (1 : Fin 2) = 0 :=
  (by decide +kernel : ∀ t : Fin grid0.N, win0_3.index t (0 : Fin 2) = t.val / 2 ∧ win0_3.index t (1 : Fin 2) = 0)

/-- A point's block's row in the result. -/
def row (t : Fin cfg0.N) (a : Fin 1024) : Fin 8192 :=
  ⟨t.val / 2 * 1024 + a.val, by have := a.isLt; have : t.val < 16 := lt_of_lt_of_eq t.isLt N_0; omega⟩

theorem emb3 (t : Fin cfg0.N) (a b : Fin 1024) : ((cfg0.win 3).blk t).view.emb (ix2 a b) = ix2 (row t a) b := by
  obtain ⟨e0, e1⟩ := where3 t
  refine funext (Fin.forall_fin_two.mpr ⟨Fin.ext ?_, Fin.ext ?_⟩)
  · show win0_3.index t (0 : Fin 2) * 1024 + 1 * a.val = t.val / 2 * 1024 + a.val; rw [e0, Nat.one_mul]
  · show win0_3.index t (1 : Fin 2) * 1024 + 1 * b.val = b.val; rw [e1, Nat.one_mul, Nat.zero_mul, Nat.zero_add]

/-- Every element of the result is one of the block of a pair's second point. -/
theorem covered (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  obtain ⟨s, hs, hr, hc⟩ : ∃ s, s < 16 ∧ s % 2 = 1 ∧ s / 2 = (i 0).val / 1024 := ⟨(i 0).val / 1024 * 2 + 1, by omega, by omega, by omega⟩
  have e : ix2 (row ⟨s, lt_of_lt_of_eq hs N_0.symm⟩ ⟨(i 0).val % 1024, Nat.mod_lt _ (by decide)⟩) (⟨(i 1).val, h1⟩ : Fin 1024) = i := by
    refine funext (Fin.forall_fin_two.mpr ⟨Fin.ext ?_, Fin.ext rfl⟩)
    show s / 2 * 1024 + (i 0).val % 1024 = (i 0).val
    omega
  refine ⟨⟨s, lt_of_lt_of_eq hs N_0.symm⟩, (flush0_3 _).mpr hr, ?_⟩
  rw [← e, ← emb3]
  exact ((cfg0.win 3).blk _).view.emb_mem_set _

/-! ## The whole array -/

variable (m : (ℓ : Loc nD τ sig) → Buf (Elt Ideal) ℓ) (c : Dev nD)

/-- The launch finds its operands as launched: the narrower format holds the same reals. -/
theorem V_main_v0 : V m c main_v0 = (m ((c : Thread nD τ).loc main_arg0) : Mat 8192 2816) := by
  unfold V
  simp only [hostOps0]
  after_results_simp
  rfl
theorem V_main_v1 : V m c main_v1 = (m ((c : Thread nD τ).loc main_arg1) : Mat 2816 1024) := by
  unfold V
  simp only [hostOps0]
  after_results_simp
  rfl

/-- The sum the launch leaves. -/
def res : Mat 8192 1024 :=
  onto (m ((c : Thread nD τ).loc main_arg2) : Mat 8192 1024) (m ((c : Thread nD τ).loc main_arg0) : Mat 8192 2816)
    (m ((c : Thread nD τ).loc main_arg1) : Mat 2816 1024)

theorem iblk0 (t : Fin cfg0.N) (a : Fin 1024) (k : Fin 1408) :
    iblk m c 0 t (ix2 a k) = el (m ((c : Thread nD τ).loc main_arg0) : Mat 8192 2816) (t.val / 2 * 1024 + a.val) (t.val % 2 * 1408 + k.val) := by
  obtain ⟨e0, e1⟩ := where0 t
  refine (congrFun (V_main_v0 m c) _).trans (el_of _ _ ?_ ?_)
  · show win0_0.index t (0 : Fin 2) * 1024 + 1 * a.val = _; rw [e0, Nat.one_mul]
  · show win0_0.index t (1 : Fin 2) * 1408 + 1 * k.val = _; rw [e1, Nat.one_mul]
theorem iblk1 (t : Fin cfg0.N) (k : Fin 1408) (b : Fin 1024) :
    iblk m c 1 t (ix2 k b) = el (m ((c : Thread nD τ).loc main_arg1) : Mat 2816 1024) (t.val % 2 * 1408 + k.val) b.val := by
  obtain ⟨e0, e1⟩ := where1 t
  refine (congrFun (V_main_v1 m c) _).trans (el_of _ _ ?_ ?_)
  · show win0_1.index t (0 : Fin 2) * 1408 + 1 * k.val = _; rw [e0, Nat.one_mul]
  · show win0_1.index t (1 : Fin 2) * 1024 + 1 * b.val = _; rw [e1, Nat.one_mul, Nat.zero_mul, Nat.zero_add]

/-- The residual, at an element of a pair's block. -/
def rest (p : ℕ) (y : S1024x1024.Idx) : EReal := el (m ((c : Thread nD τ).loc main_arg2) : Mat 8192 1024) (p * 1024 + (y 0).val) (y 1).val

theorem iblk2 (t : Fin cfg0.N) (y : S1024x1024.Idx) : iblk m c 2 t y = rest m c (t.val / 2) y := by
  obtain ⟨e0, e1⟩ := where2 t
  refine (congrFun (V_main_arg2 m c) _).trans (el_of _ _ ?_ ?_)
  · show win0_2.index t (0 : Fin 2) * 1024 + 1 * (y 0).val = _; rw [e0, Nat.one_mul]
  · show win0_2.index t (1 : Fin 2) * 1024 + 1 * (y 1).val = _; rw [e1, Nat.one_mul, Nat.zero_mul, Nat.zero_add]

/-- The terms of a pair's sum, at an element of its block. -/
def term (p : ℕ) (y : S1024x1024.Idx) (k : ℕ) : EReal :=
  el (m ((c : Thread nD τ).loc main_arg0) : Mat 8192 2816) (p * 1024 + (y 0).val) k
    * el (m ((c : Thread nD τ).loc main_arg1) : Mat 2816 1024) k (y 1).val

/-- A point's product is its terms. -/
theorem point (t : Fin cfg0.N) (y : S1024x1024.Idx) :
    k0_pay1 (iblk m c 0 t) (iblk m c 1 t) y = ∑ k ∈ range 1408, term m c (t.val / 2) y (t.val % 2 * 1408 + k) := by
  obtain ⟨a, b, rfl⟩ : ∃ a b, y = ix2 a b := ⟨_, _, eq_ix2 y⟩
  rw [Finset.sum_range]
  exact (pay1_apply (iblk m c 0 t) (iblk m c 1 t) a b).trans
    (Finset.sum_congr rfl fun k _ => congrArg₂ (· * ·) (iblk0 m c t a k) (iblk1 m c t k b))

/-- After each point stand the residual and the terms so far. -/
theorem after (n : ℕ) (h : n < cfg0.N) (y : S1024x1024.Idx) :
    outsAt0 m c n h y = (∑ k ∈ range ((n % 2 + 1) * 1408), term m c (n / 2) y k) + rest m c (n / 2) y := by
  refine run_sum (q := 2) (by decide) (fun n h => outsAt0 m c n h) (term m c) (rest m c) (fun n h h0 y => ?_) (fun n h h0 y => ?_) n h y
  · rw [outsAt0_A m c ⟨n, h⟩ h0 (by dsimp only; omega), first]
    show k0_pay1 (iblk m c 0 ⟨n, h⟩) (iblk m c 1 ⟨n, h⟩) y + iblk m c 2 ⟨n, h⟩ y = _
    rw [point, iblk2]
    dsimp only
    rw [h0]
    simp only [Nat.zero_mul, Nat.zero_add]
  · rw [outsAt0_B m c ⟨n, h⟩ h0 (by dsimp only; omega), later]
    exact congrArg (_ + ·) (point m c ⟨n, h⟩ y)

/-- A pair's second point leaves the sum's elements. -/
theorem block (t : Fin cfg0.N) (h1 : t.val % 2 = 1) (a b : Fin 1024) : outsAt0 m c t.val t.isLt (ix2 a b) = res m c (ix2 (row t a) b) := by
  rw [after, h1, add_comm]
  unfold res onto
  rw [prod_el]
  exact congrArg₂ (· + ·) (el_ix2 _ (row t a) b) (Finset.sum_congr (congrArg range (by norm_num)) fun k _ => rfl)

/-- A block's elements are an array's, read through the window. -/
theorem through (t : Fin cfg0.N) (o : Vec Ideal S1024x1024 .f32) (g : Vec Ideal S8192x1024 .f32)
    (h : ∀ a b : Fin 1024, o (ix2 a b) = g (ix2 (row t a) b)) :
    (cfg0.win 3).cut (grid0.coords t) o = ((cfg0.win 3).blk t).view.read (Elt Ideal) g := by
  funext j
  obtain ⟨a, b, rfl⟩ : ∃ a b, j = ix2 a b := ⟨_, _, eq_ix2 j⟩
  show o (ix2 a b) = g (((cfg0.win 3).blk t).view.emb (ix2 a b))
  rw [emb3]
  exact h a b

theorem final : (dats m 0 c).arrAt 3 cfg0.N = res m c :=
  (dats m 0 c).arrAt_eq_of_cover 3 (res m c)
    (fun t hf => (Value.flushed3 m c t).trans (through t _ (res m c) (block m c t ((flush0_3 t).mp hf)))) covered

end Cert.Kernel7Ideal.Tiles
-- ==== Proof.Tiles.Qkv.lean ====
/- The launch of the attention's input product leaves the product whole. -/
module

public import proofs.«01_k».proof.Proof.Gen.Kernel8Ideal.Value
public import Idealize.ShloMosaic.Lib.Pipeline.ValueKit.Basic
public import proofs.«01_k».proof.Proof.Tiles.Sum

@[expose] public section

set_option maxRecDepth 8192

noncomputable section

namespace Cert.Kernel8Ideal.Tiles

open Cert.Kernel8Ideal Cert.Kernel8Ideal.Gen Cert.Gate Cert.Tiles
open Idealize.ShloMosaic Idealize.ShloMosaic.TcCoe Idealize.ShloMosaic.ValueIdx Idealize.SL.Sem

/-! ## One block -/

theorem pay1_apply (x0 : Vec Ideal S1024x1024 .bf16) (x1 : Vec Ideal S1024x1536 .bf16) (a : Fin 1024) (b : Fin 1536) :
    k0_pay1 x0 x1 (ix2 a b) = ∑ k : Fin 1024, x0 (ix2 a k) * x1 (ix2 k b) := by
  show FloatOps.matmul (DotDims.plain 1024 1024 1536) none (shapeCast S1024x1024 x0 shapeCasts_S1024x1024_S1024x1024 : FVec Ideal S1024x1024 .bf16)
    (shapeCast S1024x1536 x1 shapeCasts_S1024x1536_S1024x1536 : FVec Ideal S1024x1536 .bf16) (constant S1024x1536 .f32 0x00000000#32) (ix2 a b) = _
  rw [shapeCast_self, shapeCast_self]
  exact tile_prod x0 x1 a b

theorem out_eq (x0 : Vec Ideal S1024x1024 .bf16) (x1 : Vec Ideal S1024x1536 .bf16) : out0_2 x0 x1 = k0_pay1 x0 x1 := by
  unfold out0_2
  rw [View.canon_unit_zero (View.eq_zero_of_forall (by decide)), View.ld_unit_lit _ _ (by decide), View.ld_unit_lit _ _ (by decide)]

/-! ## Where each window's block lies -/

theorem where0 : ∀ t : Fin cfg0.N, win0_0.index t (0 : Fin 2) = t.val / 2 ∧ win0_0.index t (1 : Fin 2) = 0 :=
  (by decide +kernel : ∀ t : Fin grid0.N, win0_0.index t (0 : Fin 2) = t.val / 2 ∧ win0_0.index t (1 : Fin 2) = 0)
theorem where1 : ∀ t : Fin cfg0.N, win0_1.index t (0 : Fin 2) = 0 ∧ win0_1.index t (1 : Fin 2) = t.val % 2 :=
  (by decide +kernel : ∀ t : Fin grid0.N, win0_1.index t (0 : Fin 2) = 0 ∧ win0_1.index t (1 : Fin 2) = t.val % 2)
theorem where2 : ∀ t : Fin cfg0.N, win0_2.index t (0 : Fin 2) = t.val / 2 ∧ win0_2.index t (1 : Fin 2) = t.val % 2 :=
  (by decide +kernel : ∀ t : Fin grid0.N, win0_2.index t (0 : Fin 2) = t.val / 2 ∧ win0_2.index t (1 : Fin 2) = t.val % 2)

/-- A point's block's row and column in the whole array. -/
def row (t : Fin cfg0.N) (a : Fin 1024) : Fin 8192 :=
  ⟨t.val / 2 * 1024 + a.val, by have := a.isLt; have : t.val < 16 := lt_of_lt_of_eq t.isLt N_0; omega⟩
def col (t : Fin cfg0.N) (b : Fin 1536) : Fin 3072 := ⟨t.val % 2 * 1536 + b.val, by have := b.isLt; omega⟩

theorem emb0 (t : Fin cfg0.N) (a k : Fin 1024) : ((cfg0.win 0).blk t).view.emb (ix2 a k) = ix2 (row t a) k := by
  obtain ⟨e0, e1⟩ := where0 t
  refine funext (Fin.forall_fin_two.mpr ⟨Fin.ext ?_, Fin.ext ?_⟩)
  · show win0_0.index t (0 : Fin 2) * 1024 + 1 * a.val = t.val / 2 * 1024 + a.val; rw [e0, Nat.one_mul]
  · show win0_0.index t (1 : Fin 2) * 1024 + 1 * k.val = k.val; rw [e1, Nat.one_mul, Nat.zero_mul, Nat.zero_add]
theorem emb1 (t : Fin cfg0.N) (k : Fin 1024) (b : Fin 1536) : ((cfg0.win 1).blk t).view.emb (ix2 k b) = ix2 k (col t b) := by
  obtain ⟨e0, e1⟩ := where1 t
  refine funext (Fin.forall_fin_two.mpr ⟨Fin.ext ?_, Fin.ext ?_⟩)
  · show win0_1.index t (0 : Fin 2) * 1024 + 1 * k.val = k.val; rw [e0, Nat.one_mul, Nat.zero_mul, Nat.zero_add]
  · show win0_1.index t (1 : Fin 2) * 1536 + 1 * b.val = t.val % 2 * 1536 + b.val; rw [e1, Nat.one_mul]
theorem emb2 (t : Fin cfg0.N) (a : Fin 1024) (b : Fin 1536) : ((cfg0.win 2).blk t).view.emb (ix2 a b) = ix2 (row t a) (col t b) := by
  obtain ⟨e0, e1⟩ := where2 t
  refine funext (Fin.forall_fin_two.mpr ⟨Fin.ext ?_, Fin.ext ?_⟩)
  · show win0_2.index t (0 : Fin 2) * 1024 + 1 * a.val = t.val / 2 * 1024 + a.val; rw [e0, Nat.one_mul]
  · show win0_2.index t (1 : Fin 2) * 1536 + 1 * b.val = t.val % 2 * 1536 + b.val; rw [e1, Nat.one_mul]

theorem flush2 : ∀ t : Fin cfg0.N, (cfg0.win 2).flush t = true :=
  (by decide +kernel : ∀ t : Fin grid0.N, win0_2.flush t = true)

/-- Every element of the product is one of a point's block. -/
theorem covered (i : S8192x3072.Idx) : ∃ t : Fin cfg0.N, (cfg0.win 2).flush t = true ∧ i ∈ ((cfg0.win 2).blk t).view.set := by
  have h0 : (i 0).val < 8192 := (i 0).isLt
  have h1 : (i 1).val < 3072 := (i 1).isLt
  obtain ⟨s, hs, hr, hc⟩ : ∃ s, s < 16 ∧ s / 2 = (i 0).val / 1024 ∧ s % 2 = (i 1).val / 1536 :=
    ⟨(i 0).val / 1024 * 2 + (i 1).val / 1536, by omega, by omega, by omega⟩
  have e : ix2 (row ⟨s, lt_of_lt_of_eq hs N_0.symm⟩ ⟨(i 0).val % 1024, Nat.mod_lt _ (by decide)⟩)
      (col ⟨s, lt_of_lt_of_eq hs N_0.symm⟩ ⟨(i 1).val % 1536, Nat.mod_lt _ (by decide)⟩) = i := by
    refine funext (Fin.forall_fin_two.mpr ⟨Fin.ext ?_, Fin.ext ?_⟩)
    · show s / 2 * 1024 + (i 0).val % 1024 = (i 0).val
      omega
    · show s % 2 * 1536 + (i 1).val % 1536 = (i 1).val
      omega
  refine ⟨⟨s, lt_of_lt_of_eq hs N_0.symm⟩, flush2 _, ?_⟩
  rw [← e, ← emb2]
  exact ((cfg0.win 2).blk _).view.emb_mem_set _

/-! ## The whole array -/

variable (m : (ℓ : Loc nD τ sig) → Buf (Elt Ideal) ℓ) (c : Dev nD)

/-- The launch finds its operands as launched: the narrower format holds the same reals. -/
theorem V_main_v0 : V m c main_v0 = (m ((c : Thread nD τ).loc main_arg0) : Mat 8192 1024) := by
  unfold V
  simp only [hostOps0]
  after_results_simp
  rfl
theorem V_main_v1 : V m c main_v1 = (m ((c : Thread nD τ).loc main_arg1) : Mat 1024 3072) := by
  unfold V
  simp only [hostOps0]
  after_results_simp
  rfl

/-- The product the launch leaves. -/
def res : Mat 8192 3072 := prod (m ((c : Thread nD τ).loc main_arg0) : Mat 8192 1024) (m ((c : Thread nD τ).loc main_arg1) : Mat 1024 3072)

theorem iblk0 (t : Fin cfg0.N) (a k : Fin 1024) :
    iblk m c 0 t (ix2 a k) = (m ((c : Thread nD τ).loc main_arg0) : Mat 8192 1024) (ix2 (row t a) k) :=
  (congrFun (V_main_v0 m c) _).trans (congrArg (m ((c : Thread nD τ).loc main_arg0) : Mat 8192 1024) (emb0 t a k))
theorem iblk1 (t : Fin cfg0.N) (k : Fin 1024) (b : Fin 1536) :
    iblk m c 1 t (ix2 k b) = (m ((c : Thread nD τ).loc main_arg1) : Mat 1024 3072) (ix2 k (col t b)) :=
  (congrFun (V_main_v1 m c) _).trans (congrArg (m ((c : Thread nD τ).loc main_arg1) : Mat 1024 3072) (emb1 t k b))

/-- A point's block is the product's elements there. -/
theorem block (t : Fin cfg0.N) (a : Fin 1024) (b : Fin 1536) :
    k0_pay1 (iblk m c 0 t) (iblk m c 1 t) (ix2 a b) = res m c (ix2 (row t a) (col t b)) := by
  refine (pay1_apply (iblk m c 0 t) (iblk m c 1 t) a b).trans ?_
  unfold res prod
  exact Finset.sum_congr rfl fun k _ => congrArg₂ (· * ·) (iblk0 m c t a k) (iblk1 m c t k b)

/-- A block's elements are an array's, read through the window. -/
theorem through (t : Fin cfg0.N) (o : Vec Ideal S1024x1536 .f32) (g : Vec Ideal S8192x3072 .f32)
    (h : ∀ (a : Fin 1024) (b : Fin 1536), o (ix2 a b) = g (ix2 (row t a) (col t b))) :
    (cfg0.win 2).cut (grid0.coords t) o = ((cfg0.win 2).blk t).view.read (Elt Ideal) g := by
  funext j
  obtain ⟨a, b, rfl⟩ : ∃ a b, j = ix2 a b := ⟨_, _, eq_ix2 j⟩
  show o (ix2 a b) = g (((cfg0.win 2).blk t).view.emb (ix2 a b))
  rw [emb2]
  exact h a b

theorem final : (dats m 0 c).arrAt 2 cfg0.N = res m c := by
  refine (dats m 0 c).arrAt_eq_of_cover 2 (res m c) (fun t _ => (Value.flushed2 m c t).trans ?_) covered
  rw [out_eq]
  exact through t _ (res m c) (block m c t)

end Cert.Kernel8Ideal.Tiles
-- ==== Proof.Tiles.QkvDw.lean ====
/- The launch of the gradient of the attention's input matrix, tokens added up by eights of points, leaves it whole. -/
module

public import proofs.«01_k».proof.Proof.Gen.Kernel9Ideal.Value
public import Idealize.ShloMosaic.Lib.Pipeline.ValueKit.Basic
public import proofs.«01_k».proof.Proof.Tiles.Sum

@[expose] public section

set_option maxRecDepth 8192

noncomputable section

namespace Cert.Kernel9Ideal.Tiles

open Cert.Kernel9Ideal Cert.Kernel9Ideal.Gen Cert.Gate Cert.Tiles Finset
open Idealize.ShloMosaic Idealize.ShloMosaic.TcCoe Idealize.ShloMosaic.ValueIdx Idealize.SL.Sem

theorem hz : (![0, 0] : Fin 2 → ℕ) = fun _ => 0 := View.eq_zero_of_forall (by decide)

/-! ## One point -/

theorem pay1_apply (x0 : Vec Ideal S1024x1024 .bf16) (x1 : Vec Ideal S1024x1536 .bf16) (a : Fin 1024) (b : Fin 1536) :
    k0_pay1 x0 x1 (ix2 a b) = ∑ k : Fin 1024, x0 (ix2 k a) * x1 (ix2 k b) := by
  show FloatOps.matmul (DotDims.plain 1024 1024 1536) none
    (transpose S1024x1024 [1, 0] (shapeCast S1024x1024 x0 shapeCasts_S1024x1024_S1024x1024) transposes_S1024x1024_p1_0_S1024x1024 : FVec Ideal S1024x1024 .bf16)
    (shapeCast S1024x1536 x1 shapeCasts_S1024x1536_S1024x1536 : FVec Ideal S1024x1536 .bf16) (constant S1024x1536 .f32 0x00000000#32) (ix2 a b) = _
  rw [shapeCast_self, shapeCast_self]
  exact tile_prodL x0 x1 transposes_S1024x1024_p1_0_S1024x1024 a b

section
variable (c : Dev nD) (i : grid0.Coords) (a3 : Memref sig .tc .vmem S1024x1024 .bf16) (h3 : a3.IsWhole) (a4 : Memref sig .tc .vmem S1024x1536 .bf16)
  (h4 : a4.IsWhole) (a5 : Memref sig .tc .vmem S1024x1536 .bf16) (h5 : a5.IsWhole) (a6 : Memref sig .tc .vmem S1024x1536 .f32) (h6 : a6.IsWhole)
  (x0 : Vec Ideal S1024x1024 .bf16) (x1 : Vec Ideal S1024x1536 .bf16) (s : Vec Ideal S1024x1536 .f32)

/-- A run's first point leaves its product. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1024x1024) hz, View.ld_unit_zero (S := S1024x1536) hz,
    shapeCast_self]

/-- A later one adds its product. -/
theorem later (hc0 : ¬cond0_0 i) (hc1 : cond0_1 i) (hc2 : ¬cond0_2 i) :
    sout0_B_0 c i a3 h3 a4 h4 a5 h5 a6 h6 hc0 hc1 hc2 x0 x1 s = addf s (k0_pay1 x0 x1) := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero hz]
  unfold k0_pay3
  simp only [View.readAt_eq_ld, h3.read_unread, h4.read_unread, h6.read_unread, View.ld_unit_zero (S := S1024x1024) hz,
    View.ld_unit_zero (S := S1024x1536) hz, shapeCast_self]

/-- The last one adds its product too. -/
theorem last (hc0 : ¬cond0_0 i) (hc1 : cond0_1 i) (hc2 : cond0_2 i) :
    sout0_C_0 c i a3 h3 a4 h4 a5 h5 a6 h6 hc0 hc1 hc2 x0 x1 s = addf s (k0_pay1 x0 x1) := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero hz]
  unfold k0_pay3
  simp only [View.readAt_eq_ld, h3.read_unread, h4.read_unread, h6.read_unread, View.ld_unit_zero (S := S1024x1024) hz,
    View.ld_unit_zero (S := S1024x1536) hz, shapeCast_self]

/-- … and writes what it leaves. -/
theorem written (hc0 : ¬cond0_0 i) (hc1 : cond0_1 i) (hc2 : cond0_2 i) :
    out0_C_2 c i a3 h3 a4 h4 a5 h5 a6 h6 hc0 hc1 hc2 x0 x1 s = (addf s (k0_pay1 x0 x1) : FVec Ideal S1024x1536 .f32) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz, View.readCov_unit_zero (S := S1024x1536) _ hz]
  unfold k0_pay4 k0_pay3
  simp only [View.readAt_eq_ld, h3.read_unread, h4.read_unread, h6.read_unread, View.ld_unit_zero (S := S1024x1024) hz,
    View.ld_unit_zero (S := S1024x1536) hz, shapeCast_self]
  rfl
end

/-! ## Where each window's block lies -/

theorem where0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem where1 : ∀ t : Fin cfg0.N, win0_1.index t (0 : Fin 2) = t.val % 8 ∧ win0_1.index t (1 : Fin 2) = t.val / 8 :=
  (by decide +kernel : ∀ t : Fin grid0.N, win0_1.index t (0 : Fin 2) = t.val % 8 ∧ win0_1.index t (1 : Fin 2) = t.val / 8)
theorem where2 : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)

/-- A point's block's column in the result. -/
def col (t : Fin cfg0.N) (b : Fin 1536) : Fin 3072 :=
  ⟨t.val / 8 * 1536 + b.val, by have := b.isLt; have : t.val < 16 := lt_of_lt_of_eq t.isLt N_0; omega⟩

theorem emb2 (t : Fin cfg0.N) (a : Fin 1024) (b : Fin 1536) : ((cfg0.win 2).blk t).view.emb (ix2 a b) = ix2 a (col t b) := by
  obtain ⟨e0, e1⟩ := where2 t
  refine funext (Fin.forall_fin_two.mpr ⟨Fin.ext ?_, Fin.ext ?_⟩)
  · show win0_2.index t (0 : Fin 2) * 1024 + 1 * a.val = a.val; rw [e0, Nat.one_mul, Nat.zero_mul, Nat.zero_add]
  · show win0_2.index t (1 : Fin 2) * 1536 + 1 * b.val = t.val / 8 * 1536 + b.val; rw [e1, Nat.one_mul]

/-- Every element of the result is one of the block of a run's last point. -/
theorem covered (i : S1024x3072.Idx) : ∃ t : Fin cfg0.N, (cfg0.win 2).flush t = true ∧ i ∈ ((cfg0.win 2).blk t).view.set := by
  have h0 : (i 0).val < 1024 := (i 0).isLt
  have h1 : (i 1).val < 3072 := (i 1).isLt
  obtain ⟨s, hs, hr, hc⟩ : ∃ s, s < 16 ∧ s % 8 = 7 ∧ s / 8 = (i 1).val / 1536 := ⟨(i 1).val / 1536 * 8 + 7, by omega, by omega, by omega⟩
  have e : ix2 (⟨(i 0).val, h0⟩ : Fin 1024) (col ⟨s, lt_of_lt_of_eq hs N_0.symm⟩ ⟨(i 1).val % 1536, Nat.mod_lt _ (by decide)⟩) = i := by
    refine funext (Fin.forall_fin_two.mpr ⟨Fin.ext rfl, Fin.ext ?_⟩)
    show s / 8 * 1536 + (i 1).val % 1536 = (i 1).val
    omega
  refine ⟨⟨s, lt_of_lt_of_eq hs N_0.symm⟩, (flush0_2 _).mpr hr, ?_⟩
  rw [← e, ← emb2]
  exact ((cfg0.win 2).blk _).view.emb_mem_set _

/-! ## The whole array -/

variable (m : (ℓ : Loc nD τ sig) → Buf (Elt Ideal) ℓ) (c : Dev nD)

/-- The launch finds its operands as launched: the narrower format holds the same reals. -/
theorem V_main_v0 : V m c main_v0 = (m ((c : Thread nD τ).loc main_arg0) : Mat 8192 1024) := by
  unfold V
  simp only [hostOps0]
  after_results_simp
  rfl
theorem V_main_v1 : V m c main_v1 = (m ((c : Thread nD τ).loc main_arg1) : Mat 8192 3072) := by
  unfold V
  simp only [hostOps0]
  after_results_simp
  rfl

/-- The gradient the launch leaves. -/
def res : Mat 1024 3072 := prodL (m ((c : Thread nD τ).loc main_arg0) : Mat 8192 1024) (m ((c : Thread nD τ).loc main_arg1) : Mat 8192 3072)

theorem iblk0 (t : Fin cfg0.N) (k a : Fin 1024) :
    iblk m c 0 t (ix2 k a) = el (m ((c : Thread nD τ).loc main_arg0) : Mat 8192 1024) (t.val % 8 * 1024 + k.val) a.val := by
  obtain ⟨e0, e1⟩ := where0 t
  refine (congrFun (V_main_v0 m c) _).trans (el_of _ _ ?_ ?_)
  · show win0_0.index t (0 : Fin 2) * 1024 + 1 * k.val = _; rw [e0, Nat.one_mul]
  · show win0_0.index t (1 : Fin 2) * 1024 + 1 * a.val = _; rw [e1, Nat.one_mul, Nat.zero_mul, Nat.zero_add]
theorem iblk1 (t : Fin cfg0.N) (k : Fin 1024) (b : Fin 1536) :
    iblk m c 1 t (ix2 k b) = el (m ((c : Thread nD τ).loc main_arg1) : Mat 8192 3072) (t.val % 8 * 1024 + k.val) (t.val / 8 * 1536 + b.val) := by
  obtain ⟨e0, e1⟩ := where1 t
  refine (congrFun (V_main_v1 m c) _).trans (el_of _ _ ?_ ?_)
  · show win0_1.index t (0 : Fin 2) * 1024 + 1 * k.val = _; rw [e0, Nat.one_mul]
  · show win0_1.index t (1 : Fin 2) * 1536 + 1 * b.val = _; rw [e1, Nat.one_mul]

/-- The terms of a run's sum, at an element of its block. -/
def term (p : ℕ) (y : S1024x1536.Idx) (k : ℕ) : EReal :=
  el (m ((c : Thread nD τ).loc main_arg0) : Mat 8192 1024) k (y 0).val
    * el (m ((c : Thread nD τ).loc main_arg1) : Mat 8192 3072) k (p * 1536 + (y 1).val)

/-- A point's product is its terms. -/
theorem point (t : Fin cfg0.N) (y : S1024x1536.Idx) :
    k0_pay1 (iblk m c 0 t) (iblk m c 1 t) y = ∑ k ∈ range 1024, term m c (t.val / 8) y (t.val % 8 * 1024 + k) := by
  obtain ⟨a, b, rfl⟩ : ∃ a b, y = ix2 a b := ⟨_, _, eq_ix2 y⟩
  rw [Finset.sum_range]
  exact (pay1_apply (iblk m c 0 t) (iblk m c 1 t) a b).trans
    (Finset.sum_congr rfl fun k _ => congrArg₂ (· * ·) (iblk0 m c t k a) (iblk1 m c t k b))

/-- After each point stand the terms so far. -/
theorem after (n : ℕ) (h : n < cfg0.N) (y : S1024x1536.Idx) :
    (outsAt0 m c n h).2 y = (∑ k ∈ range ((n % 8 + 1) * 1024), term m c (n / 8) y k) + 0 := by
  refine run_sum (q := 8) (by decide) (fun n h => (outsAt0 m c n h).2) (term m c) (fun _ _ => 0) (fun n h h0 y => ?_) (fun n h h0 y => ?_) n h y
  · rw [outsAt0_A m c ⟨n, h⟩ h0 (by dsimp only; omega) (by dsimp only; omega)]
    dsimp only
    rw [first, point, add_zero]
    dsimp only
    rw [h0]
    simp only [Nat.zero_mul, Nat.zero_add]
  · by_cases h7 : n % 8 = 7
    · rw [outsAt0_C m c ⟨n, h⟩ h0 (by dsimp only; omega) h7]
      dsimp only
      rw [last]
      exact congrArg (_ + ·) (point m c ⟨n, h⟩ y)
    · rw [outsAt0_B m c ⟨n, h⟩ h0 (by dsimp only; omega) h7]
      dsimp only
      rw [later]
      exact congrArg (_ + ·) (point m c ⟨n, h⟩ y)

/-- What a run's last point writes is what it leaves. -/
theorem out_eq (t : Fin cfg0.N) (h7 : t.val % 8 = 7) (y : S1024x1536.Idx) : (outsAt0 m c t.val t.isLt).1 y = (outsAt0 m c t.val t.isLt).2 y := by
  rw [outsAt0_C m c t (by omega) (by omega) h7]
  dsimp only
  rw [written, last]

/-- A run's last point writes the gradient's elements. -/
theorem block (t : Fin cfg0.N) (h7 : t.val % 8 = 7) (a : Fin 1024) (b : Fin 1536) :
    (outsAt0 m c t.val t.isLt).1 (ix2 a b) = res m c (ix2 a (col t b)) := by
  rw [out_eq m c t h7, after, h7, add_zero]
  unfold res
  rw [prodL_el]
  exact Finset.sum_congr (congrArg range (by norm_num)) fun k _ => rfl

/-- A block's elements are an array's, read through the window. -/
theorem through (t : Fin cfg0.N) (o : Vec Ideal S1024x1536 .bf16) (g : Vec Ideal S1024x3072 .bf16)
    (h : ∀ (a : Fin 1024) (b : Fin 1536), o (ix2 a b) = g (ix2 a (col t b))) :
    (cfg0.win 2).cut (grid0.coords t) o = ((cfg0.win 2).blk t).view.read (Elt Ideal) g := by
  funext j
  obtain ⟨a, b, rfl⟩ : ∃ a b, j = ix2 a b := ⟨_, _, eq_ix2 j⟩
  show o (ix2 a b) = g (((cfg0.win 2).blk t).view.emb (ix2 a b))
  rw [emb2]
  exact h a b

theorem final : (dats m 0 c).arrAt 2 cfg0.N = res m c :=
  (dats m 0 c).arrAt_eq_of_cover 2 (res m c)
    (fun t hf => (Value.flushed2 m c t).trans (through t _ (res m c) (block m c t ((flush0_2 t).mp hf)))) covered

end Cert.Kernel9Ideal.Tiles
-- ==== Proof.Tiles.Refs.lean ====
/- The references' products are the same arrays as the launches'. -/
module

public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Tiles.Sum

@[expose] public section

noncomputable section

namespace Cert.Reference4Ideal.Tiles

open Cert.Reference4Ideal Cert.Reference4Ideal.Gen Cert.Gate Cert.Tiles
open Idealize.ShloMosaic

theorem eq (x : FVec Ideal S8192x1024 .f32) (d : FVec Ideal S8192x2816 .f32) :
    truncf .bf16 (transpose S1024x2816 [1, 0] (Host.dotGeneral dot_S8192x2816_S8192x1024_S2816x1024_0_0_1_1_n_n none d x)
      transposes_S2816x1024_S1024x2816_1_0) bitsLt_bf16_f32 = prodL (M := 1024) (K := 8192) (N := 2816) x d :=
  funext fun i => host_prodL dot_S8192x2816_S8192x1024_S2816x1024_0_0_1_1_n_n_wf x d transposes_S2816x1024_S1024x2816_1_0 i

end Cert.Reference4Ideal.Tiles

namespace Cert.Reference5Ideal.Tiles

open Cert.Reference5Ideal Cert.Reference5Ideal.Gen Cert.Gate Cert.Tiles
open Idealize.ShloMosaic

theorem eq (d : FVec Ideal S8192x2816 .f32) (w : FVec Ideal S1024x2816 .f32) :
    Host.dotGeneral dot_S8192x2816_S1024x2816_S8192x1024_1_1_0_0_n_n none d w = prodT (M := 8192) (K := 2816) (N := 1024) d w :=
  funext fun i => host_prodT d w i

end Cert.Reference5Ideal.Tiles

namespace Cert.Reference6Ideal.Tiles

open Cert.Reference6Ideal Cert.Reference6Ideal.Gen Cert.Gate Cert.Tiles
open Idealize.ShloMosaic

theorem eq (x : FVec Ideal S8192x2816 .f32) (d : FVec Ideal S8192x1024 .f32) :
    truncf .bf16 (transpose S2816x1024 [1, 0] (Host.dotGeneral dot_S8192x1024_S8192x2816_S1024x2816_0_0_1_1_n_n none d x)
      transposes_S1024x2816_S2816x1024_1_0) bitsLt_bf16_f32 = prodL (M := 2816) (K := 8192) (N := 1024) x d :=
  funext fun i => host_prodL dot_S8192x1024_S8192x2816_S1024x2816_0_0_1_1_n_n_wf x d transposes_S1024x2816_S2816x1024_1_0 i

end Cert.Reference6Ideal.Tiles

namespace Cert.Reference7Ideal.Tiles

open Cert.Reference7Ideal Cert.Reference7Ideal.Gen Cert.Gate Cert.Tiles
open Idealize.ShloMosaic

theorem eq (x : FVec Ideal S8192x2816 .f32) (w : FVec Ideal S2816x1024 .f32) (r : FVec Ideal S8192x1024 .f32) :
    addf r (Host.dotGeneral dot_S8192x2816_S2816x1024_S8192x1024_1_0_0_1_n_n none x w) = onto (M := 8192) (K := 2816) (N := 1024) r x w :=
  funext fun i => congrArg (fun s : EReal => r i + s) (host_prod x w i)

end Cert.Reference7Ideal.Tiles

namespace Cert.Reference8Ideal.Tiles

open Cert.Reference8Ideal Cert.Reference8Ideal.Gen Cert.Gate Cert.Tiles
open Idealize.ShloMosaic

theorem eq (h : FVec Ideal S8192x1024 .f32) (w : FVec Ideal S1024x3072 .f32) :
    Host.dotGeneral dot_S8192x1024_S1024x3072_S8192x3072_1_0_0_1_n_n none h w = prod (M := 8192) (K := 1024) (N := 3072) h w :=
  funext fun i => host_prod h w i

end Cert.Reference8Ideal.Tiles

namespace Cert.Reference9Ideal.Tiles

open Cert.Reference9Ideal Cert.Reference9Ideal.Gen Cert.Gate Cert.Tiles
open Idealize.ShloMosaic

theorem eq (x : FVec Ideal S8192x1024 .f32) (d : FVec Ideal S8192x3072 .f32) :
    truncf .bf16 (transpose S1024x3072 [1, 0] (Host.dotGeneral dot_S8192x3072_S8192x1024_S3072x1024_0_0_1_1_n_n none d x)
      transposes_S3072x1024_S1024x3072_1_0) bitsLt_bf16_f32 = prodL (M := 1024) (K := 8192) (N := 3072) x d :=
  funext fun i => host_prodL dot_S8192x3072_S8192x1024_S3072x1024_0_0_1_1_n_n_wf x d transposes_S3072x1024_S1024x3072_1_0 i

end Cert.Reference9Ideal.Tiles
-- ==== Proof.Tiles.Results.lean ====
/- Each launch of a product and its reference end with the same arrays. -/
module

public import proofs.«01_k».proof.Defs
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Tiles.GateDw
public import proofs.«01_k».proof.Proof.Tiles.GateDx
public import proofs.«01_k».proof.Proof.Tiles.DownDw
public import proofs.«01_k».proof.Proof.Tiles.Down
public import proofs.«01_k».proof.Proof.Tiles.Qkv
public import proofs.«01_k».proof.Proof.Tiles.QkvDw
public import proofs.«01_k».proof.Proof.Tiles.Refs
public import Idealize.ShloMosaic.Adequacy
public import Idealize.ShloMosaic.Init

@[expose] public section

noncomputable section

namespace Cert.Tiles

open Idealize.ShloMosaic Idealize.ShloMosaic.TcCoe Idealize.SL.Sem

/-! ## Each runs, ends quiet, and leaves its arguments -/

theorem frame_p4 : Cert.quiescent_Kernel4 (hKernel4 := Cert.Kernel4.Gen.facts) := fun m g _ => Cert.Kernel4.Gen.frame m g
theorem frame_pi4 : Cert.quiescent_Kernel4Ideal (hKernel4Ideal := Cert.Kernel4Ideal.Gen.facts) := fun m g _ => Cert.Kernel4Ideal.Gen.frame m g
theorem frame_ri4 : Cert.quiescent_Reference4Ideal (hReference4Ideal := Cert.Reference4Ideal.Gen.facts) :=
  fun m g _ => (θ_run Cert.Reference4Ideal.defs _ _).mono
    (fun r h => ⟨fun c => (h c).2, sem_eq_zero_of_no_sems (by decide) r.2⟩) (Cert.Reference4Ideal.Value.run m g)

theorem frame_p5 : Cert.quiescent_Kernel5 (hKernel5 := Cert.Kernel5.Gen.facts) := fun m g _ => Cert.Kernel5.Gen.frame m g
theorem frame_pi5 : Cert.quiescent_Kernel5Ideal (hKernel5Ideal := Cert.Kernel5Ideal.Gen.facts) := fun m g _ => Cert.Kernel5Ideal.Gen.frame m g
theorem frame_ri5 : Cert.quiescent_Reference5Ideal (hReference5Ideal := Cert.Reference5Ideal.Gen.facts) :=
  fun m g _ => (θ_run Cert.Reference5Ideal.defs _ _).mono
    (fun r h => ⟨fun c => (h c).2, sem_eq_zero_of_no_sems (by decide) r.2⟩) (Cert.Reference5Ideal.Value.run m g)

theorem frame_p6 : Cert.quiescent_Kernel6 (hKernel6 := Cert.Kernel6.Gen.facts) := fun m g _ => Cert.Kernel6.Gen.frame m g
theorem frame_pi6 : Cert.quiescent_Kernel6Ideal (hKernel6Ideal := Cert.Kernel6Ideal.Gen.facts) := fun m g _ => Cert.Kernel6Ideal.Gen.frame m g
theorem frame_ri6 : Cert.quiescent_Reference6Ideal (hReference6Ideal := Cert.Reference6Ideal.Gen.facts) :=
  fun m g _ => (θ_run Cert.Reference6Ideal.defs _ _).mono
    (fun r h => ⟨fun c => (h c).2, sem_eq_zero_of_no_sems (by decide) r.2⟩) (Cert.Reference6Ideal.Value.run m g)

theorem frame_p7 : Cert.quiescent_Kernel7 (hKernel7 := Cert.Kernel7.Gen.facts) := fun m g _ => Cert.Kernel7.Gen.frame m g
theorem frame_pi7 : Cert.quiescent_Kernel7Ideal (hKernel7Ideal := Cert.Kernel7Ideal.Gen.facts) := fun m g _ => Cert.Kernel7Ideal.Gen.frame m g
theorem frame_ri7 : Cert.quiescent_Reference7Ideal (hReference7Ideal := Cert.Reference7Ideal.Gen.facts) :=
  fun m g _ => (θ_run Cert.Reference7Ideal.defs _ _).mono
    (fun r h => ⟨fun c => (h c).2, sem_eq_zero_of_no_sems (by decide) r.2⟩) (Cert.Reference7Ideal.Value.run m g)

theorem frame_p8 : Cert.quiescent_Kernel8 (hKernel8 := Cert.Kernel8.Gen.facts) := fun m g _ => Cert.Kernel8.Gen.frame m g
theorem frame_pi8 : Cert.quiescent_Kernel8Ideal (hKernel8Ideal := Cert.Kernel8Ideal.Gen.facts) := fun m g _ => Cert.Kernel8Ideal.Gen.frame m g
theorem frame_ri8 : Cert.quiescent_Reference8Ideal (hReference8Ideal := Cert.Reference8Ideal.Gen.facts) :=
  fun m g _ => (θ_run Cert.Reference8Ideal.defs _ _).mono
    (fun r h => ⟨fun c => (h c).2, sem_eq_zero_of_no_sems (by decide) r.2⟩) (Cert.Reference8Ideal.Value.run m g)

theorem frame_p9 : Cert.quiescent_Kernel9 (hKernel9 := Cert.Kernel9.Gen.facts) := fun m g _ => Cert.Kernel9.Gen.frame m g
theorem frame_pi9 : Cert.quiescent_Kernel9Ideal (hKernel9Ideal := Cert.Kernel9Ideal.Gen.facts) := fun m g _ => Cert.Kernel9Ideal.Gen.frame m g
theorem frame_ri9 : Cert.quiescent_Reference9Ideal (hReference9Ideal := Cert.Reference9Ideal.Gen.facts) :=
  fun m g _ => (θ_run Cert.Reference9Ideal.defs _ _).mono
    (fun r h => ⟨fun c => (h c).2, sem_eq_zero_of_no_sems (by decide) r.2⟩) (Cert.Reference9Ideal.Value.run m g)

/-! ## The results, of any arguments -/

/-- The gradient of a weight of the first half. -/
theorem equal4 : Cert.algebraic_Kernel4Ideal_Reference4Ideal (hKernel4Ideal := Cert.Kernel4Ideal.Gen.facts)
    (hReference4Ideal := Cert.Reference4Ideal.Gen.facts) := by
  intro m g m' g' _ hag
  refine ⟨fun c => Cert.Kernel4Ideal.Tiles.res m c, ?_, ?_⟩
  · exact (θ_run Cert.Kernel4Ideal.defs _ _).mono
      (fun r h c => ⟨(h c).1.trans (Cert.Kernel4Ideal.Tiles.final m c), (h c).2⟩) (Cert.Kernel4Ideal.Value.run_blocks m g)
  · refine (θ_run Cert.Reference4Ideal.defs _ _).mono (fun r h c => ?_) (Cert.Reference4Ideal.Value.run m' g')
    obtain ⟨a0, a1⟩ := hag c
    refine ⟨(h c).1.trans ?_, (h c).2⟩
    rw [a0, a1]
    exact Cert.Reference4Ideal.Tiles.eq _ _

/-- The gradient of an input. -/
theorem equal5 : Cert.algebraic_Kernel5Ideal_Reference5Ideal (hKernel5Ideal := Cert.Kernel5Ideal.Gen.facts)
    (hReference5Ideal := Cert.Reference5Ideal.Gen.facts) := by
  intro m g m' g' _ hag
  refine ⟨fun c => Cert.Kernel5Ideal.Tiles.res m c, ?_, ?_⟩
  · exact (θ_run Cert.Kernel5Ideal.defs _ _).mono
      (fun r h c => ⟨(h c).1.trans (Cert.Kernel5Ideal.Tiles.final m c), (h c).2⟩) (Cert.Kernel5Ideal.Value.run_blocks m g)
  · refine (θ_run Cert.Reference5Ideal.defs _ _).mono (fun r h c => ?_) (Cert.Reference5Ideal.Value.run m' g')
    obtain ⟨a0, a1⟩ := hag c
    refine ⟨(h c).1.trans ?_, (h c).2⟩
    rw [a0, a1]
    exact Cert.Reference5Ideal.Tiles.eq _ _

/-- The gradient of the second half's weight. -/
theorem equal6 : Cert.algebraic_Kernel6Ideal_Reference6Ideal (hKernel6Ideal := Cert.Kernel6Ideal.Gen.facts)
    (hReference6Ideal := Cert.Reference6Ideal.Gen.facts) := by
  intro m g m' g' _ hag
  refine ⟨fun c => Cert.Kernel6Ideal.Tiles.res m c, ?_, ?_⟩
  · exact (θ_run Cert.Kernel6Ideal.defs _ _).mono
      (fun r h c => ⟨(h c).1.trans (Cert.Kernel6Ideal.Tiles.final m c), (h c).2⟩) (Cert.Kernel6Ideal.Value.run_blocks m g)
  · refine (θ_run Cert.Reference6Ideal.defs _ _).mono (fun r h c => ?_) (Cert.Reference6Ideal.Value.run m' g')
    obtain ⟨a0, a1⟩ := hag c
    refine ⟨(h c).1.trans ?_, (h c).2⟩
    rw [a0, a1]
    exact Cert.Reference6Ideal.Tiles.eq _ _

/-- The second half and its residual. -/
theorem equal7 : Cert.algebraic_Kernel7Ideal_Reference7Ideal (hKernel7Ideal := Cert.Kernel7Ideal.Gen.facts)
    (hReference7Ideal := Cert.Reference7Ideal.Gen.facts) := by
  intro m g m' g' _ hag
  refine ⟨fun c => Cert.Kernel7Ideal.Tiles.res m c, ?_, ?_⟩
  · exact (θ_run Cert.Kernel7Ideal.defs _ _).mono
      (fun r h c => ⟨(h c).1.trans (Cert.Kernel7Ideal.Tiles.final m c), (h c).2⟩) (Cert.Kernel7Ideal.Value.run_blocks m g)
  · refine (θ_run Cert.Reference7Ideal.defs _ _).mono (fun r h c => ?_) (Cert.Reference7Ideal.Value.run m' g')
    obtain ⟨a0, a1, a2⟩ := hag c
    refine ⟨(h c).1.trans ?_, (h c).2⟩
    rw [a0, a1, a2]
    exact Cert.Reference7Ideal.Tiles.eq _ _ _

/-- The odd layer's queries, keys and values. -/
theorem equal8 : Cert.algebraic_Kernel8Ideal_Reference8Ideal (hKernel8Ideal := Cert.Kernel8Ideal.Gen.facts)
    (hReference8Ideal := Cert.Reference8Ideal.Gen.facts) := by
  intro m g m' g' _ hag
  refine ⟨fun c => Cert.Kernel8Ideal.Tiles.res m c, ?_, ?_⟩
  · exact (θ_run Cert.Kernel8Ideal.defs _ _).mono
      (fun r h c => ⟨(h c).1.trans (Cert.Kernel8Ideal.Tiles.final m c), (h c).2⟩) (Cert.Kernel8Ideal.Value.run_blocks m g)
  · refine (θ_run Cert.Reference8Ideal.defs _ _).mono (fun r h c => ?_) (Cert.Reference8Ideal.Value.run m' g')
    obtain ⟨a0, a1⟩ := hag c
    refine ⟨(h c).1.trans ?_, (h c).2⟩
    rw [a0, a1]
    exact Cert.Reference8Ideal.Tiles.eq _ _

/-- The gradient of their matrix. -/
theorem equal9 : Cert.algebraic_Kernel9Ideal_Reference9Ideal (hKernel9Ideal := Cert.Kernel9Ideal.Gen.facts)
    (hReference9Ideal := Cert.Reference9Ideal.Gen.facts) := by
  intro m g m' g' _ hag
  refine ⟨fun c => Cert.Kernel9Ideal.Tiles.res m c, ?_, ?_⟩
  · exact (θ_run Cert.Kernel9Ideal.defs _ _).mono
      (fun r h c => ⟨(h c).1.trans (Cert.Kernel9Ideal.Tiles.final m c), (h c).2⟩) (Cert.Kernel9Ideal.Value.run_blocks m g)
  · refine (θ_run Cert.Reference9Ideal.defs _ _).mono (fun r h c => ?_) (Cert.Reference9Ideal.Value.run m' g')
    obtain ⟨a0, a1⟩ := hag c
    refine ⟨(h c).1.trans ?_, (h c).2⟩
    rw [a0, a1]
    exact Cert.Reference9Ideal.Tiles.eq _ _

end Cert.Tiles
-- ==== Proof.Norm.Row.lean ====
/- The gradient of a row's norm: the launch's form and the reference's are one, over the extended reals. -/
module

public import Idealize.ShloMosaic.PureOps.Ideal
public import Idealize.ShloMosaic.PureOps.IdealRules

@[expose] public section

noncomputable section

namespace Cert.Norm

open Idealize.ShloMosaic

/-! ## The literals -/

/-- The width of a row, the norm's offset, and minus a half, as the programs write them. -/
abbrev width : EReal := Ideal.ofBits .f32 0x44800000#32
abbrev eps : EReal := Ideal.ofBits .f32 0x358637BD#32
abbrev half : EReal := Ideal.ofBits .f32 0xBF000000#32

theorem width_eq : width = ((1024 : ℝ) : EReal) := by
  simp [width, Ideal.ofBits, Ideal.ieee]
  rw [← EReal.coe_mul]
  exact congrArg Real.toEReal (by norm_num)
theorem half_eq : half = ((-(1 / 2) : ℝ) : EReal) := by
  simp [half, Ideal.ofBits, Ideal.ieee]
  rw [← EReal.coe_mul]
  exact congrArg Real.toEReal (by norm_num)
theorem eps_pos : 0 < eps := by
  simp [eps, Ideal.ofBits, Ideal.ieee]
  rw [← EReal.coe_mul]
  exact EReal.coe_pos.mpr (by norm_num)

theorem div_width (z : EReal) : Ideal.div z width = z * ((1024⁻¹ : ℝ) : EReal) := by
  rw [width_eq]
  unfold Ideal.div
  rw [if_neg (by norm_num), ← EReal.coe_inv]

/-! ## One row -/

/-- A row's mean square and the offset. -/
def ms (x : Fin 1024 → EReal) : EReal := Ideal.div (∑ k, x k * x k) width + eps

/-- The row's scale. -/
def scale (x : Fin 1024 → EReal) : EReal := Ideal.rsqrt (ms x)

/-- The gradient as the launch writes it, from the scaled output's gradient. -/
def grad (x e : Fin 1024 → EReal) (j : Fin 1024) : EReal :=
  scale x * (e j - x j * scale x * Ideal.div (∑ k, e k * (x k * scale x)) width)

/-- The mean square's share, as the reference writes it. -/
def share (x e : Fin 1024 → EReal) : EReal :=
  Ideal.div ((∑ k, x k * e k) * (half * Ideal.div (scale x) (ms x))) width

theorem sq_nonneg (z : EReal) : 0 ≤ z * z := by
  rcases le_total 0 z with h | h
  · exact mul_nonneg h h
  · rw [← neg_mul_neg]
    exact mul_nonneg (EReal.neg_nonneg.mpr h) (EReal.neg_nonneg.mpr h)

theorem ms_pos (x : Fin 1024 → EReal) : 0 < ms x := by
  refine lt_of_lt_of_le eps_pos (le_add_of_nonneg_left ?_)
  rw [div_width]
  exact mul_nonneg (Finset.sum_nonneg fun k _ => sq_nonneg _) (by exact_mod_cast (by norm_num : (0 : ℝ) ≤ 1024⁻¹))

/-- A finite factor that is not negative goes through a sum. -/
theorem mul_sum {ι : Type} (s : Finset ι) (f : ι → EReal) {ρ : ℝ} (h : 0 ≤ ρ) : (ρ : EReal) * ∑ k ∈ s, f k = ∑ k ∈ s, (ρ : EReal) * f k := by
  classical
  induction s using Finset.induction_on with
  | empty => simp
  | insert a s ha ih =>
    rw [Finset.sum_insert ha, Finset.sum_insert ha, EReal.left_distrib_of_nonneg_of_ne_top (by exact_mod_cast h) (EReal.coe_ne_top ρ), ih]

/-- The two forms at one element, for a finite positive scale. -/
theorem forms (E X S : EReal) {ρ : ℝ} (h : 0 < ρ) :
    (ρ : EReal) * (E - X * ρ * ((ρ : EReal) * S * ((1024⁻¹ : ℝ) : EReal)))
      = (E * ρ + X * (S * (((-(1 / 2) : ℝ) : EReal) * ((ρ * (ρ * ρ) : ℝ) : EReal)) * ((1024⁻¹ : ℝ) : EReal)))
        + S * (((-(1 / 2) : ℝ) : EReal) * ((ρ * (ρ * ρ) : ℝ) : EReal)) * ((1024⁻¹ : ℝ) : EReal) * X := by
  have hb : 0 ≤ (((1 / 2) * (ρ * (ρ * ρ)) * 1024⁻¹ : ℝ) : EReal) := by exact_mod_cast (by positivity)
  have e1 : X * ρ * ((ρ : EReal) * S * ((1024⁻¹ : ℝ) : EReal)) = X * S * ((ρ * ρ * 1024⁻¹ : ℝ) : EReal) := by
    rw [EReal.coe_mul, EReal.coe_mul]
    ac_rfl
  have e2 : S * (((-(1 / 2) : ℝ) : EReal) * ((ρ * (ρ * ρ) : ℝ) : EReal)) * ((1024⁻¹ : ℝ) : EReal) * X
      = -(X * S) * (((1 / 2) * (ρ * (ρ * ρ)) * 1024⁻¹ : ℝ) : EReal) := by
    rw [EReal.coe_neg, EReal.neg_mul, mul_neg, EReal.neg_mul, EReal.neg_mul, EReal.neg_mul, EReal.coe_mul ((1 / 2) * _), EReal.coe_mul (1 / 2)]
    refine congrArg (- ·) ?_
    ac_rfl
  have e3 : (ρ : EReal) * (X * S * ((ρ * ρ * 1024⁻¹ : ℝ) : EReal)) = X * S * ((ρ * (ρ * ρ) * 1024⁻¹ : ℝ) : EReal) := by
    rw [EReal.coe_mul (ρ * ρ), EReal.coe_mul (ρ * (ρ * ρ)), EReal.coe_mul ρ (ρ * ρ)]
    ac_rfl
  rw [mul_comm X (S * _ * _), e1, e2, sub_eq_add_neg, EReal.left_distrib_of_nonneg_of_ne_top (by exact_mod_cast h.le) (EReal.coe_ne_top ρ),
    mul_neg, e3, add_assoc, ← EReal.left_distrib_of_nonneg hb hb, ← EReal.coe_add, mul_comm E, EReal.neg_mul]
  refine congrArg (fun z : ℝ => (ρ : EReal) * E + -(X * S * (z : EReal))) ?_
  ring

theorem grad_eq (x e : Fin 1024 → EReal) (j : Fin 1024) :
    grad x e j = (e j * scale x + x j * share x e) + share x e * x j := by
  have hv := ms_pos x
  unfold grad share scale
  generalize ms x = v at hv
  induction v using EReal.rec with
  | bot => exact absurd hv (by simp)
  | top => simp [Ideal.div, width_eq]
  | coe v =>
    have h0 : 0 < v := by exact_mod_cast hv
    have hr : Ideal.rsqrt (v : EReal) = (((Real.sqrt v)⁻¹ : ℝ) : EReal) := by
      rw [Ideal.rsqrt_coe, if_neg h0.not_gt, if_neg h0.ne']
    have hs : 0 < (Real.sqrt v)⁻¹ := inv_pos.mpr (Real.sqrt_pos.mpr h0)
    have hq : Ideal.div (((Real.sqrt v)⁻¹ : ℝ) : EReal) (v : EReal)
        = (((Real.sqrt v)⁻¹ * ((Real.sqrt v)⁻¹ * (Real.sqrt v)⁻¹) : ℝ) : EReal) := by
      unfold Ideal.div
      rw [if_neg (by exact_mod_cast h0.ne'), ← EReal.coe_inv, ← EReal.coe_mul, ← mul_inv (Real.sqrt v) (Real.sqrt v), Real.mul_self_sqrt h0.le]
    rw [hr, hq, div_width, div_width, half_eq]
    have ht : ∑ k, e k * (x k * (((Real.sqrt v)⁻¹ : ℝ) : EReal)) = (((Real.sqrt v)⁻¹ : ℝ) : EReal) * ∑ k, x k * e k := by
      rw [mul_sum _ _ hs.le]
      refine Finset.sum_congr rfl fun k _ => ?_
      ac_rfl
    rw [ht]
    exact forms _ _ _ hs

end Cert.Norm
-- ==== Proof.Norm.Arrays.lean ====
/- The product's and the norm's gradient, as whole arrays. -/
module

public import proofs.«01_k».proof.Proof.Tiles.Sum
public import proofs.«01_k».proof.Proof.Norm.Row

@[expose] public section

noncomputable section

namespace Cert.Norm

open Cert.Gate Cert.Tiles Finset
open Idealize.ShloMosaic Idealize.ShloMosaic.ValueIdx

/-- A matrix and the product of one with a transposed one. -/
def ontoT {M K N : ℕ} (r : Mat M N) (x : Mat M K) (w : Mat N K) : Mat M N := fun i => r i + prodT x w i

/-- A matrix's row. -/
def line {M N : ℕ} (x : Mat M N) (a : Fin M) : Fin N → EReal := fun k => x (ix2 a k)

/-- The gradient of the norm's input and another, from the norm's result's `d`. -/
def inputGrad (x d r : Mat 8192 1024) (g : Fin 1024 → EReal) : Mat 8192 1024 :=
  fun i => grad (line x (i 0)) (fun k => d (ix2 (i 0) k) * g k) (i 1) + r i

/-- What each element adds to the gain's gradient. -/
def gainPart (x d : Mat 8192 1024) : Mat 8192 1024 := fun i => d i * (x i * scale (line x (i 0)))

/-- The gain's gradient, as a row. -/
def gainGrad (x d : Mat 8192 1024) : Mat 1 1024 := fun i => ∑ a : Fin 8192, gainPart x d (ix2 a (i 1))

theorem gainGrad_el (x d : Mat 8192 1024) (u : Fin 1) (b : Fin 1024) : gainGrad x d (ix2 u b) = ∑ k ∈ range 8192, el (gainPart x d) k b := by
  rw [Finset.sum_range]
  exact Finset.sum_congr rfl fun k _ => (el_ix2 (gainPart x d) k b).symm

end Cert.Norm
-- ==== Proof.Norm.Point.lean ====
/- What a grid point of the product's and the norm's gradient leaves in its two results. -/
module

public import proofs.«01_k».proof.Proof.Gen.Kernel10Ideal.Value
public import Idealize.ShloMosaic.Lib.Pipeline.ValueKit.Basic
public import Idealize.ShloMosaic.Lib.Pointwise
public import proofs.«01_k».proof.Proof.Tiles.Sum
public import proofs.«01_k».proof.Proof.Norm.Row

@[expose] public section

set_option maxRecDepth 8192

noncomputable section

namespace Cert.Kernel10Ideal.Norm

open Cert.Kernel10Ideal Cert.Kernel10Ideal.Gen Cert.Gate Cert.Tiles Cert.Norm
open Idealize.ShloMosaic hiding ix2
open Idealize.ShloMosaic.TcCoe Idealize.ShloMosaic.ValueIdx Idealize.SL.Sem

theorem hz : (![0, 0] : Fin 2 → ℕ) = fun _ => 0 := View.eq_zero_of_forall (by decide)

/-! ## The body's terms, by element -/

theorem pay1_apply (x0 x1 : Vec Ideal S1024x1408 .bf16) (a b : Fin 1024) :
    k0_pay1 x0 x1 (ix2 a b) = ∑ k : Fin 1408, x0 (ix2 a k) * x1 (ix2 b k) := by
  show FloatOps.matmul (DotDims.transposedRhs 1024 1408 1024) none
    (shapeCast S1024x1408 x0 shapeCasts_S1024x1408_S1024x1408 : FVec Ideal S1024x1408 .bf16)
    (shapeCast S1024x1408 x1 shapeCasts_S1024x1408_S1024x1408 : FVec Ideal S1024x1408 .bf16) (constant S1024x1024 .f32 0x00000000#32) (ix2 a b) = _
  rw [shapeCast_self, shapeCast_self]
  exact tile_prodT x0 x1 a b

theorem same {M N : ℕ} (a : Fin M) (b : Fin N) : Idealize.ShloMosaic.ix2 a b = ix2 a b := rfl
theorem fst {M N : ℕ} (a : Fin M) (b : Fin N) : ix2 a b 0 = a := rfl
theorem snd {M N : ℕ} (a : Fin M) (b : Fin N) : ix2 a b 1 = b := rfl

/-- A row's scale. -/
theorem pay6_apply (x : Vec Ideal S1024x1024 .f32) (a : Fin 1024) (u : Fin 1) : k0_pay6 x (ix2 a u) = scale fun k => x (ix2 a k) := by
  unfold k0_pay6 scale ms
  pointwise
  rfl

/-- The norm's gradient, and the residual's. -/
theorem pay8_apply (x d r : Vec Ideal S1024x1024 .f32) (g : Vec Ideal S1x1024 .f32) (a b : Fin 1024) :
    k0_pay8 x g d r (ix2 a b) = grad (fun k => x (ix2 a k)) (fun k => d (ix2 a k) * g (ix2 0 k)) b + r (ix2 a b) := by
  unfold k0_pay8 k0_pay7 k0_pay5 grad
  pointwise
  simp only [same, fst, snd, pay6_apply]

/-- A block's part of the gain's gradient. -/
theorem pay11_apply (x d : Vec Ideal S1024x1024 .f32) (b : Fin 1024) (u : Fin 1) :
    k0_pay11 x d (ix2 u b) = ∑ a : Fin 1024, d (ix2 a b) * (x (ix2 a b) * scale fun k => x (ix2 a k)) := by
  unfold k0_pay11 k0_pay7 k0_pay5
  pointwise
  simp only [same, fst, snd, pay6_apply]

/-! ## One point -/

section
variable (c : Dev nD) (i : grid0.Coords) (a2 : Memref sig .tc .vmem S1024x1408 .bf16) (h2 : a2.IsWhole) (a3 : Memref sig .tc .vmem S1024x1408 .bf16)
  (h3 : a3.IsWhole) (a4 : Memref sig .tc .vmem S1024x1024 .f32) (h4 : a4.IsWhole) (a5 : Memref sig .tc .vmem S1x1024 .f32) (h5 : a5.IsWhole)
  (a6 : Memref sig .tc .vmem S1024x1024 .f32) (h6 : a6.IsWhole) (a7 : Memref sig .tc .vmem S1024x1024 .f32) (h7 : a7.IsWhole)
  (a8 : Memref sig .tc .vmem S1024x1024 .f32) (h8 : a8.IsWhole) (a9 : Memref sig .tc .vmem S1x1024 .f32) (h9 : a9.IsWhole)
  (x0 x1 : Vec Ideal S1024x1408 .bf16) (x2 : Vec Ideal S1024x1024 .f32) (x3 : Vec Ideal S1x1024 .f32) (x4 x5 s : Vec Ideal S1024x1024 .f32)
  (z : Vec Ideal S1x1024 .f32)

/-- A pair's first point leaves its product and the other gradient. -/
theorem first (hc0 : cond0_0 i) (hc1 : ¬cond0_1 i) (hc2 : ¬cond0_2 i) :
    out0_A_6 c i a2 h2 a3 h3 a4 h4 a5 h5 a6 h6 a7 h7 a8 h8 a9 h9 hc0 hc1 hc2 x0 x1 x2 x3 x4 x5 = addf (k0_pay1 x0 x1) x5 := by
  unfold out0_A_6
  rw [View.read_writes_eq_canon _ _ _ (cover0_A_6 c i a2 h2 a3 h3 a4 h4 a5 h5 a6 h6 a7 h7 a8 h8 a9 h9 hc0 hc1 hc2 x0 x1 x2 x3 x4 x5)]
  unfold kernelRun0_A
  dsimp only
  rw [View.canon_unit_zero hz]
  unfold k0_pay2
  simp only [View.readAt_eq_ld, h2.read_unread, h3.read_unread, h7.read_unread, View.ld_unit_zero (S := S1024x1408) hz,
    View.ld_unit_zero (S := S1024x1024) hz]

/-- The second adds its product and leaves the norm's gradient: the first pair's, … -/
theorem later_B (hc0 : ¬cond0_0 i) (hc1 : cond0_1 i) (hc2 : cond0_2 i) (hc3 : cond0_3 i) :
    out0_B_6 c i a2 h2 a3 h3 a4 h4 a5 h5 a6 h6 a7 h7 a8 h8 a9 h9 hc0 hc1 hc2 hc3 x0 x1 x2 x3 x4 x5 s
      = k0_pay8 x2 x3 (addf s (k0_pay1 x0 x1) : FVec Ideal S1024x1024 .f32) x4 := by
  unfold out0_B_6
  rw [View.read_writes_eq_canon _ _ _ (cover0_B_6 c i a2 h2 a3 h3 a4 h4 a5 h5 a6 h6 a7 h7 a8 h8 a9 h9 hc0 hc1 hc2 hc3 x0 x1 x2 x3 x4 x5 s)]
  unfold kernelRun0_B
  dsimp only
  sl_unfold_words
  rw [View.canon_cons_unit_zero (S := S1024x1024) hz, View.readCov_unit_zero (S := S1024x1024) _ hz]
  unfold k0_pay3
  simp only [View.readAt_eq_ld, h2.read_unread, h3.read_unread, h4.read_unread, h5.read_unread, h6.read_unread, h8.read_unread,
    View.ld_unit_zero (S := S1024x1408) hz, View.ld_unit_zero (S := S1024x1024) hz, View.ld_unit_zero (S := S1x1024) hz, shapeCast_self]

/-- … and the others'. -/
theorem later_C (hc0 : ¬cond0_0 i) (hc1 : cond0_1 i) (hc2 : cond0_2 i) (hc3 : ¬cond0_3 i) :
    out0_C_6 c i a2 h2 a3 h3 a4 h4 a5 h5 a6 h6 a7 h7 a8 h8 a9 h9 hc0 hc1 hc2 hc3 x0 x1 x2 x3 x4 x5 s z
      = k0_pay8 x2 x3 (addf s (k0_pay1 x0 x1) : FVec Ideal S1024x1024 .f32) x4 := by
  unfold out0_C_6
  rw [View.read_writes_eq_canon _ _ _ (cover0_C_6 c i a2 h2 a3 h3 a4 h4 a5 h5 a6 h6 a7 h7 a8 h8 a9 h9 hc0 hc1 hc2 hc3 x0 x1 x2 x3 x4 x5 s z)]
  unfold kernelRun0_C
  dsimp only
  sl_unfold_words
  rw [View.canon_cons_unit_zero (S := S1024x1024) hz, View.readCov_unit_zero (S := S1024x1024) _ hz]
  unfold k0_pay3
  simp only [View.readAt_eq_ld, h2.read_unread, h3.read_unread, h4.read_unread, h5.read_unread, h6.read_unread, h8.read_unread,
    View.ld_unit_zero (S := S1024x1408) hz, View.ld_unit_zero (S := S1024x1024) hz, View.ld_unit_zero (S := S1x1024) hz, shapeCast_self]

/-- The gain's gradient after the first pair: its part. -/
theorem gain_B (hc0 : ¬cond0_0 i) (hc1 : cond0_1 i) (hc2 : cond0_2 i) (hc3 : cond0_3 i) :
    out0_B_7 c i a2 h2 a3 h3 a4 h4 a5 h5 a6 h6 a7 h7 a8 h8 a9 h9 hc0 hc1 hc2 hc3 x0 x1 x2 x3 x4 x5 s
      = addf (k0_pay9 (F := Ideal)) (k0_pay11 x2 (addf s (k0_pay1 x0 x1) : FVec Ideal S1024x1024 .f32)) := by
  unfold out0_B_7
  rw [View.read_writes_eq_canon _ _ _ (cover0_B_7 c i a2 h2 a3 h3 a4 h4 a5 h5 a6 h6 a7 h7 a8 h8 a9 h9 hc0 hc1 hc2 hc3 x0 x1 x2 x3 x4 x5 s)]
  unfold kernelRun0_B
  dsimp only
  sl_unfold_words
  rw [View.canon_cons_unit_zero (S := S1x1024) hz, View.readCov_unit_zero (S := S1024x1024) _ hz, View.readCov_unit_zero (S := S1x1024) _ hz]
  unfold k0_pay4 k0_pay10 k0_pay3
  simp only [View.readAt_eq_ld, h2.read_unread, h3.read_unread, h4.read_unread, h5.read_unread, h6.read_unread, h8.read_unread,
    View.ld_unit_zero (S := S1024x1408) hz, View.ld_unit_zero (S := S1024x1024) hz, View.ld_unit_zero (S := S1x1024) hz, shapeCast_self]

/-- After the others: what stood there, and the pair's part. -/
theorem gain_C (hc0 : ¬cond0_0 i) (hc1 : cond0_1 i) (hc2 : cond0_2 i) (hc3 : ¬cond0_3 i) :
    out0_C_7 c i a2 h2 a3 h3 a4 h4 a5 h5 a6 h6 a7 h7 a8 h8 a9 h9 hc0 hc1 hc2 hc3 x0 x1 x2 x3 x4 x5 s z
      = addf z (k0_pay11 x2 (addf s (k0_pay1 x0 x1) : FVec Ideal S1024x1024 .f32)) := by
  unfold out0_C_7
  rw [View.read_writes_eq_canon _ _ _ (cover0_C_7 c i a2 h2 a3 h3 a4 h4 a5 h5 a6 h6 a7 h7 a8 h8 a9 h9 hc0 hc1 hc2 hc3 x0 x1 x2 x3 x4 x5 s z)]
  unfold kernelRun0_C
  dsimp only
  sl_unfold_words
  rw [View.canon_unit_zero hz, View.readCov_unit_zero (S := S1024x1024) _ hz]
  unfold k0_pay4 k0_pay10 k0_pay3
  simp only [View.readAt_eq_ld, h2.read_unread, h3.read_unread, h4.read_unread, h5.read_unread, h6.read_unread, h8.read_unread, h9.read_unread,
    View.ld_unit_zero (S := S1024x1408) hz, View.ld_unit_zero (S := S1024x1024) hz, View.ld_unit_zero (S := S1x1024) hz, shapeCast_self]
end

end Cert.Kernel10Ideal.Norm
-- ==== Proof.Norm.Whole.lean ====
/- The launch of the product's and the norm's gradient leaves both results whole. -/
module

public import proofs.«01_k».proof.Proof.Norm.Arrays
public import proofs.«01_k».proof.Proof.Norm.Point

@[expose] public section

set_option maxRecDepth 8192

noncomputable section

namespace Cert.Kernel10Ideal.Norm

open Cert.Kernel10Ideal Cert.Kernel10Ideal.Gen Cert.Gate Cert.Tiles Cert.Norm Finset
open Idealize.ShloMosaic hiding ix2 ix1 eq_ix2
open Idealize.ShloMosaic.TcCoe Idealize.ShloMosaic.ValueIdx Idealize.SL.Sem

/-! ## Where each window's block lies -/

theorem where0 : ∀ t : Fin cfg0.N, win0_0.index t (0 : Fin 2) = t.val / 2 ∧ win0_0.index t (1 : Fin 2) = t.val % 2 :=
  (by decide +kernel : ∀ t : Fin grid0.N, win0_0.index t (0 : Fin 2) = t.val / 2 ∧ win0_0.index t (1 : Fin 2) = t.val % 2)
theorem where1 : ∀ t : Fin cfg0.N, win0_1.index t (0 : Fin 2) = 0 ∧ win0_1.index t (1 : Fin 2) = t.val % 2 :=
  (by decide +kernel : ∀ t : Fin grid0.N, win0_1.index t (0 : Fin 2) = 0 ∧ win0_1.index t (1 : Fin 2) = t.val % 2)
theorem where2 : ∀ t : Fin cfg0.N, win0_2.index t (0 : Fin 2) = t.val / 2 ∧ win0_2.index t (1 : Fin 2) = 0 :=
  (by decide +kernel : ∀ t : Fin grid0.N, win0_2.index t (0 : Fin 2) = t.val / 2 ∧ win0_2.index t (1 : Fin 2) = 0)
theorem where3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem where4 : ∀ t : Fin cfg0.N, win0_4.index t (0 : Fin 2) = t.val / 2 ∧ win0_4.index t (1 : Fin 2) = 0 :=
  (by decide +kernel : ∀ t : Fin grid0.N, win0_4.index t (0 : Fin 2) = t.val / 2 ∧ win0_4.index t (1 : Fin 2) = 0)
theorem where5 : ∀ t : Fin cfg0.N, win0_5.index t (0 : Fin 2) = t.val / 2 ∧ win0_5.index t (1 : Fin 2) = 0 :=
  (by decide +kernel : ∀ t : Fin grid0.N, win0_5.index t (0 : Fin 2) = t.val / 2 ∧ win0_5.index t (1 : Fin 2) = 0)
theorem where6 : ∀ t : Fin cfg0.N, win0_6.index t (0 : Fin 2) = t.val / 2 ∧ win0_6.index t (1 : Fin 2) = 0 :=
  (by decide +kernel : ∀ t : Fin grid0.N, win0_6.index t (0 : Fin 2) = t.val / 2 ∧ win0_6.index t (1 : Fin 2) = 0)
theorem where7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- A point's block's row in the result. -/
def row (t : Fin cfg0.N) (a : Fin 1024) : Fin 8192 :=
  ⟨t.val / 2 * 1024 + a.val, by have := a.isLt; have : t.val < 16 := lt_of_lt_of_eq t.isLt N_0; omega⟩

theorem emb6 (t : Fin cfg0.N) (a b : Fin 1024) : ((cfg0.win 6).blk t).view.emb (ix2 a b) = ix2 (row t a) b := by
  obtain ⟨e0, e1⟩ := where6 t
  refine funext (Fin.forall_fin_two.mpr ⟨Fin.ext ?_, Fin.ext ?_⟩)
  · show win0_6.index t (0 : Fin 2) * 1024 + 1 * a.val = t.val / 2 * 1024 + a.val; rw [e0, Nat.one_mul]
  · show win0_6.index t (1 : Fin 2) * 1024 + 1 * b.val = b.val; rw [e1, Nat.one_mul, Nat.zero_mul, Nat.zero_add]
theorem emb7 (t : Fin cfg0.N) (u : Fin 1) (b : Fin 1024) : ((cfg0.win 7).blk t).view.emb (ix2 u b) = ix2 u b := by
  obtain ⟨e0, e1⟩ := where7 t
  refine funext (Fin.forall_fin_two.mpr ⟨Fin.ext ?_, Fin.ext ?_⟩)
  · show win0_7.index t (0 : Fin 2) * 1 + 1 * u.val = u.val; rw [e0, Nat.one_mul, Nat.zero_mul, Nat.zero_add]
  · show win0_7.index t (1 : Fin 2) * 1024 + 1 * b.val = b.val; rw [e1, Nat.one_mul, Nat.zero_mul, Nat.zero_add]

/-- Every element of the first result is one of the block of a pair's second point. -/
theorem covered6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  obtain ⟨s, hs, hr, hc⟩ : ∃ s, s < 16 ∧ s % 2 = 1 ∧ s / 2 = (i 0).val / 1024 := ⟨(i 0).val / 1024 * 2 + 1, by omega, by omega, by omega⟩
  have e : ix2 (row ⟨s, lt_of_lt_of_eq hs N_0.symm⟩ ⟨(i 0).val % 1024, Nat.mod_lt _ (by decide)⟩) (⟨(i 1).val, h1⟩ : Fin 1024) = i := by
    refine funext (Fin.forall_fin_two.mpr ⟨Fin.ext ?_, Fin.ext rfl⟩)
    show s / 2 * 1024 + (i 0).val % 1024 = (i 0).val
    omega
  refine ⟨⟨s, lt_of_lt_of_eq hs N_0.symm⟩, (flush0_6 _).mpr hr, ?_⟩
  rw [← e, ← emb6]
  exact ((cfg0.win 6).blk _).view.emb_mem_set _
/-- Every element of the second, of the last point's. -/
theorem covered7 (i : S1x1024.Idx) : ∃ t : Fin cfg0.N, (cfg0.win 7).flush t = true ∧ i ∈ ((cfg0.win 7).blk t).view.set := by
  obtain ⟨u, b, rfl⟩ : ∃ u b, i = ix2 u b := ⟨_, _, eq_ix2 i⟩
  refine ⟨⟨15, lt_of_lt_of_eq (by decide) N_0.symm⟩, (flush0_7 _).mpr rfl, ?_⟩
  have h := ((cfg0.win 7).blk ⟨15, lt_of_lt_of_eq (by decide) N_0.symm⟩).view.emb_mem_set (ix2 u b)
  rw [emb7] at h
  exact h

/-! ## The blocks each point reads -/

variable (m : (ℓ : Loc nD τ sig) → Buf (Elt Ideal) ℓ) (c : Dev nD)

/-- The launch finds its operands as launched: the narrower format holds the same reals. -/
theorem V_main_v0 : V m c main_v0 = (m ((c : Thread nD τ).loc main_arg0) : Mat 8192 2816) := by
  unfold V
  simp only [hostOps0]
  after_results_simp
  rfl
theorem V_main_v1 : V m c main_v1 = (m ((c : Thread nD τ).loc main_arg1) : Mat 1024 2816) := by
  unfold V
  simp only [hostOps0]
  after_results_simp
  rfl
/-- The gain, as a row. -/
theorem V_main_v2 : V m c main_v2 = (shapeCast S1x1024 (m ((c : Thread nD τ).loc main_arg3) : Vec Ideal S1024 .f32) shapeCasts_S1024_S1x1024) := by
  unfold V
  simp only [hostOps0]
  after_results_simp
  rfl

/-- The norm's input. -/
def x : Mat 8192 1024 := m ((c : Thread nD τ).loc main_arg2)
/-- Its gain. -/
def g : Fin 1024 → EReal := fun k => (m ((c : Thread nD τ).loc main_arg3) : Vec Ideal S1024 .f32) (ix1 k)
/-- The gradient of the norm's result. -/
def d : Mat 8192 1024 :=
  ontoT (m ((c : Thread nD τ).loc main_arg5) : Mat 8192 1024) (m ((c : Thread nD τ).loc main_arg0) : Mat 8192 2816)
    (m ((c : Thread nD τ).loc main_arg1) : Mat 1024 2816)

theorem iblk0 (t : Fin cfg0.N) (a : Fin 1024) (k : Fin 1408) :
    iblk m c 0 t (ix2 a k) = el (m ((c : Thread nD τ).loc main_arg0) : Mat 8192 2816) (t.val / 2 * 1024 + a.val) (t.val % 2 * 1408 + k.val) := by
  obtain ⟨e0, e1⟩ := where0 t
  refine (congrFun (V_main_v0 m c) _).trans (el_of _ _ ?_ ?_)
  · show win0_0.index t (0 : Fin 2) * 1024 + 1 * a.val = _; rw [e0, Nat.one_mul]
  · show win0_0.index t (1 : Fin 2) * 1408 + 1 * k.val = _; rw [e1, Nat.one_mul]
theorem iblk1 (t : Fin cfg0.N) (b : Fin 1024) (k : Fin 1408) :
    iblk m c 1 t (ix2 b k) = el (m ((c : Thread nD τ).loc main_arg1) : Mat 1024 2816) b.val (t.val % 2 * 1408 + k.val) := by
  obtain ⟨e0, e1⟩ := where1 t
  refine (congrFun (V_main_v1 m c) _).trans (el_of _ _ ?_ ?_)
  · show win0_1.index t (0 : Fin 2) * 1024 + 1 * b.val = _; rw [e0, Nat.one_mul, Nat.zero_mul, Nat.zero_add]
  · show win0_1.index t (1 : Fin 2) * 1408 + 1 * k.val = _; rw [e1, Nat.one_mul]
theorem iblk2 (t : Fin cfg0.N) (a b : Fin 1024) : iblk m c 2 t (ix2 a b) = x m c (ix2 (row t a) b) := by
  obtain ⟨e0, e1⟩ := where2 t
  refine (congrFun (V_main_arg2 m c) _).trans (congrArg (x m c) (funext (Fin.forall_fin_two.mpr ⟨Fin.ext ?_, Fin.ext ?_⟩)))
  · show win0_2.index t (0 : Fin 2) * 1024 + 1 * a.val = _; rw [e0, Nat.one_mul]; rfl
  · show win0_2.index t (1 : Fin 2) * 1024 + 1 * b.val = b.val; rw [e1, Nat.one_mul, Nat.zero_mul, Nat.zero_add]
theorem iblk3 (t : Fin cfg0.N) (b : Fin 1024) : iblk m c 3 t (ix2 0 b) = g m c b := by
  obtain ⟨e0, e1⟩ := where3 t
  have e : ((cfg0.win 3).blk t).view.emb (ix2 (0 : Fin 1) b) = ix2 (0 : Fin 1) b := by
    refine funext (Fin.forall_fin_two.mpr ⟨Fin.ext ?_, Fin.ext ?_⟩)
    · show win0_3.index t (0 : Fin 2) * 1 + 1 * 0 = 0; rw [e0]
    · show win0_3.index t (1 : Fin 2) * 1024 + 1 * b.val = b.val; rw [e1, Nat.one_mul, Nat.zero_mul, Nat.zero_add]
  refine (congrFun (V_main_v2 m c) _).trans ?_
  rw [e]
  exact shapeCast_a_1a_apply _ _ 0 b
theorem iblk4 (t : Fin cfg0.N) (a b : Fin 1024) :
    iblk m c 4 t (ix2 a b) = (m ((c : Thread nD τ).loc main_arg4) : Mat 8192 1024) (ix2 (row t a) b) := by
  obtain ⟨e0, e1⟩ := where4 t
  refine (congrFun (V_main_arg4 m c) _).trans (congrArg (m ((c : Thread nD τ).loc main_arg4) : Mat 8192 1024)
    (funext (Fin.forall_fin_two.mpr ⟨Fin.ext ?_, Fin.ext ?_⟩)))
  · show win0_4.index t (0 : Fin 2) * 1024 + 1 * a.val = _; rw [e0, Nat.one_mul]; rfl
  · show win0_4.index t (1 : Fin 2) * 1024 + 1 * b.val = b.val; rw [e1, Nat.one_mul, Nat.zero_mul, Nat.zero_add]
theorem iblk5 (t : Fin cfg0.N) (a b : Fin 1024) :
    iblk m c 5 t (ix2 a b) = el (m ((c : Thread nD τ).loc main_arg5) : Mat 8192 1024) (t.val / 2 * 1024 + a.val) b.val := by
  obtain ⟨e0, e1⟩ := where5 t
  refine (congrFun (V_main_arg5 m c) _).trans (el_of _ _ ?_ ?_)
  · show win0_5.index t (0 : Fin 2) * 1024 + 1 * a.val = _; rw [e0, Nat.one_mul]
  · show win0_5.index t (1 : Fin 2) * 1024 + 1 * b.val = b.val; rw [e1, Nat.one_mul, Nat.zero_mul, Nat.zero_add]

/-! ## The norm's result's gradient -/

/-- The terms of a pair's sum, at an element of its block. -/
def term (p a b k : ℕ) : EReal :=
  el (m ((c : Thread nD τ).loc main_arg0) : Mat 8192 2816) (p * 1024 + a) k * el (m ((c : Thread nD τ).loc main_arg1) : Mat 1024 2816) b k

/-- A point's product is its terms. -/
theorem point (t : Fin cfg0.N) (a b : Fin 1024) :
    k0_pay1 (iblk m c 0 t) (iblk m c 1 t) (ix2 a b) = ∑ k ∈ range 1408, term m c (t.val / 2) a b (t.val % 2 * 1408 + k) := by
  rw [Finset.sum_range]
  exact (pay1_apply (iblk m c 0 t) (iblk m c 1 t) a b).trans
    (Finset.sum_congr rfl fun k _ => congrArg₂ (· * ·) (iblk0 m c t a k) (iblk1 m c t b k))

/-- What a pair's second point adds up: what the first left, and its product. -/
def both (t : Fin cfg0.N) : FVec Ideal S1024x1024 .f32 :=
  addf (outsAt0 m c (t.val - 1) (Nat.lt_of_le_of_lt (Nat.sub_le _ _) t.isLt)).1 (k0_pay1 (iblk m c 0 t) (iblk m c 1 t))

theorem left (n : ℕ) (h : n < cfg0.N) (h0 : n % 2 = 0) :
    (outsAt0 m c n h).1 = addf (k0_pay1 (iblk m c 0 ⟨n, h⟩) (iblk m c 1 ⟨n, h⟩)) (iblk m c 5 ⟨n, h⟩) := by
  rw [outsAt0_A m c ⟨n, h⟩ h0 (by dsimp only; omega) (by dsimp only; omega)]
  dsimp only
  rw [first]

/-- It is the gradient's block. -/
theorem both_apply (t : Fin cfg0.N) (h1 : t.val % 2 = 1) (a b : Fin 1024) : both m c t (ix2 a b) = d m c (ix2 (row t a) b) := by
  have hd : (t.val - 1) / 2 = t.val / 2 := by omega
  have h0 : (t.val - 1) % 2 = 0 := by omega
  unfold both
  rw [left m c _ _ h0]
  show (k0_pay1 (iblk m c 0 ⟨t.val - 1, _⟩) (iblk m c 1 ⟨t.val - 1, _⟩) (ix2 a b) + iblk m c 5 ⟨t.val - 1, _⟩ (ix2 a b))
    + k0_pay1 (iblk m c 0 t) (iblk m c 1 t) (ix2 a b) = _
  rw [point, point, iblk5]
  dsimp only
  rw [hd, h0, h1, add_comm (∑ k ∈ range 1408, _), add_assoc]
  simp only [Nat.zero_mul, Nat.zero_add, Nat.one_mul]
  rw [← Finset.sum_range_add]
  unfold d ontoT
  rw [prodT_el]
  exact congrArg₂ (· + ·) (el_ix2 _ (row t a) b) (Finset.sum_congr (congrArg range (by norm_num)) fun k _ => rfl)

/-! ## The input's gradient -/

/-- The gradient the launch leaves. -/
def res6 : Mat 8192 1024 := inputGrad (x m c) (d m c) (m ((c : Thread nD τ).loc main_arg4) : Mat 8192 1024) (g m c)

theorem stored (t : Fin cfg0.N) (h1 : t.val % 2 = 1) :
    (outsAt0 m c t.val t.isLt).1 = k0_pay8 (iblk m c 2 t) (iblk m c 3 t) (both m c t) (iblk m c 4 t) := by
  by_cases h3 : t.val < 2
  · rw [outsAt0_B m c t (by omega) h1 h1 h3]
    dsimp only
    rw [later_B]
    rfl
  · rw [outsAt0_C m c t (by omega) h1 h1 h3]
    dsimp only
    rw [later_C]
    rfl

/-- A pair's second point leaves its elements. -/
theorem block6 (t : Fin cfg0.N) (h1 : t.val % 2 = 1) (a b : Fin 1024) : (outsAt0 m c t.val t.isLt).1 (ix2 a b) = res6 m c (ix2 (row t a) b) := by
  rw [stored m c t h1]
  refine (pay8_apply (iblk m c 2 t) (both m c t) (iblk m c 4 t) (iblk m c 3 t) a b).trans ?_
  refine congrArg₂ (· + ·) (congrArg₂ (fun p q => grad p q b) (funext fun k => iblk2 m c t a k) (funext fun k => ?_)) (iblk4 m c t a b)
  exact congrArg₂ (· * ·) (both_apply m c t h1 a k) (iblk3 m c t k)

/-- A block's elements are an array's, read through the window. -/
theorem through6 (t : Fin cfg0.N) (o : Vec Ideal S1024x1024 .f32) (r : Vec Ideal S8192x1024 .f32)
    (h : ∀ a b : Fin 1024, o (ix2 a b) = r (ix2 (row t a) b)) :
    (cfg0.win 6).cut (grid0.coords t) o = ((cfg0.win 6).blk t).view.read (Elt Ideal) r := by
  funext j
  obtain ⟨a, b, rfl⟩ : ∃ a b, j = ix2 a b := ⟨_, _, eq_ix2 j⟩
  show o (ix2 a b) = r (((cfg0.win 6).blk t).view.emb (ix2 a b))
  rw [emb6]
  exact h a b

theorem final6 : (dats m 0 c).arrAt 6 cfg0.N = res6 m c :=
  (dats m 0 c).arrAt_eq_of_cover 6 (res6 m c)
    (fun t hf => (Value.flushed6 m c t).trans (through6 t _ (res6 m c) (block6 m c t ((flush0_6 t).mp hf)))) covered6

/-! ## The gain's gradient -/

/-- The gradient the launch leaves. -/
def res7 : Mat 1 1024 := gainGrad (x m c) (d m c)

/-- A pair's part. -/
theorem part (t : Fin cfg0.N) (h1 : t.val % 2 = 1) (u : Fin 1) (b : Fin 1024) :
    k0_pay11 (iblk m c 2 t) (both m c t) (ix2 u b) = ∑ k ∈ range 1024, el (gainPart (x m c) (d m c)) (t.val / 2 * 1024 + k) b := by
  rw [Finset.sum_range]
  refine (pay11_apply (iblk m c 2 t) (both m c t) b u).trans (Finset.sum_congr rfl fun a _ => ?_)
  rw [both_apply m c t h1, show (fun k => iblk m c 2 t (ix2 a k)) = line (x m c) (row t a) from funext fun k => iblk2 m c t a k, iblk2]
  exact (el_ix2 (gainPart (x m c) (d m c)) (row t a) b).symm

/-- After each point but the first stand the parts of the pairs so far. -/
theorem gain (n : ℕ) : ∀ h : n < cfg0.N, 1 ≤ n → ∀ (u : Fin 1) (b : Fin 1024),
    (outsAt0 m c n h).2 (ix2 u b) = ∑ k ∈ range ((n + 1) / 2 * 1024), el (gainPart (x m c) (d m c)) k b := by
  induction n with
  | zero => exact fun _ h1 => absurd h1 (by decide)
  | succ n ih =>
    intro h _ u b
    by_cases h0 : (n + 1) % 2 = 0
    · rw [outsAt0_A m c ⟨n + 1, h⟩ h0 (by dsimp only; omega) (by dsimp only; omega)]
      dsimp only
      unfold out0_A_7
      refine (ih _ (by omega) u b).trans ?_
      rw [show (n + 1 + 1) / 2 = (n + 1) / 2 by omega]
    · have h1 : (n + 1) % 2 = 1 := by omega
      have hd : (n + 1 + 1) / 2 * 1024 = (n + 1) / 2 * 1024 + 1024 := by omega
      rw [hd, Finset.sum_range_add, ← part m c ⟨n + 1, h⟩ h1 u b]
      by_cases h3 : n + 1 < 2
      · rw [outsAt0_B m c ⟨n + 1, h⟩ h0 h1 h1 h3]
        dsimp only
        rw [gain_B]
        refine congrArg₂ (· + ·) ?_ rfl
        rw [show (n + 1) / 2 * 1024 = 0 by omega, Finset.range_zero, Finset.sum_empty]
        exact Ideal.ofBits_zero_f32
      · rw [outsAt0_C m c ⟨n + 1, h⟩ h0 h1 h1 h3]
        dsimp only
        rw [gain_C]
        exact congrArg₂ (· + ·) (ih _ (by omega) u b) rfl

/-- The last point leaves its elements. -/
theorem block7 (t : Fin cfg0.N) (h : t.val % 16 = 15) (u : Fin 1) (b : Fin 1024) : (outsAt0 m c t.val t.isLt).2 (ix2 u b) = res7 m c (ix2 u b) := by
  have ht : t.val < 16 := lt_of_lt_of_eq t.isLt N_0
  rw [gain m c t.val t.isLt (by omega) u b, show (t.val + 1) / 2 * 1024 = 8192 by omega]
  exact (gainGrad_el (x m c) (d m c) u b).symm

theorem through7 (t : Fin cfg0.N) (o r : Vec Ideal S1x1024 .f32) (h : ∀ (u : Fin 1) (b : Fin 1024), o (ix2 u b) = r (ix2 u b)) :
    (cfg0.win 7).cut (grid0.coords t) o = ((cfg0.win 7).blk t).view.read (Elt Ideal) r := by
  funext j
  obtain ⟨u, b, rfl⟩ : ∃ u b, j = ix2 u b := ⟨_, _, eq_ix2 j⟩
  show o (ix2 u b) = r (((cfg0.win 7).blk t).view.emb (ix2 u b))
  rw [emb7]
  exact h u b

theorem final7 : (dats m 0 c).arrAt 7 cfg0.N = res7 m c :=
  (dats m 0 c).arrAt_eq_of_cover 7 (res7 m c)
    (fun t hf => (Value.flushed7 m c t).trans (through7 t _ (res7 m c) (block7 m c t ((flush0_7 t).mp hf)))) covered7

end Cert.Kernel10Ideal.Norm
-- ==== Proof.Norm.Ref.lean ====
/- The reference's gradients are the same arrays. -/
module

public import proofs.«01_k».proof.Proof.Gen.Reference10Ideal.Run
public import Idealize.ShloMosaic.Lib.Pointwise
public import proofs.«01_k».proof.Proof.Norm.Arrays

@[expose] public section

noncomputable section

namespace Cert.Reference10Ideal.Norm

open Cert.Reference10Ideal Cert.Reference10Ideal.Gen Cert.Gate Cert.Tiles Cert.Norm
open Idealize.ShloMosaic hiding ix2 ix1 eq_ix2
open Idealize.ShloMosaic.TcCoe Idealize.ShloMosaic.ValueIdx Idealize.SL.Sem

/-- The gradient of the norm's result. -/
theorem mix (r : FVec Ideal S8192x1024 .f32) (e : FVec Ideal S8192x2816 .f32) (w : FVec Ideal S1024x2816 .f32) :
    addf r (Host.dotGeneral dot_S8192x2816_S1024x2816_S8192x1024_1_1_0_0_n_n none e w) = ontoT (M := 8192) (K := 2816) (N := 1024) r e w :=
  funext fun i => congrArg (fun s : EReal => r i + s) (host_prodT e w i)

variable (m : (ℓ : Loc nD τ sig) → Buf (Elt Ideal) ℓ)

def x (c : Dev nD) : Mat 8192 1024 := m ((c : Thread nD τ).loc main_arg2)
def g (c : Dev nD) : Fin 1024 → EReal := fun k => (m ((c : Thread nD τ).loc main_arg3) : Vec Ideal S1024 .f32) (ix1 k)
def d (c : Dev nD) : Mat 8192 1024 :=
  ontoT (m ((c : Thread nD τ).loc main_arg5) : Mat 8192 1024) (m ((c : Thread nD τ).loc main_arg0) : Mat 8192 2816)
    (m ((c : Thread nD τ).loc main_arg1) : Mat 1024 2816)

/-- The norm's input's gradient and the residual's. -/
theorem input (c : Dev nD) :
    Value.res_main_v40 m c = inputGrad (x m c) (d m c) (m ((c : Thread nD τ).loc main_arg4) : Mat 8192 1024) (g m c) := by
  unfold Value.res_main_v40
  rw [mix]
  unfold d x g
  generalize ontoT (m ((c : Thread nD τ).loc main_arg5) : Mat 8192 1024) (m ((c : Thread nD τ).loc main_arg0) : Mat 8192 2816)
    (m ((c : Thread nD τ).loc main_arg1) : Mat 1024 2816) = d
  generalize m ((c : Thread nD τ).loc main_arg2) = x
  generalize m ((c : Thread nD τ).loc main_arg3) = g
  generalize m ((c : Thread nD τ).loc main_arg4) = r
  funext i
  obtain ⟨a, b, rfl⟩ : ∃ a b, i = ix2 a b := ⟨_, _, eq_ix2 i⟩
  unfold inputGrad
  rw [grad_eq, add_comm]
  pointwise
  simp only [Fintype.sum_unique]
  rfl

/-- The run, its second result the gain's gradient. -/
theorem run (p : Dev nD → PrngReg) :
    θ_run defs (onTc (τ := τ) (main (F := Ideal))) ⟨m, fun _ => 0, p⟩ fun r => ∀ c : Dev nD,
      r.2.mem ((c : Thread nD τ).loc main_v40) = inputGrad (x m c) (d m c) (m ((c : Thread nD τ).loc main_arg4) : Mat 8192 1024) (g m c)
      ∧ r.2.mem ((c : Thread nD τ).loc main_v41) = gainGrad (x m c) (d m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨(h c).1.trans (input m c), (h c).2.1.trans ?_, (h c).2.2⟩) (Value.run m p)
  clear h
  rw [mix]
  unfold d x
  generalize ontoT (m ((c : Thread nD τ).loc main_arg5) : Mat 8192 1024) (m ((c : Thread nD τ).loc main_arg0) : Mat 8192 2816)
    (m ((c : Thread nD τ).loc main_arg1) : Mat 1024 2816) = d
  generalize m ((c : Thread nD τ).loc main_arg2) = x
  funext i
  obtain ⟨a, b, rfl⟩ : ∃ a b, i = ix2 a b := ⟨_, _, eq_ix2 i⟩
  unfold gainGrad gainPart scale ms line
  pointwise
  simp only [Fintype.sum_unique]
  exact Finset.sum_congr rfl fun k _ => mul_comm _ _

end Cert.Reference10Ideal.Norm
-- ==== Proof.Norm.Results.lean ====
/- The launch of the product's and the norm's gradient and its reference end with the same arrays. -/
module

public import proofs.«01_k».proof.Defs
public import proofs.«01_k».proof.Proof.Gen.Kernel10.Frame
public import proofs.«01_k».proof.Proof.Norm.Whole
public import proofs.«01_k».proof.Proof.Norm.Ref
public import Idealize.ShloMosaic.Adequacy
public import Idealize.ShloMosaic.Init

@[expose] public section

noncomputable section

namespace Cert.Norm

open Idealize.ShloMosaic Idealize.ShloMosaic.TcCoe Idealize.SL.Sem

/-! ## Each runs, ends quiet, and leaves its arguments -/

theorem frame_p10 : Cert.quiescent_Kernel10 (hKernel10 := Cert.Kernel10.Gen.facts) := fun m g _ => Cert.Kernel10.Gen.frame m g
theorem frame_pi10 : Cert.quiescent_Kernel10Ideal (hKernel10Ideal := Cert.Kernel10Ideal.Gen.facts) := fun m g _ => Cert.Kernel10Ideal.Gen.frame m g
theorem frame_ri10 : Cert.quiescent_Reference10Ideal (hReference10Ideal := Cert.Reference10Ideal.Gen.facts) :=
  fun m g _ => (θ_run Cert.Reference10Ideal.defs _ _).mono
    (fun r h => ⟨fun c => (h c).2.2, sem_eq_zero_of_no_sems (by decide) r.2⟩) (Cert.Reference10Ideal.Value.run m g)

/-! ## The results, of any arguments -/

theorem equal10 : Cert.algebraic_Kernel10Ideal_Reference10Ideal (hKernel10Ideal := Cert.Kernel10Ideal.Gen.facts)
    (hReference10Ideal := Cert.Reference10Ideal.Gen.facts) := by
  intro m g m' g' _ hag
  refine ⟨fun c => Cert.Kernel10Ideal.Norm.res6 m c, fun c => Cert.Kernel10Ideal.Norm.res7 m c, ?_, ?_⟩
  · exact (θ_run Cert.Kernel10Ideal.defs _ _).mono
      (fun r h c => ⟨(h c).1.trans (Cert.Kernel10Ideal.Norm.final6 m c), (h c).2.1.trans (Cert.Kernel10Ideal.Norm.final7 m c), (h c).2.2⟩)
      (Cert.Kernel10Ideal.Value.run_blocks m g)
  · refine (θ_run Cert.Reference10Ideal.defs _ _).mono (fun r h c => ?_) (Cert.Reference10Ideal.Norm.run m' g')
    obtain ⟨a0, a1, a2, a3, a4, a5⟩ := hag c
    refine ⟨(h c).1.trans ?_, (h c).2.1.trans ?_, (h c).2.2⟩
    · unfold Cert.Reference10Ideal.Norm.x Cert.Reference10Ideal.Norm.d Cert.Reference10Ideal.Norm.g
      rw [a0, a1, a2, a3, a4, a5]
      rfl
    · unfold Cert.Reference10Ideal.Norm.x Cert.Reference10Ideal.Norm.d
      rw [a0, a1, a2, a5]
      rfl

end Cert.Norm
-- ==== Proof.Norm.QkvPoint.lean ====
/- What a grid point of the odd layer's input's gradient leaves in its two results. -/
module

public import proofs.«01_k».proof.Proof.Gen.Kernel11Ideal.Value
public import Idealize.ShloMosaic.Lib.Pipeline.ValueKit.Basic
public import proofs.«01_k».proof.Proof.Norm.Point

@[expose] public section

set_option maxRecDepth 8192

noncomputable section

namespace Cert.Kernel11Ideal.Norm

open Cert.Kernel11Ideal Cert.Kernel11Ideal.Gen Cert.Gate Cert.Tiles Cert.Norm
open Idealize.ShloMosaic hiding ix2
open Idealize.ShloMosaic.TcCoe Idealize.ShloMosaic.ValueIdx Idealize.SL.Sem

theorem hz : (![0, 0] : Fin 2 → ℕ) = fun _ => 0 := View.eq_zero_of_forall (by decide)

/-! ## The body's terms, by element: the product's is its own, the norm's are `up_dx`'s -/

theorem pay1_apply (x0 x1 : Vec Ideal S1024x1024 .bf16) (a b : Fin 1024) :
    k0_pay1 x0 x1 (ix2 a b) = ∑ k : Fin 1024, x0 (ix2 a k) * x1 (ix2 b k) := by
  show FloatOps.matmul (DotDims.transposedRhs 1024 1024 1024) none
    (shapeCast S1024x1024 x0 shapeCasts_S1024x1024_S1024x1024 : FVec Ideal S1024x1024 .bf16)
    (shapeCast S1024x1024 x1 shapeCasts_S1024x1024_S1024x1024 : FVec Ideal S1024x1024 .bf16) (constant S1024x1024 .f32 0x00000000#32) (ix2 a b) = _
  rw [shapeCast_self, shapeCast_self]
  exact tile_prodT x0 x1 a b

/-- The norm's gradient, and the residual's. -/
theorem pay7_apply (x d r : Vec Ideal S1024x1024 .f32) (g : Vec Ideal S1x1024 .f32) (a b : Fin 1024) :
    k0_pay7 x g d r (ix2 a b) = grad (fun k => x (ix2 a k)) (fun k => d (ix2 a k) * g (ix2 0 k)) b + r (ix2 a b) :=
  Cert.Kernel10Ideal.Norm.pay8_apply x d r g a b

/-- A block's part of the gain's gradient. -/
theorem pay10_apply (x d : Vec Ideal S1024x1024 .f32) (b : Fin 1024) (u : Fin 1) :
    k0_pay10 x d (ix2 u b) = ∑ a : Fin 1024, d (ix2 a b) * (x (ix2 a b) * scale fun k => x (ix2 a k)) :=
  Cert.Kernel10Ideal.Norm.pay11_apply x d b u

/-! ## One point -/

section
variable (c : Dev nD) (i : grid0.Coords) (a2 : Memref sig .tc .vmem S1024x1024 .bf16) (h2 : a2.IsWhole) (a3 : Memref sig .tc .vmem S1024x1024 .bf16)
  (h3 : a3.IsWhole) (a4 : Memref sig .tc .vmem S1024x1024 .f32) (h4 : a4.IsWhole) (a5 : Memref sig .tc .vmem S1x1024 .f32) (h5 : a5.IsWhole)
  (a6 : Memref sig .tc .vmem S1024x1024 .f32) (h6 : a6.IsWhole) (a7 : Memref sig .tc .vmem S1024x1024 .f32) (h7 : a7.IsWhole)
  (a8 : Memref sig .tc .vmem S1x1024 .f32) (h8 : a8.IsWhole)
  (x0 x1 : Vec Ideal S1024x1024 .bf16) (x2 : Vec Ideal S1024x1024 .f32) (x3 : Vec Ideal S1x1024 .f32) (x4 s : Vec Ideal S1024x1024 .f32)
  (z : Vec Ideal S1x1024 .f32)

/-- A block's first point leaves its product. -/
theorem first (hc0 : cond0_0 i) (hc1 : ¬cond0_1 i) (hc2 : ¬cond0_2 i) :
    out0_A_5 c i a2 h2 a3 h3 a4 h4 a5 h5 a6 h6 a7 h7 a8 h8 hc0 hc1 hc2 x0 x1 x2 x3 x4 = k0_pay1 x0 x1 := by
  unfold out0_A_5
  rw [View.read_writes_eq_canon _ _ _ (cover0_A_5 c i a2 h2 a3 h3 a4 h4 a5 h5 a6 h6 a7 h7 a8 h8 hc0 hc1 hc2 x0 x1 x2 x3 x4)]
  unfold kernelRun0_A
  dsimp only
  rw [View.canon_unit_zero hz]
  simp only [View.readAt_eq_ld, h2.read_unread, h3.read_unread, View.ld_unit_zero (S := S1024x1024) hz]

/-- The second adds its own. -/
theorem second (hc0 : ¬cond0_0 i) (hc1 : cond0_1 i) (hc2 : ¬cond0_2 i) :
    out0_B_5 c i a2 h2 a3 h3 a4 h4 a5 h5 a6 h6 a7 h7 a8 h8 hc0 hc1 hc2 x0 x1 x2 x3 x4 s = addf s (k0_pay1 x0 x1) := by
  unfold out0_B_5
  rw [View.read_writes_eq_canon _ _ _ (cover0_B_5 c i a2 h2 a3 h3 a4 h4 a5 h5 a6 h6 a7 h7 a8 h8 hc0 hc1 hc2 x0 x1 x2 x3 x4 s)]
  unfold kernelRun0_B
  dsimp only
  rw [View.canon_unit_zero hz]
  unfold k0_pay2
  simp only [View.readAt_eq_ld, h2.read_unread, h3.read_unread, h7.read_unread, View.ld_unit_zero (S := S1024x1024) hz, shapeCast_self]

/-- The third adds its own and leaves the norm's gradient: the first block's, … -/
theorem third_C (hc0 : ¬cond0_0 i) (hc1 : cond0_1 i) (hc2 : cond0_2 i) (hc3 : cond0_3 i) :
    out0_C_5 c i a2 h2 a3 h3 a4 h4 a5 h5 a6 h6 a7 h7 a8 h8 hc0 hc1 hc2 hc3 x0 x1 x2 x3 x4 s
      = k0_pay7 x2 x3 (addf s (k0_pay1 x0 x1) : FVec Ideal S1024x1024 .f32) x4 := by
  unfold out0_C_5
  rw [View.read_writes_eq_canon _ _ _ (cover0_C_5 c i a2 h2 a3 h3 a4 h4 a5 h5 a6 h6 a7 h7 a8 h8 hc0 hc1 hc2 hc3 x0 x1 x2 x3 x4 s)]
  unfold kernelRun0_C
  dsimp only
  sl_unfold_words
  rw [View.canon_cons_unit_zero (S := S1024x1024) hz, View.readCov_unit_zero (S := S1024x1024) _ hz]
  unfold k0_pay2
  simp only [View.readAt_eq_ld, h2.read_unread, h3.read_unread, h4.read_unread, h5.read_unread, h6.read_unread, h7.read_unread,
    View.ld_unit_zero (S := S1024x1024) hz, View.ld_unit_zero (S := S1x1024) hz, shapeCast_self]

/-- … and the others'. -/
theorem third_D (hc0 : ¬cond0_0 i) (hc1 : cond0_1 i) (hc2 : cond0_2 i) (hc3 : ¬cond0_3 i) :
    out0_D_5 c i a2 h2 a3 h3 a4 h4 a5 h5 a6 h6 a7 h7 a8 h8 hc0 hc1 hc2 hc3 x0 x1 x2 x3 x4 s z
      = k0_pay7 x2 x3 (addf s (k0_pay1 x0 x1) : FVec Ideal S1024x1024 .f32) x4 := by
  unfold out0_D_5
  rw [View.read_writes_eq_canon _ _ _ (cover0_D_5 c i a2 h2 a3 h3 a4 h4 a5 h5 a6 h6 a7 h7 a8 h8 hc0 hc1 hc2 hc3 x0 x1 x2 x3 x4 s z)]
  unfold kernelRun0_D
  dsimp only
  sl_unfold_words
  rw [View.canon_cons_unit_zero (S := S1024x1024) hz, View.readCov_unit_zero (S := S1024x1024) _ hz]
  unfold k0_pay2
  simp only [View.readAt_eq_ld, h2.read_unread, h3.read_unread, h4.read_unread, h5.read_unread, h6.read_unread, h7.read_unread,
    View.ld_unit_zero (S := S1024x1024) hz, View.ld_unit_zero (S := S1x1024) hz, shapeCast_self]

/-- The gain's gradient after the first block: its part. -/
theorem gain_C (hc0 : ¬cond0_0 i) (hc1 : cond0_1 i) (hc2 : cond0_2 i) (hc3 : cond0_3 i) :
    out0_C_6 c i a2 h2 a3 h3 a4 h4 a5 h5 a6 h6 a7 h7 a8 h8 hc0 hc1 hc2 hc3 x0 x1 x2 x3 x4 s
      = addf (k0_pay8 (F := Ideal)) (k0_pay10 x2 (addf s (k0_pay1 x0 x1) : FVec Ideal S1024x1024 .f32)) := by
  unfold out0_C_6
  rw [View.read_writes_eq_canon _ _ _ (cover0_C_6 c i a2 h2 a3 h3 a4 h4 a5 h5 a6 h6 a7 h7 a8 h8 hc0 hc1 hc2 hc3 x0 x1 x2 x3 x4 s)]
  unfold kernelRun0_C
  dsimp only
  sl_unfold_words
  rw [View.canon_cons_unit_zero (S := S1x1024) hz, View.readCov_unit_zero (S := S1024x1024) _ hz, View.readCov_unit_zero (S := S1x1024) _ hz]
  unfold k0_pay3 k0_pay9 k0_pay2
  simp only [View.readAt_eq_ld, h2.read_unread, h3.read_unread, h4.read_unread, h5.read_unread, h6.read_unread, h7.read_unread,
    View.ld_unit_zero (S := S1024x1024) hz, View.ld_unit_zero (S := S1x1024) hz, shapeCast_self]

/-- After the others: what stood there, and the block's part. -/
theorem gain_D (hc0 : ¬cond0_0 i) (hc1 : cond0_1 i) (hc2 : cond0_2 i) (hc3 : ¬cond0_3 i) :
    out0_D_6 c i a2 h2 a3 h3 a4 h4 a5 h5 a6 h6 a7 h7 a8 h8 hc0 hc1 hc2 hc3 x0 x1 x2 x3 x4 s z
      = addf z (k0_pay10 x2 (addf s (k0_pay1 x0 x1) : FVec Ideal S1024x1024 .f32)) := by
  unfold out0_D_6
  rw [View.read_writes_eq_canon _ _ _ (cover0_D_6 c i a2 h2 a3 h3 a4 h4 a5 h5 a6 h6 a7 h7 a8 h8 hc0 hc1 hc2 hc3 x0 x1 x2 x3 x4 s z)]
  unfold kernelRun0_D
  dsimp only
  sl_unfold_words
  rw [View.canon_unit_zero hz, View.readCov_unit_zero (S := S1024x1024) _ hz]
  unfold k0_pay3 k0_pay9 k0_pay2
  simp only [View.readAt_eq_ld, h2.read_unread, h3.read_unread, h4.read_unread, h5.read_unread, h6.read_unread, h7.read_unread, h8.read_unread,
    View.ld_unit_zero (S := S1024x1024) hz, View.ld_unit_zero (S := S1x1024) hz, shapeCast_self]
end

end Cert.Kernel11Ideal.Norm
-- ==== Proof.Norm.QkvWhole.lean ====
/- The launch of the odd layer's input's gradient leaves both results whole. -/
module

public import proofs.«01_k».proof.Proof.Norm.Arrays
public import proofs.«01_k».proof.Proof.Norm.QkvPoint

@[expose] public section

set_option maxRecDepth 8192

noncomputable section

namespace Cert.Kernel11Ideal.Norm

open Cert.Kernel11Ideal Cert.Kernel11Ideal.Gen Cert.Gate Cert.Tiles Cert.Norm Finset
open Idealize.ShloMosaic hiding ix2 ix1 eq_ix2
open Idealize.ShloMosaic.TcCoe Idealize.ShloMosaic.ValueIdx Idealize.SL.Sem

/-! ## Where each window's block lies -/

theorem where0 : ∀ t : Fin cfg0.N, win0_0.index t (0 : Fin 2) = t.val / 3 ∧ win0_0.index t (1 : Fin 2) = t.val % 3 :=
  (by decide +kernel : ∀ t : Fin grid0.N, win0_0.index t (0 : Fin 2) = t.val / 3 ∧ win0_0.index t (1 : Fin 2) = t.val % 3)
theorem where1 : ∀ t : Fin cfg0.N, win0_1.index t (0 : Fin 2) = 0 ∧ win0_1.index t (1 : Fin 2) = t.val % 3 :=
  (by decide +kernel : ∀ t : Fin grid0.N, win0_1.index t (0 : Fin 2) = 0 ∧ win0_1.index t (1 : Fin 2) = t.val % 3)
theorem where2 : ∀ t : Fin cfg0.N, win0_2.index t (0 : Fin 2) = t.val / 3 ∧ win0_2.index t (1 : Fin 2) = 0 :=
  (by decide +kernel : ∀ t : Fin grid0.N, win0_2.index t (0 : Fin 2) = t.val / 3 ∧ win0_2.index t (1 : Fin 2) = 0)
theorem where3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem where4 : ∀ t : Fin cfg0.N, win0_4.index t (0 : Fin 2) = t.val / 3 ∧ win0_4.index t (1 : Fin 2) = 0 :=
  (by decide +kernel : ∀ t : Fin grid0.N, win0_4.index t (0 : Fin 2) = t.val / 3 ∧ win0_4.index t (1 : Fin 2) = 0)
theorem where5 : ∀ t : Fin cfg0.N, win0_5.index t (0 : Fin 2) = t.val / 3 ∧ win0_5.index t (1 : Fin 2) = 0 :=
  (by decide +kernel : ∀ t : Fin grid0.N, win0_5.index t (0 : Fin 2) = t.val / 3 ∧ win0_5.index t (1 : Fin 2) = 0)
theorem where6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- A point's block's row in the result. -/
def row (t : Fin cfg0.N) (a : Fin 1024) : Fin 8192 :=
  ⟨t.val / 3 * 1024 + a.val, by have := a.isLt; have : t.val < 24 := lt_of_lt_of_eq t.isLt N_0; omega⟩

theorem emb5 (t : Fin cfg0.N) (a b : Fin 1024) : ((cfg0.win 5).blk t).view.emb (ix2 a b) = ix2 (row t a) b := by
  obtain ⟨e0, e1⟩ := where5 t
  refine funext (Fin.forall_fin_two.mpr ⟨Fin.ext ?_, Fin.ext ?_⟩)
  · show win0_5.index t (0 : Fin 2) * 1024 + 1 * a.val = t.val / 3 * 1024 + a.val; rw [e0, Nat.one_mul]
  · show win0_5.index t (1 : Fin 2) * 1024 + 1 * b.val = b.val; rw [e1, Nat.one_mul, Nat.zero_mul, Nat.zero_add]
theorem emb6 (t : Fin cfg0.N) (u : Fin 1) (b : Fin 1024) : ((cfg0.win 6).blk t).view.emb (ix2 u b) = ix2 u b := by
  obtain ⟨e0, e1⟩ := where6 t
  refine funext (Fin.forall_fin_two.mpr ⟨Fin.ext ?_, Fin.ext ?_⟩)
  · show win0_6.index t (0 : Fin 2) * 1 + 1 * u.val = u.val; rw [e0, Nat.one_mul, Nat.zero_mul, Nat.zero_add]
  · show win0_6.index t (1 : Fin 2) * 1024 + 1 * b.val = b.val; rw [e1, Nat.one_mul, Nat.zero_mul, Nat.zero_add]

/-- Every element of the first result is one of the block of its last point. -/
theorem covered5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  obtain ⟨s, hs, hr, hc⟩ : ∃ s, s < 24 ∧ s % 3 = 2 ∧ s / 3 = (i 0).val / 1024 := ⟨(i 0).val / 1024 * 3 + 2, by omega, by omega, by omega⟩
  have e : ix2 (row ⟨s, lt_of_lt_of_eq hs N_0.symm⟩ ⟨(i 0).val % 1024, Nat.mod_lt _ (by decide)⟩) (⟨(i 1).val, h1⟩ : Fin 1024) = i := by
    refine funext (Fin.forall_fin_two.mpr ⟨Fin.ext ?_, Fin.ext rfl⟩)
    show s / 3 * 1024 + (i 0).val % 1024 = (i 0).val
    omega
  refine ⟨⟨s, lt_of_lt_of_eq hs N_0.symm⟩, (flush0_5 _).mpr hr, ?_⟩
  rw [← e, ← emb5]
  exact ((cfg0.win 5).blk _).view.emb_mem_set _
/-- Every element of the second, of the last point's. -/
theorem covered6 (i : S1x1024.Idx) : ∃ t : Fin cfg0.N, (cfg0.win 6).flush t = true ∧ i ∈ ((cfg0.win 6).blk t).view.set := by
  obtain ⟨u, b, rfl⟩ : ∃ u b, i = ix2 u b := ⟨_, _, eq_ix2 i⟩
  refine ⟨⟨23, lt_of_lt_of_eq (by decide) N_0.symm⟩, (flush0_6 _).mpr rfl, ?_⟩
  have h := ((cfg0.win 6).blk ⟨23, lt_of_lt_of_eq (by decide) N_0.symm⟩).view.emb_mem_set (ix2 u b)
  rw [emb6] at h
  exact h

/-! ## The blocks each point reads -/

variable (m : (ℓ : Loc nD τ sig) → Buf (Elt Ideal) ℓ) (c : Dev nD)

/-- The launch finds its operands as launched: the narrower format holds the same reals. -/
theorem V_main_v0 : V m c main_v0 = (m ((c : Thread nD τ).loc main_arg0) : Mat 8192 3072) := by
  unfold V
  simp only [hostOps0]
  after_results_simp
  rfl
theorem V_main_v1 : V m c main_v1 = (m ((c : Thread nD τ).loc main_arg1) : Mat 1024 3072) := by
  unfold V
  simp only [hostOps0]
  after_results_simp
  rfl
/-- The gain, as a row. -/
theorem V_main_v2 : V m c main_v2 = (shapeCast S1x1024 (m ((c : Thread nD τ).loc main_arg3) : Vec Ideal S1024 .f32) shapeCasts_S1024_S1x1024) := by
  unfold V
  simp only [hostOps0]
  after_results_simp
  rfl

/-- The norm's input. -/
def x : Mat 8192 1024 := m ((c : Thread nD τ).loc main_arg2)
/-- Its gain. -/
def g : Fin 1024 → EReal := fun k => (m ((c : Thread nD τ).loc main_arg3) : Vec Ideal S1024 .f32) (ix1 k)
/-- The gradient of the norm's result. -/
def d : Mat 8192 1024 :=
  prodT (m ((c : Thread nD τ).loc main_arg0) : Mat 8192 3072) (m ((c : Thread nD τ).loc main_arg1) : Mat 1024 3072)

theorem iblk0 (t : Fin cfg0.N) (a : Fin 1024) (k : Fin 1024) :
    iblk m c 0 t (ix2 a k) = el (m ((c : Thread nD τ).loc main_arg0) : Mat 8192 3072) (t.val / 3 * 1024 + a.val) (t.val % 3 * 1024 + k.val) := by
  obtain ⟨e0, e1⟩ := where0 t
  refine (congrFun (V_main_v0 m c) _).trans (el_of _ _ ?_ ?_)
  · show win0_0.index t (0 : Fin 2) * 1024 + 1 * a.val = _; rw [e0, Nat.one_mul]
  · show win0_0.index t (1 : Fin 2) * 1024 + 1 * k.val = _; rw [e1, Nat.one_mul]
theorem iblk1 (t : Fin cfg0.N) (b : Fin 1024) (k : Fin 1024) :
    iblk m c 1 t (ix2 b k) = el (m ((c : Thread nD τ).loc main_arg1) : Mat 1024 3072) b.val (t.val % 3 * 1024 + k.val) := by
  obtain ⟨e0, e1⟩ := where1 t
  refine (congrFun (V_main_v1 m c) _).trans (el_of _ _ ?_ ?_)
  · show win0_1.index t (0 : Fin 2) * 1024 + 1 * b.val = _; rw [e0, Nat.one_mul, Nat.zero_mul, Nat.zero_add]
  · show win0_1.index t (1 : Fin 2) * 1024 + 1 * k.val = _; rw [e1, Nat.one_mul]
theorem iblk2 (t : Fin cfg0.N) (a b : Fin 1024) : iblk m c 2 t (ix2 a b) = x m c (ix2 (row t a) b) := by
  obtain ⟨e0, e1⟩ := where2 t
  refine (congrFun (V_main_arg2 m c) _).trans (congrArg (x m c) (funext (Fin.forall_fin_two.mpr ⟨Fin.ext ?_, Fin.ext ?_⟩)))
  · show win0_2.index t (0 : Fin 2) * 1024 + 1 * a.val = _; rw [e0, Nat.one_mul]; rfl
  · show win0_2.index t (1 : Fin 2) * 1024 + 1 * b.val = b.val; rw [e1, Nat.one_mul, Nat.zero_mul, Nat.zero_add]
theorem iblk3 (t : Fin cfg0.N) (b : Fin 1024) : iblk m c 3 t (ix2 0 b) = g m c b := by
  obtain ⟨e0, e1⟩ := where3 t
  have e : ((cfg0.win 3).blk t).view.emb (ix2 (0 : Fin 1) b) = ix2 (0 : Fin 1) b := by
    refine funext (Fin.forall_fin_two.mpr ⟨Fin.ext ?_, Fin.ext ?_⟩)
    · show win0_3.index t (0 : Fin 2) * 1 + 1 * 0 = 0; rw [e0]
    · show win0_3.index t (1 : Fin 2) * 1024 + 1 * b.val = b.val; rw [e1, Nat.one_mul, Nat.zero_mul, Nat.zero_add]
  refine (congrFun (V_main_v2 m c) _).trans ?_
  rw [e]
  exact shapeCast_a_1a_apply _ _ 0 b
theorem iblk4 (t : Fin cfg0.N) (a b : Fin 1024) :
    iblk m c 4 t (ix2 a b) = (m ((c : Thread nD τ).loc main_arg4) : Mat 8192 1024) (ix2 (row t a) b) := by
  obtain ⟨e0, e1⟩ := where4 t
  refine (congrFun (V_main_arg4 m c) _).trans (congrArg (m ((c : Thread nD τ).loc main_arg4) : Mat 8192 1024)
    (funext (Fin.forall_fin_two.mpr ⟨Fin.ext ?_, Fin.ext ?_⟩)))
  · show win0_4.index t (0 : Fin 2) * 1024 + 1 * a.val = _; rw [e0, Nat.one_mul]; rfl
  · show win0_4.index t (1 : Fin 2) * 1024 + 1 * b.val = b.val; rw [e1, Nat.one_mul, Nat.zero_mul, Nat.zero_add]

/-! ## The norm's result's gradient -/

/-- The terms of a block's sum, at an element of it. -/
def term (p a b k : ℕ) : EReal :=
  el (m ((c : Thread nD τ).loc main_arg0) : Mat 8192 3072) (p * 1024 + a) k * el (m ((c : Thread nD τ).loc main_arg1) : Mat 1024 3072) b k

/-- A point's product is its terms. -/
theorem point (t : Fin cfg0.N) (a b : Fin 1024) :
    k0_pay1 (iblk m c 0 t) (iblk m c 1 t) (ix2 a b) = ∑ k ∈ range 1024, term m c (t.val / 3) a b (t.val % 3 * 1024 + k) := by
  rw [Finset.sum_range]
  exact (pay1_apply (iblk m c 0 t) (iblk m c 1 t) a b).trans
    (Finset.sum_congr rfl fun k _ => congrArg₂ (· * ·) (iblk0 m c t a k) (iblk1 m c t b k))

/-- What a later point adds up: what the one before left, and its product. -/
def total (t : Fin cfg0.N) : FVec Ideal S1024x1024 .f32 :=
  addf (outsAt0 m c (t.val - 1) (Nat.lt_of_le_of_lt (Nat.sub_le _ _) t.isLt)).1 (k0_pay1 (iblk m c 0 t) (iblk m c 1 t))

/-- It is the terms so far, if what the one before left is the terms up to there. -/
theorem total_of (t : Fin cfg0.N) (h : ¬t.val % 3 = 0) (a b : Fin 1024)
    (hp : (outsAt0 m c (t.val - 1) (Nat.lt_of_le_of_lt (Nat.sub_le _ _) t.isLt)).1 (ix2 a b)
      = ∑ k ∈ range (((t.val - 1) % 3 + 1) * 1024), term m c ((t.val - 1) / 3) a b k) :
    total m c t (ix2 a b) = ∑ k ∈ range ((t.val % 3 + 1) * 1024), term m c (t.val / 3) a b k := by
  rw [Nat.add_mul, Nat.one_mul, Finset.sum_range_add, ← point m c t a b]
  rw [show (t.val - 1) % 3 + 1 = t.val % 3 by omega, show (t.val - 1) / 3 = t.val / 3 by omega] at hp
  exact congrArg (· + k0_pay1 (iblk m c 0 t) (iblk m c 1 t) (ix2 a b)) hp

/-- A block's first two points leave the terms so far. -/
theorem left (t : Fin cfg0.N) (h0 : t.val % 3 = 0) (a b : Fin 1024) :
    (outsAt0 m c t.val t.isLt).1 (ix2 a b) = ∑ k ∈ range ((t.val % 3 + 1) * 1024), term m c (t.val / 3) a b k := by
  rw [outsAt0_A m c t h0 (by omega) (by omega)]
  dsimp only
  rw [first, point m c t a b, h0]
  simp only [Nat.zero_mul, Nat.zero_add, Nat.one_mul]
theorem left_second (t : Fin cfg0.N) (h1 : t.val % 3 = 1) (a b : Fin 1024) :
    (outsAt0 m c t.val t.isLt).1 (ix2 a b) = ∑ k ∈ range ((t.val % 3 + 1) * 1024), term m c (t.val / 3) a b k := by
  rw [outsAt0_B m c t (by omega) (by omega) (by omega)]
  dsimp only
  rw [second]
  exact total_of m c t (by omega) a b (left m c ⟨t.val - 1, Nat.lt_of_le_of_lt (Nat.sub_le _ _) t.isLt⟩ (by dsimp only; omega) a b)

/-- The third's total is the gradient's block. -/
theorem total_apply (t : Fin cfg0.N) (h2 : t.val % 3 = 2) (a b : Fin 1024) : total m c t (ix2 a b) = d m c (ix2 (row t a) b) := by
  rw [total_of m c t (by omega) a b (left_second m c ⟨t.val - 1, Nat.lt_of_le_of_lt (Nat.sub_le _ _) t.isLt⟩ (by dsimp only; omega) a b), h2]
  unfold d
  rw [prodT_el]
  exact Finset.sum_congr (congrArg range (by norm_num)) fun k _ => rfl

/-! ## The input's gradient -/

/-- The gradient the launch leaves. -/
def res5 : Mat 8192 1024 := inputGrad (x m c) (d m c) (m ((c : Thread nD τ).loc main_arg4) : Mat 8192 1024) (g m c)

theorem stored (t : Fin cfg0.N) (h2 : t.val % 3 = 2) :
    (outsAt0 m c t.val t.isLt).1 = k0_pay7 (iblk m c 2 t) (iblk m c 3 t) (total m c t) (iblk m c 4 t) := by
  by_cases h3 : t.val < 3
  · rw [outsAt0_C m c t (by omega) (by omega) h2 h3]
    dsimp only
    rw [third_C]
    rfl
  · rw [outsAt0_D m c t (by omega) (by omega) h2 h3]
    dsimp only
    rw [third_D]
    rfl

/-- A block's third point leaves its elements. -/
theorem block5 (t : Fin cfg0.N) (h2 : t.val % 3 = 2) (a b : Fin 1024) : (outsAt0 m c t.val t.isLt).1 (ix2 a b) = res5 m c (ix2 (row t a) b) := by
  rw [stored m c t h2]
  refine (pay7_apply (iblk m c 2 t) (total m c t) (iblk m c 4 t) (iblk m c 3 t) a b).trans ?_
  refine congrArg₂ (· + ·) (congrArg₂ (fun p q => grad p q b) (funext fun k => iblk2 m c t a k) (funext fun k => ?_)) (iblk4 m c t a b)
  exact congrArg₂ (· * ·) (total_apply m c t h2 a k) (iblk3 m c t k)

/-- A block's elements are an array's, read through the window. -/
theorem through5 (t : Fin cfg0.N) (o : Vec Ideal S1024x1024 .f32) (r : Vec Ideal S8192x1024 .f32)
    (h : ∀ a b : Fin 1024, o (ix2 a b) = r (ix2 (row t a) b)) :
    (cfg0.win 5).cut (grid0.coords t) o = ((cfg0.win 5).blk t).view.read (Elt Ideal) r := by
  funext j
  obtain ⟨a, b, rfl⟩ : ∃ a b, j = ix2 a b := ⟨_, _, eq_ix2 j⟩
  show o (ix2 a b) = r (((cfg0.win 5).blk t).view.emb (ix2 a b))
  rw [emb5]
  exact h a b

theorem final5 : (dats m 0 c).arrAt 5 cfg0.N = res5 m c :=
  (dats m 0 c).arrAt_eq_of_cover 5 (res5 m c)
    (fun t hf => (Value.flushed5 m c t).trans (through5 t _ (res5 m c) (block5 m c t ((flush0_5 t).mp hf)))) covered5

/-! ## The gain's gradient -/

/-- The gradient the launch leaves. -/
def res6 : Mat 1 1024 := gainGrad (x m c) (d m c)

/-- A block's part. -/
theorem part (t : Fin cfg0.N) (h2 : t.val % 3 = 2) (u : Fin 1) (b : Fin 1024) :
    k0_pay10 (iblk m c 2 t) (total m c t) (ix2 u b) = ∑ k ∈ range 1024, el (gainPart (x m c) (d m c)) (t.val / 3 * 1024 + k) b := by
  rw [Finset.sum_range]
  refine (pay10_apply (iblk m c 2 t) (total m c t) b u).trans (Finset.sum_congr rfl fun a _ => ?_)
  rw [total_apply m c t h2, show (fun k => iblk m c 2 t (ix2 a k)) = line (x m c) (row t a) from funext fun k => iblk2 m c t a k, iblk2]
  exact (el_ix2 (gainPart (x m c) (d m c)) (row t a) b).symm

/-- After each point but the first two stand the parts of the blocks so far. -/
theorem gain (n : ℕ) : ∀ h : n < cfg0.N, 2 ≤ n → ∀ (u : Fin 1) (b : Fin 1024),
    (outsAt0 m c n h).2 (ix2 u b) = ∑ k ∈ range ((n + 1) / 3 * 1024), el (gainPart (x m c) (d m c)) k b := by
  induction n with
  | zero => exact fun _ h1 => absurd h1 (by decide)
  | succ n ih =>
    intro h _ u b
    by_cases h2 : (n + 1) % 3 = 2
    · have hd : (n + 1 + 1) / 3 * 1024 = (n + 1) / 3 * 1024 + 1024 := by omega
      rw [hd, Finset.sum_range_add, ← part m c ⟨n + 1, h⟩ h2 u b]
      by_cases h3 : n + 1 < 3
      · rw [outsAt0_C m c ⟨n + 1, h⟩ (by dsimp only; omega) (by dsimp only; omega) h2 h3]
        dsimp only
        rw [gain_C]
        refine congrArg₂ (· + ·) ?_ rfl
        rw [show (n + 1) / 3 * 1024 = 0 by omega, Finset.range_zero, Finset.sum_empty]
        exact Ideal.ofBits_zero_f32
      · rw [outsAt0_D m c ⟨n + 1, h⟩ (by dsimp only; omega) (by dsimp only; omega) h2 h3]
        dsimp only
        rw [gain_D]
        exact congrArg₂ (· + ·) (ih _ (by omega) u b) rfl
    · rw [show (n + 1 + 1) / 3 = (n + 1) / 3 by omega]
      by_cases h0 : (n + 1) % 3 = 0
      · rw [outsAt0_A m c ⟨n + 1, h⟩ h0 (by dsimp only; omega) h2]
        dsimp only
        unfold out0_A_6
        exact ih _ (by omega) u b
      · rw [outsAt0_B m c ⟨n + 1, h⟩ h0 (by dsimp only; omega) h2]
        dsimp only
        unfold out0_B_6
        exact ih _ (by omega) u b

/-- The last point leaves its elements. -/
theorem block6 (t : Fin cfg0.N) (h : t.val % 24 = 23) (u : Fin 1) (b : Fin 1024) : (outsAt0 m c t.val t.isLt).2 (ix2 u b) = res6 m c (ix2 u b) := by
  have ht : t.val < 24 := lt_of_lt_of_eq t.isLt N_0
  rw [gain m c t.val t.isLt (by omega) u b, show (t.val + 1) / 3 * 1024 = 8192 by omega]
  exact (gainGrad_el (x m c) (d m c) u b).symm

theorem through6 (t : Fin cfg0.N) (o r : Vec Ideal S1x1024 .f32) (h : ∀ (u : Fin 1) (b : Fin 1024), o (ix2 u b) = r (ix2 u b)) :
    (cfg0.win 6).cut (grid0.coords t) o = ((cfg0.win 6).blk t).view.read (Elt Ideal) r := by
  funext j
  obtain ⟨u, b, rfl⟩ : ∃ u b, j = ix2 u b := ⟨_, _, eq_ix2 j⟩
  show o (ix2 u b) = r (((cfg0.win 6).blk t).view.emb (ix2 u b))
  rw [emb6]
  exact h u b

theorem final6 : (dats m 0 c).arrAt 6 cfg0.N = res6 m c :=
  (dats m 0 c).arrAt_eq_of_cover 6 (res6 m c)
    (fun t hf => (Value.flushed6 m c t).trans (through6 t _ (res6 m c) (block6 m c t ((flush0_6 t).mp hf)))) covered6

end Cert.Kernel11Ideal.Norm
-- ==== Proof.Norm.QkvRef.lean ====
/- The reference's gradients of the odd layer's input are the same arrays. -/
module

public import proofs.«01_k».proof.Proof.Gen.Reference11Ideal.Run
public import Idealize.ShloMosaic.Lib.Pointwise
public import proofs.«01_k».proof.Proof.Norm.Arrays

@[expose] public section

noncomputable section

namespace Cert.Reference11Ideal.Norm

open Cert.Reference11Ideal Cert.Reference11Ideal.Gen Cert.Gate Cert.Tiles Cert.Norm
open Idealize.ShloMosaic hiding ix2 ix1 eq_ix2
open Idealize.ShloMosaic.TcCoe Idealize.ShloMosaic.ValueIdx Idealize.SL.Sem

/-- The gradient of the norm's result. -/
theorem mix (e : FVec Ideal S8192x3072 .f32) (w : FVec Ideal S1024x3072 .f32) :
    Host.dotGeneral dot_S8192x3072_S1024x3072_S8192x1024_1_1_0_0_n_n none e w = prodT (M := 8192) (K := 3072) (N := 1024) e w :=
  funext fun i => host_prodT e w i

variable (m : (ℓ : Loc nD τ sig) → Buf (Elt Ideal) ℓ)

def x (c : Dev nD) : Mat 8192 1024 := m ((c : Thread nD τ).loc main_arg2)
def g (c : Dev nD) : Fin 1024 → EReal := fun k => (m ((c : Thread nD τ).loc main_arg3) : Vec Ideal S1024 .f32) (ix1 k)
def d (c : Dev nD) : Mat 8192 1024 :=
  prodT (m ((c : Thread nD τ).loc main_arg0) : Mat 8192 3072) (m ((c : Thread nD τ).loc main_arg1) : Mat 1024 3072)

/-- The norm's input's gradient and the residual's. -/
theorem input (c : Dev nD) :
    Value.res_main_v39 m c = inputGrad (x m c) (d m c) (m ((c : Thread nD τ).loc main_arg4) : Mat 8192 1024) (g m c) := by
  unfold Value.res_main_v39
  rw [mix]
  unfold d x g
  generalize prodT (m ((c : Thread nD τ).loc main_arg0) : Mat 8192 3072) (m ((c : Thread nD τ).loc main_arg1) : Mat 1024 3072) = d
  generalize m ((c : Thread nD τ).loc main_arg2) = x
  generalize m ((c : Thread nD τ).loc main_arg3) = g
  generalize m ((c : Thread nD τ).loc main_arg4) = r
  funext i
  obtain ⟨a, b, rfl⟩ : ∃ a b, i = ix2 a b := ⟨_, _, eq_ix2 i⟩
  unfold inputGrad
  rw [grad_eq, add_comm]
  pointwise
  simp only [Fintype.sum_unique]
  rfl

/-- The run, its second result the gain's gradient. -/
theorem run (p : Dev nD → PrngReg) :
    θ_run defs (onTc (τ := τ) (main (F := Ideal))) ⟨m, fun _ => 0, p⟩ fun r => ∀ c : Dev nD,
      r.2.mem ((c : Thread nD τ).loc main_v39) = inputGrad (x m c) (d m c) (m ((c : Thread nD τ).loc main_arg4) : Mat 8192 1024) (g m c)
      ∧ r.2.mem ((c : Thread nD τ).loc main_v40) = gainGrad (x m c) (d m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨(h c).1.trans (input m c), (h c).2.1.trans ?_, (h c).2.2⟩) (Value.run m p)
  clear h
  rw [mix]
  unfold d x
  generalize prodT (m ((c : Thread nD τ).loc main_arg0) : Mat 8192 3072) (m ((c : Thread nD τ).loc main_arg1) : Mat 1024 3072) = d
  generalize m ((c : Thread nD τ).loc main_arg2) = x
  funext i
  obtain ⟨a, b, rfl⟩ : ∃ a b, i = ix2 a b := ⟨_, _, eq_ix2 i⟩
  unfold gainGrad gainPart scale ms line
  pointwise
  simp only [Fintype.sum_unique]
  exact Finset.sum_congr rfl fun k _ => mul_comm _ _

end Cert.Reference11Ideal.Norm
-- ==== Proof.Norm.QkvResults.lean ====
/- The launch of the odd layer's input's gradient and its reference end with the same arrays. -/
module

public import proofs.«01_k».proof.Defs
public import proofs.«01_k».proof.Proof.Gen.Kernel11.Frame
public import proofs.«01_k».proof.Proof.Norm.QkvWhole
public import proofs.«01_k».proof.Proof.Norm.QkvRef
public import Idealize.ShloMosaic.Adequacy
public import Idealize.ShloMosaic.Init

@[expose] public section

noncomputable section

namespace Cert.Norm

open Idealize.ShloMosaic Idealize.ShloMosaic.TcCoe Idealize.SL.Sem

/-! ## Each runs, ends quiet, and leaves its arguments -/

theorem frame_p11 : Cert.quiescent_Kernel11 (hKernel11 := Cert.Kernel11.Gen.facts) := fun m g _ => Cert.Kernel11.Gen.frame m g
theorem frame_pi11 : Cert.quiescent_Kernel11Ideal (hKernel11Ideal := Cert.Kernel11Ideal.Gen.facts) := fun m g _ => Cert.Kernel11Ideal.Gen.frame m g
theorem frame_ri11 : Cert.quiescent_Reference11Ideal (hReference11Ideal := Cert.Reference11Ideal.Gen.facts) :=
  fun m g _ => (θ_run Cert.Reference11Ideal.defs _ _).mono
    (fun r h => ⟨fun c => (h c).2.2, sem_eq_zero_of_no_sems (by decide) r.2⟩) (Cert.Reference11Ideal.Value.run m g)

/-! ## The results, of any arguments -/

theorem equal11 : Cert.algebraic_Kernel11Ideal_Reference11Ideal (hKernel11Ideal := Cert.Kernel11Ideal.Gen.facts)
    (hReference11Ideal := Cert.Reference11Ideal.Gen.facts) := by
  intro m g m' g' _ hag
  refine ⟨fun c => Cert.Kernel11Ideal.Norm.res5 m c, fun c => Cert.Kernel11Ideal.Norm.res6 m c, ?_, ?_⟩
  · exact (θ_run Cert.Kernel11Ideal.defs _ _).mono
      (fun r h c => ⟨(h c).1.trans (Cert.Kernel11Ideal.Norm.final5 m c), (h c).2.1.trans (Cert.Kernel11Ideal.Norm.final6 m c), (h c).2.2⟩)
      (Cert.Kernel11Ideal.Value.run_blocks m g)
  · refine (θ_run Cert.Reference11Ideal.defs _ _).mono (fun r h c => ?_) (Cert.Reference11Ideal.Norm.run m' g')
    obtain ⟨a0, a1, a2, a3, a4⟩ := hag c
    refine ⟨(h c).1.trans ?_, (h c).2.1.trans ?_, (h c).2.2⟩
    · unfold Cert.Reference11Ideal.Norm.x Cert.Reference11Ideal.Norm.d Cert.Reference11Ideal.Norm.g
      rw [a0, a1, a2, a3, a4]
      rfl
    · unfold Cert.Reference11Ideal.Norm.x Cert.Reference11Ideal.Norm.d
      rw [a0, a1, a2]
      rfl

end Cert.Norm
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Dil.Finite
public import proofs.«01_k».proof.Proof.Dil.Results
public import proofs.«01_k».proof.Proof.Dil.Same
public import proofs.«01_k».proof.Proof.Gate.Results
public import proofs.«01_k».proof.Proof.Tiles.Results
public import proofs.«01_k».proof.Proof.Norm.Results
public import proofs.«01_k».proof.Proof.Norm.QkvResults

public import Idealize.ShloMosaic.Adequacy
public import Idealize.ShloMosaic.Init

@[expose] public section

noncomputable section

namespace Cert.Proof

open Idealize.ShloMosaic Idealize.SL.Sem

theorem frame_p : Cert.quiescent_Kernel (hKernel := Cert.Kernel.Gen.facts) := Cert.KernelIdeal.Dil.frame_kernel

theorem frame_pi : Cert.quiescent_KernelIdeal (hKernelIdeal := Cert.KernelIdeal.Gen.facts) :=
  fun m g _ => Cert.KernelIdeal.Dil.frame_run m g

theorem frame_pi_finite : Cert.quiescent_KernelIdeal_pre_finite (hKernelIdeal := Cert.KernelIdeal.Gen.facts)
    (hPre_finite := Cert.KernelIdeal.Dil.pre_facts) :=
  fun m g _ => Cert.KernelIdeal.Dil.frame_run m g

/-- The reference declares no semaphore. -/
theorem frame_ri : Cert.quiescent_ReferenceIdeal (hReferenceIdeal := Cert.ReferenceIdeal.Gen.facts) :=
  fun m g _ => (θ_run Cert.ReferenceIdeal.defs _ _).mono
    (fun r h => ⟨fun c => (h c).2.2.2, sem_eq_zero_of_no_sems (by decide) r.2⟩) (Cert.ReferenceIdeal.Value.run m g)

theorem frame_ri_finite : Cert.quiescent_ReferenceIdeal_pre_finite (hReferenceIdeal := Cert.ReferenceIdeal.Gen.facts)
    (hPre_finite := Cert.KernelIdeal.Dil.pre_facts) :=
  fun m g _ => frame_ri m g trivial

/-- Both programs leave the gradients of the reals their arguments hold. -/
theorem equal : Cert.algebraic_KernelIdeal_ReferenceIdeal_pre_finite (hKernelIdeal := Cert.KernelIdeal.Gen.facts)
    (hReferenceIdeal := Cert.ReferenceIdeal.Gen.facts) (hPre_finite := Cert.KernelIdeal.Dil.pre_facts) := by
  intro m g m' g' hpre hag
  have H : ∀ c, ∃ A, Cert.KernelIdeal.Dil.ArgsCoe m A c := fun c =>
    ⟨_, @Cert.KernelIdeal.Dil.coe_of_pre Cert.KernelIdeal.Dil.pre_facts _ _ _ _ _ (hpre c)⟩
  choose A HA using H
  refine ⟨fun c => Cert.KernelIdeal.Dil.gradQ (A c), fun c => Cert.KernelIdeal.Dil.gradK (A c), fun c => Cert.KernelIdeal.Dil.gradV (A c), ?_, ?_⟩
  · exact (θ_run Cert.KernelIdeal.defs _ _).mono
      (fun r h c => ⟨(h.1 c).1, (h.1 c).2.1, (h.1 c).2.2, h.2.1 c⟩)
      (θ_run_and (Cert.KernelIdeal.Dil.run_grads m g A HA) (Cert.KernelIdeal.Dil.frame_run m g))
  · refine Cert.KernelIdeal.Dil.ref_run_grads m' g' A fun c => ?_
    obtain ⟨h0, h1, h2, h3, h4⟩ := hag c
    rw [h0, h1, h2, h3, h4]
    exact HA c

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.KernelIdeal.Dil.pre_facts, Cert.Gate.pre_facts2,
    frame_p, frame_pi, frame_pi_finite, frame_ri, frame_ri_finite,
    Cert.Gate.frame_p2, Cert.Gate.frame_pi2, Cert.Gate.frame_pi2_finite, Cert.Gate.frame_ri2, Cert.Gate.frame_ri2_finite,
    Cert.Gate.frame_p3, Cert.Gate.frame_pi3, Cert.Gate.frame_ri3,
    Cert.Tiles.frame_p4, Cert.Tiles.frame_pi4, Cert.Tiles.frame_ri4,
    Cert.Tiles.frame_p5, Cert.Tiles.frame_pi5, Cert.Tiles.frame_ri5,
    Cert.Tiles.frame_p6, Cert.Tiles.frame_pi6, Cert.Tiles.frame_ri6,
    Cert.Tiles.frame_p7, Cert.Tiles.frame_pi7, Cert.Tiles.frame_ri7,
    Cert.Tiles.frame_p8, Cert.Tiles.frame_pi8, Cert.Tiles.frame_ri8,
    Cert.Tiles.frame_p9, Cert.Tiles.frame_pi9, Cert.Tiles.frame_ri9,
    Cert.Norm.frame_p10, Cert.Norm.frame_pi10, Cert.Norm.frame_ri10,
    Cert.Norm.frame_p11, Cert.Norm.frame_pi11, Cert.Norm.frame_ri11,
    trivial, equal, trivial, Cert.Gate.equal2, trivial, Cert.Gate.equal3,
    trivial, Cert.Tiles.equal4, trivial, Cert.Tiles.equal5, trivial, Cert.Tiles.equal6, trivial, Cert.Tiles.equal7,
    trivial, Cert.Tiles.equal8, trivial, Cert.Tiles.equal9, trivial, Cert.Norm.equal10,
    trivial, Cert.Norm.equal11⟩

end Cert.Proof

end
